-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_q_k [hPre_finite_q_k : Cert.Pre_finite_q_k.Facts] (m : (ℓ : Loc Cert.AttnIdeal.nD Cert.AttnIdeal.τ Cert.AttnIdeal.sig) → Buf (Elt Ideal) ℓ) : Prop :=
  ∀ c : Dev Cert.AttnIdeal.nD,
    (Cert.Pre_finite_q_k.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_q_k.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_q_k [hPre_finite_q_k : Cert.Pre_finite_q_k.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_q_k.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_q_k.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_q_k [hAttnIdeal : Cert.AttnIdeal.Facts] [hPre_finite_q_k : Cert.Pre_finite_q_k.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_q_k m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_q_k [hAttnRefIdeal : Cert.AttnRefIdeal.Facts] [hPre_finite_q_k : Cert.Pre_finite_q_k.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_q_k m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6)
      ∧ r.2.mem ((c.tc : Thread Cert.Even.nD Cert.Even.τ).loc Cert.Even.main_arg7) = m ((c.tc : Thread Cert.Even.nD Cert.Even.τ).loc Cert.Even.main_arg7)
      ∧ r.2.mem ((c.tc : Thread Cert.Even.nD Cert.Even.τ).loc Cert.Even.main_arg8) = m ((c.tc : Thread Cert.Even.nD Cert.Even.τ).loc Cert.Even.main_arg8)
      ∧ r.2.mem ((c.tc : Thread Cert.Even.nD Cert.Even.τ).loc Cert.Even.main_arg9) = m ((c.tc : Thread Cert.Even.nD Cert.Even.τ).loc Cert.Even.main_arg9)
      ∧ r.2.mem ((c.tc : Thread Cert.Even.nD Cert.Even.τ).loc Cert.Even.main_arg10) = m ((c.tc : Thread Cert.Even.nD Cert.Even.τ).loc Cert.Even.main_arg10)
      ∧ r.2.mem ((c.tc : Thread Cert.Even.nD Cert.Even.τ).loc Cert.Even.main_arg11) = m ((c.tc : Thread Cert.Even.nD Cert.Even.τ).loc Cert.Even.main_arg11))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
      ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
      ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9)
      ∧ r.2.mem ((c.tc : Thread Cert.EvenIdeal.nD Cert.EvenIdeal.τ).loc Cert.EvenIdeal.main_arg10) = m ((c.tc : Thread Cert.EvenIdeal.nD Cert.EvenIdeal.τ).loc Cert.EvenIdeal.main_arg10)
      ∧ r.2.mem ((c.tc : Thread Cert.EvenIdeal.nD Cert.EvenIdeal.τ).loc Cert.EvenIdeal.main_arg11) = m ((c.tc : Thread Cert.EvenIdeal.nD Cert.EvenIdeal.τ).loc Cert.EvenIdeal.main_arg11))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8)
      ∧ r.2.mem ((c.tc : Thread Cert.EvenRefIdeal.nD Cert.EvenRefIdeal.τ).loc Cert.EvenRefIdeal.main_arg9) = m ((c.tc : Thread Cert.EvenRefIdeal.nD Cert.EvenRefIdeal.τ).loc Cert.EvenRefIdeal.main_arg9)
      ∧ r.2.mem ((c.tc : Thread Cert.EvenRefIdeal.nD Cert.EvenRefIdeal.τ).loc Cert.EvenRefIdeal.main_arg10) = m ((c.tc : Thread Cert.EvenRefIdeal.nD Cert.EvenRefIdeal.τ).loc Cert.EvenRefIdeal.main_arg10)
      ∧ r.2.mem ((c.tc : Thread Cert.EvenRefIdeal.nD Cert.EvenRefIdeal.τ).loc Cert.EvenRefIdeal.main_arg11) = m ((c.tc : Thread Cert.EvenRefIdeal.nD Cert.EvenRefIdeal.τ).loc Cert.EvenRefIdeal.main_arg11))
      ∧ r.2.sem = fun _ => 0)

def preserves_Attn_AttnIdeal : Prop :=
  True

def algebraic_AttnIdeal_AttnRefIdeal_pre_finite_q_k [hAttnIdeal : Cert.AttnIdeal.Facts] [hAttnRefIdeal : Cert.AttnRefIdeal.Facts] [hPre_finite_q_k : Cert.Pre_finite_q_k.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_q_k m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v51) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v21) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v81) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)
      ∧ m' ((c.tc : Thread Cert.OddRefIdeal.nD Cert.OddRefIdeal.τ).loc Cert.OddRefIdeal.main_arg7) = m ((c.tc : Thread Cert.OddIdeal.nD Cert.OddIdeal.τ).loc Cert.OddIdeal.main_arg7)) →
    ∃ (v0 : (c : Dev Cert.OddIdeal.nD) → Buf (Elt Ideal) ((c.tc : Thread Cert.OddIdeal.nD Cert.OddIdeal.τ).loc Cert.OddIdeal.main_v5_0)) (v1 : (c : Dev Cert.OddIdeal.nD) → Buf (Elt Ideal) ((c.tc : Thread Cert.OddIdeal.nD Cert.OddIdeal.τ).loc Cert.OddIdeal.main_v5_1)) (v2 : (c : Dev Cert.OddIdeal.nD) → Buf (Elt Ideal) ((c.tc : Thread Cert.OddIdeal.nD Cert.OddIdeal.τ).loc Cert.OddIdeal.main_v5_2)) (v3 : (c : Dev Cert.OddIdeal.nD) → Buf (Elt Ideal) ((c.tc : Thread Cert.OddIdeal.nD Cert.OddIdeal.τ).loc Cert.OddIdeal.main_v5_3)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v5_0) = v0 c
          ∧ r.2.mem ((c.tc : Thread Cert.OddIdeal.nD Cert.OddIdeal.τ).loc Cert.OddIdeal.main_v5_1) = v1 c
          ∧ r.2.mem ((c.tc : Thread Cert.OddIdeal.nD Cert.OddIdeal.τ).loc Cert.OddIdeal.main_v5_2) = v2 c
          ∧ r.2.mem ((c.tc : Thread Cert.OddIdeal.nD Cert.OddIdeal.τ).loc Cert.OddIdeal.main_v5_3) = v3 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v110) = v0 c
          ∧ r.2.mem ((c.tc : Thread Cert.OddRefIdeal.nD Cert.OddRefIdeal.τ).loc Cert.OddRefIdeal.main_v113) = v1 c
          ∧ r.2.mem ((c.tc : Thread Cert.OddRefIdeal.nD Cert.OddRefIdeal.τ).loc Cert.OddRefIdeal.main_v117) = v2 c
          ∧ r.2.mem ((c.tc : Thread Cert.OddRefIdeal.nD Cert.OddRefIdeal.τ).loc Cert.OddRefIdeal.main_v118) = v3 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7))

def preserves_Even_EvenIdeal : Prop :=
  IdealRules.named_const.Statement Cert.EvenIdeal.κ "one_96th" .f32 0x3C2AAAAB#32 ((1 / 96 : ℝ) : EReal)

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)
      ∧ m' ((c.tc : Thread Cert.EvenRefIdeal.nD Cert.EvenRefIdeal.τ).loc Cert.EvenRefIdeal.main_arg5) = m ((c.tc : Thread Cert.EvenIdeal.nD Cert.EvenIdeal.τ).loc Cert.EvenIdeal.main_arg5)
      ∧ m' ((c.tc : Thread Cert.EvenRefIdeal.nD Cert.EvenRefIdeal.τ).loc Cert.EvenRefIdeal.main_arg6) = m ((c.tc : Thread Cert.EvenIdeal.nD Cert.EvenIdeal.τ).loc Cert.EvenIdeal.main_arg6)
      ∧ m' ((c.tc : Thread Cert.EvenRefIdeal.nD Cert.EvenRefIdeal.τ).loc Cert.EvenRefIdeal.main_arg7) = m ((c.tc : Thread Cert.EvenIdeal.nD Cert.EvenIdeal.τ).loc Cert.EvenIdeal.main_arg7)
      ∧ m' ((c.tc : Thread Cert.EvenRefIdeal.nD Cert.EvenRefIdeal.τ).loc Cert.EvenRefIdeal.main_arg8) = m ((c.tc : Thread Cert.EvenIdeal.nD Cert.EvenIdeal.τ).loc Cert.EvenIdeal.main_arg8)
      ∧ m' ((c.tc : Thread Cert.EvenRefIdeal.nD Cert.EvenRefIdeal.τ).loc Cert.EvenRefIdeal.main_arg9) = m ((c.tc : Thread Cert.EvenIdeal.nD Cert.EvenIdeal.τ).loc Cert.EvenIdeal.main_arg9)
      ∧ m' ((c.tc : Thread Cert.EvenRefIdeal.nD Cert.EvenRefIdeal.τ).loc Cert.EvenRefIdeal.main_arg10) = m ((c.tc : Thread Cert.EvenIdeal.nD Cert.EvenIdeal.τ).loc Cert.EvenIdeal.main_arg10)
      ∧ m' ((c.tc : Thread Cert.EvenRefIdeal.nD Cert.EvenRefIdeal.τ).loc Cert.EvenRefIdeal.main_arg11) = m ((c.tc : Thread Cert.EvenIdeal.nD Cert.EvenIdeal.τ).loc Cert.EvenIdeal.main_arg11)) →
    ∃ (v0 : (c : Dev Cert.EvenIdeal.nD) → Buf (Elt Ideal) ((c.tc : Thread Cert.EvenIdeal.nD Cert.EvenIdeal.τ).loc Cert.EvenIdeal.main_v11_0)) (v1 : (c : Dev Cert.EvenIdeal.nD) → Buf (Elt Ideal) ((c.tc : Thread Cert.EvenIdeal.nD Cert.EvenIdeal.τ).loc Cert.EvenIdeal.main_v11_1)) (v2 : (c : Dev Cert.EvenIdeal.nD) → Buf (Elt Ideal) ((c.tc : Thread Cert.EvenIdeal.nD Cert.EvenIdeal.τ).loc Cert.EvenIdeal.main_v11_2)) (v3 : (c : Dev Cert.EvenIdeal.nD) → Buf (Elt Ideal) ((c.tc : Thread Cert.EvenIdeal.nD Cert.EvenIdeal.τ).loc Cert.EvenIdeal.main_v11_3)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v11_0) = v0 c
          ∧ r.2.mem ((c.tc : Thread Cert.EvenIdeal.nD Cert.EvenIdeal.τ).loc Cert.EvenIdeal.main_v11_1) = v1 c
          ∧ r.2.mem ((c.tc : Thread Cert.EvenIdeal.nD Cert.EvenIdeal.τ).loc Cert.EvenIdeal.main_v11_2) = v2 c
          ∧ r.2.mem ((c.tc : Thread Cert.EvenIdeal.nD Cert.EvenIdeal.τ).loc Cert.EvenIdeal.main_v11_3) = v3 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
          ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
          ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
          ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9)
          ∧ r.2.mem ((c.tc : Thread Cert.EvenIdeal.nD Cert.EvenIdeal.τ).loc Cert.EvenIdeal.main_arg10) = m ((c.tc : Thread Cert.EvenIdeal.nD Cert.EvenIdeal.τ).loc Cert.EvenIdeal.main_arg10)
          ∧ r.2.mem ((c.tc : Thread Cert.EvenIdeal.nD Cert.EvenIdeal.τ).loc Cert.EvenIdeal.main_arg11) = m ((c.tc : Thread Cert.EvenIdeal.nD Cert.EvenIdeal.τ).loc Cert.EvenIdeal.main_arg11))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v141) = v0 c
          ∧ r.2.mem ((c.tc : Thread Cert.EvenRefIdeal.nD Cert.EvenRefIdeal.τ).loc Cert.EvenRefIdeal.main_v144) = v1 c
          ∧ r.2.mem ((c.tc : Thread Cert.EvenRefIdeal.nD Cert.EvenRefIdeal.τ).loc Cert.EvenRefIdeal.main_v138) = v2 c
          ∧ r.2.mem ((c.tc : Thread Cert.EvenRefIdeal.nD Cert.EvenRefIdeal.τ).loc Cert.EvenRefIdeal.main_v146) = v3 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5)
          ∧ r.2.mem ((c.tc : Thread Cert.EvenRefIdeal.nD Cert.EvenRefIdeal.τ).loc Cert.EvenRefIdeal.main_arg6) = m' ((c.tc : Thread Cert.EvenRefIdeal.nD Cert.EvenRefIdeal.τ).loc Cert.EvenRefIdeal.main_arg6)
          ∧ r.2.mem ((c.tc : Thread Cert.EvenRefIdeal.nD Cert.EvenRefIdeal.τ).loc Cert.EvenRefIdeal.main_arg7) = m' ((c.tc : Thread Cert.EvenRefIdeal.nD Cert.EvenRefIdeal.τ).loc Cert.EvenRefIdeal.main_arg7)
          ∧ r.2.mem ((c.tc : Thread Cert.EvenRefIdeal.nD Cert.EvenRefIdeal.τ).loc Cert.EvenRefIdeal.main_arg8) = m' ((c.tc : Thread Cert.EvenRefIdeal.nD Cert.EvenRefIdeal.τ).loc Cert.EvenRefIdeal.main_arg8)
          ∧ r.2.mem ((c.tc : Thread Cert.EvenRefIdeal.nD Cert.EvenRefIdeal.τ).loc Cert.EvenRefIdeal.main_arg9) = m' ((c.tc : Thread Cert.EvenRefIdeal.nD Cert.EvenRefIdeal.τ).loc Cert.EvenRefIdeal.main_arg9)
          ∧ r.2.mem ((c.tc : Thread Cert.EvenRefIdeal.nD Cert.EvenRefIdeal.τ).loc Cert.EvenRefIdeal.main_arg10) = m' ((c.tc : Thread Cert.EvenRefIdeal.nD Cert.EvenRefIdeal.τ).loc Cert.EvenRefIdeal.main_arg10)
          ∧ r.2.mem ((c.tc : Thread Cert.EvenRefIdeal.nD Cert.EvenRefIdeal.τ).loc Cert.EvenRefIdeal.main_arg11) = m' ((c.tc : Thread Cert.EvenRefIdeal.nD Cert.EvenRefIdeal.τ).loc Cert.EvenRefIdeal.main_arg11))

def Claim : Prop :=
  ∃ (hAttn : Cert.Attn.Facts) (hAttnIdeal : Cert.AttnIdeal.Facts) (hAttnRefIdeal : Cert.AttnRefIdeal.Facts) (hOut : Cert.Out.Facts) (hOutIdeal : Cert.OutIdeal.Facts) (hOutRefIdeal : Cert.OutRefIdeal.Facts) (hFfn : Cert.Ffn.Facts) (hFfnIdeal : Cert.FfnIdeal.Facts) (hFfnRefIdeal : Cert.FfnRefIdeal.Facts) (hOdd : Cert.Odd.Facts) (hOddIdeal : Cert.OddIdeal.Facts) (hOddRefIdeal : Cert.OddRefIdeal.Facts) (hEven : Cert.Even.Facts) (hEvenIdeal : Cert.EvenIdeal.Facts) (hEvenRefIdeal : Cert.EvenRefIdeal.Facts) (hPre_finite_q_k : Cert.Pre_finite_q_k.Facts),
    quiescent_Attn (hAttn := hAttn)
    ∧ quiescent_AttnIdeal (hAttnIdeal := hAttnIdeal)
    ∧ quiescent_AttnIdeal_pre_finite_q_k (hAttnIdeal := hAttnIdeal) (hPre_finite_q_k := hPre_finite_q_k)
    ∧ quiescent_AttnRefIdeal (hAttnRefIdeal := hAttnRefIdeal)
    ∧ quiescent_AttnRefIdeal_pre_finite_q_k (hAttnRefIdeal := hAttnRefIdeal) (hPre_finite_q_k := hPre_finite_q_k)
    ∧ quiescent_Out (hOut := hOut)
    ∧ quiescent_OutIdeal (hOutIdeal := hOutIdeal)
    ∧ quiescent_OutRefIdeal (hOutRefIdeal := hOutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Odd (hOdd := hOdd)
    ∧ quiescent_OddIdeal (hOddIdeal := hOddIdeal)
    ∧ quiescent_OddRefIdeal (hOddRefIdeal := hOddRefIdeal)
    ∧ quiescent_Even (hEven := hEven)
    ∧ quiescent_EvenIdeal (hEvenIdeal := hEvenIdeal)
    ∧ quiescent_EvenRefIdeal (hEvenRefIdeal := hEvenRefIdeal)
    ∧ preserves_Attn_AttnIdeal
    ∧ algebraic_AttnIdeal_AttnRefIdeal_pre_finite_q_k (hAttnIdeal := hAttnIdeal) (hAttnRefIdeal := hAttnRefIdeal) (hPre_finite_q_k := hPre_finite_q_k)
    ∧ preserves_Out_OutIdeal
    ∧ algebraic_OutIdeal_OutRefIdeal (hOutIdeal := hOutIdeal) (hOutRefIdeal := hOutRefIdeal)
    ∧ preserves_Ffn_FfnIdeal
    ∧ algebraic_FfnIdeal_FfnRefIdeal (hFfnIdeal := hFfnIdeal) (hFfnRefIdeal := hFfnRefIdeal)
    ∧ preserves_Odd_OddIdeal
    ∧ algebraic_OddIdeal_OddRefIdeal (hOddIdeal := hOddIdeal) (hOddRefIdeal := hOddRefIdeal)
    ∧ preserves_Even_EvenIdeal
    ∧ algebraic_EvenIdeal_EvenRefIdeal (hEvenIdeal := hEvenIdeal) (hEvenRefIdeal := hEvenRefIdeal)
-- ==== Pre_finite_q_k.lean ====
abbrev S16x12x4352x128 : Shape := ⟨4, ![16, 12, 4352, 128]⟩
abbrev S16x12x128x4352 : Shape := ⟨4, ![16, 12, 128, 4352]⟩
abbrev S16x768x4352 : Shape := ⟨3, ![16, 768, 4352]⟩
abbrev S_ : Shape := ⟨0, ![]⟩

class Facts : Prop where
  bitsLt_bf16_f32 : FTy.bits .bf16 < FTy.bits .f32
  bcast_S_S16x12x4352x128 : S_.BroadcastsInDim S16x12x4352x128 (![] : Fin 0 → Fin S16x12x4352x128.rank)
  bcast_S_S16x12x128x4352 : S_.BroadcastsInDim S16x12x128x4352 (![] : Fin 0 → Fin S16x12x128x4352.rank)

variable [Facts]

def fn {F : FTy → Type} [FloatOps F] (main_arg0 : FVec F S16x12x4352x128 .bf16) (main_arg1 : FVec F S16x12x128x4352 .bf16) (main_arg2 : FVec F S16x768x4352 .bf16) : IVec S16x12x4352x128 1 × IVec S16x12x128x4352 1 :=
  let main_v0 : FVec F S16x12x4352x128 .f32 := (extf .f32 · bitsLt_bf16_f32) main_arg0
  let main_v1 : FVec F S16x12x4352x128 .f32 := Host.absf main_v0
  let main_cst : FVec F S_ .f32 := constant S_ .f32 0x7F800000#32
  let main_v2 : FVec F S16x12x4352x128 .f32 := broadcastInDim S16x12x4352x128 ![] bcast_S_S16x12x4352x128 main_cst
  let main_v3 : IVec S16x12x4352x128 1 := cmpf .olt main_v1 main_v2
  let main_v4 : FVec F S16x12x128x4352 .f32 := (extf .f32 · bitsLt_bf16_f32) main_arg1
  let main_v5 : FVec F S16x12x128x4352 .f32 := Host.absf main_v4
  let main_cst_0 : FVec F S_ .f32 := constant S_ .f32 0x7F800000#32
  let main_v6 : FVec F S16x12x128x4352 .f32 := broadcastInDim S16x12x128x4352 ![] bcast_S_S16x12x128x4352 main_cst_0
  let main_v7 : IVec S16x12x128x4352 1 := cmpf .olt main_v5 main_v6
  (main_v3, main_v7)
-- ==== Attn.lean ====
abbrev S16x12x4352x128 : Shape := ⟨4, ![16, 12, 4352, 128]⟩
abbrev S16x12x128x4352 : Shape := ⟨4, ![16, 12, 128, 4352]⟩
abbrev S16x768x4352 : Shape := ⟨3, ![16, 768, 4352]⟩
abbrev S16x4352x768 : Shape := ⟨3, ![16, 4352, 768]⟩
abbrev S1x2x256x128 : Shape := ⟨4, ![1, 2, 256, 128]⟩
abbrev S1x2x128x4352 : Shape := ⟨4, ![1, 2, 128, 4352]⟩
abbrev S1x128x4352 : Shape := ⟨3, ![1, 128, 4352]⟩
abbrev S1x256x128 : Shape := ⟨3, ![1, 256, 128]⟩
abbrev S256x128 : Shape := ⟨2, ![256, 128]⟩
abbrev S128x4352 : Shape := ⟨2, ![128, 4352]⟩
abbrev S1x1x256x128 : Shape := ⟨4, ![1, 1, 256, 128]⟩
abbrev S1x1x128x4352 : Shape := ⟨4, ![1, 1, 128, 4352]⟩
abbrev S256x4352 : Shape := ⟨2, ![256, 4352]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S1x1x128x256 : Shape := ⟨4, ![1, 1, 128, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x12x4352x128, .bf16⟩
  | .hbm, ⟨1, _⟩ => ⟨S16x12x128x4352, .bf16⟩
  | .hbm, ⟨2, _⟩ => ⟨S16x768x4352, .bf16⟩
  | .hbm, ⟨3, _⟩ => ⟨S16x4352x768, .bf16⟩
  | .local _ .vmem, ⟨0, _⟩ => ⟨S1x2x256x128, .bf16⟩
  | .local _ .vmem, ⟨1, _⟩ => ⟨S1x2x256x128, .bf16⟩
  | .local _ .vmem, ⟨2, _⟩ => ⟨S1x2x128x4352, .bf16⟩
  | .local _ .vmem, ⟨3, _⟩ => ⟨S1x2x128x4352, .bf16⟩
  | .local _ .vmem, ⟨4, _⟩ => ⟨S1x128x4352, .bf16⟩
  | .local _ .vmem, ⟨5, _⟩ => ⟨S1x128x4352, .bf16⟩
  | .local _ .vmem, ⟨6, _⟩ => ⟨S1x256x128, .bf16⟩
  | .local _ .vmem, ⟨7, _⟩ => ⟨S1x256x128, .bf16⟩
  | _, _ => ⟨S16x12x4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 6, 17], ![false, false, false]⟩

def k0_cond1 (i : grid0.Coords) : BitVec 1 :=
  let arg2 : BitVec 32 := BitVec.ofNat 32 (i 2).val
  let c16_i32 : BitVec 32 := 16#32
  let v1 : BitVec 1 := Scalar.cmpi .slt arg2 c16_i32
  let v2 : BitVec 32 := Scalar.extui v1
  let c0_i32 : BitVec 32 := 0#32
  let v3 : BitVec 1 := Scalar.cmpi .ne v2 c0_i32
  v3

def k0_cond2 (i : grid0.Coords) : BitVec 1 :=
  let arg2 : BitVec 32 := BitVec.ofNat 32 (i 2).val
  let c16_i32_0 : BitVec 32 := 16#32
  let v4 : BitVec 1 := Scalar.cmpi .sge arg2 c16_i32_0
  let v5 : BitVec 32 := Scalar.extui v4
  let c0_i32_1 : BitVec 32 := 0#32
  let v6 : BitVec 1 := Scalar.cmpi .ne v5 c0_i32_1
  v6

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x128x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S16x12x4352x128 : Shape := ⟨4, ![16, 12, 4352, 128]⟩
abbrev S16x12x128x4352 : Shape := ⟨4, ![16, 12, 128, 4352]⟩
abbrev S16x768x4352 : Shape := ⟨3, ![16, 768, 4352]⟩
abbrev S16x4352x12x128 : Shape := ⟨4, ![16, 4352, 12, 128]⟩
abbrev S16x12x64x4352 : Shape := ⟨4, ![16, 12, 64, 4352]⟩
abbrev S16x4352x12x64 : Shape := ⟨4, ![16, 4352, 12, 64]⟩
abbrev S16x4096x12x128 : Shape := ⟨4, ![16, 4096, 12, 128]⟩
abbrev S16x4096x12x64 : Shape := ⟨4, ![16, 4096, 12, 64]⟩
abbrev S16x256x12x128 : Shape := ⟨4, ![16, 256, 12, 128]⟩
abbrev S16x256x12x64 : Shape := ⟨4, ![16, 256, 12, 64]⟩
abbrev S16x12x4096x256 : Shape := ⟨4, ![16, 12, 4096, 256]⟩
abbrev S16x12x4096x4096 : Shape := ⟨4, ![16, 12, 4096, 4096]⟩
abbrev S16x12x4096x4352 : Shape := ⟨4, ![16, 12, 4096, 4352]⟩
abbrev S_ : Shape := ⟨0, ![]⟩
abbrev S16x12x4096 : Shape := ⟨3, ![16, 12, 4096]⟩
abbrev S16x12x4096x1 : Shape := ⟨4, ![16, 12, 4096, 1]⟩
abbrev S16x12x64x4096 : Shape := ⟨4, ![16, 12, 64, 4096]⟩
abbrev S16x4096x768 : Shape := ⟨3, ![16, 4096, 768]⟩
abbrev S16x12x256x256 : Shape := ⟨4, ![16, 12, 256, 256]⟩
abbrev S16x12x256 : Shape := ⟨3, ![16, 12, 256]⟩
abbrev S16x12x256x1 : Shape := ⟨4, ![16, 12, 256, 1]⟩
abbrev S16x12x64x256 : Shape := ⟨4, ![16, 12, 64, 256]⟩
abbrev S16x256x768 : Shape := ⟨3, ![16, 256, 768]⟩
abbrev S16x4352x768 : Shape := ⟨3, ![16, 4352, 768]⟩

abbrev nBuf : Space → Nat
  | .hbm => 61
  | .vmem => 0
  | .smem => 0
  | _ => 0

abbrev bufTy : (tb : Table) → Fin (tcTables nBuf tb) → BufTy
  | .hbm, ⟨0, _⟩ => ⟨S16x12x4352x128, .bf16⟩
  | .hbm, ⟨1, _⟩ => ⟨S16x12x128x4352, .bf16⟩
  | .hbm, ⟨2, _⟩ => ⟨S16x768x4352, .bf16⟩
  | .hbm, ⟨3, _⟩ => ⟨S16x12x4352x128, .f32⟩
  | .hbm, ⟨4, _⟩ => ⟨S16x4352x12x128, .f32⟩
  | .hbm, ⟨5, _⟩ => ⟨S16x12x128x4352, .f32⟩
  | .hbm, ⟨6, _⟩ => ⟨S16x4352x12x128, .f32⟩
  | .hbm, ⟨7, _⟩ => ⟨S16x768x4352, .f32⟩
  | .hbm, ⟨8, _⟩ => ⟨S16x12x64x4352, .f32⟩
  | .hbm, ⟨9, _⟩ => ⟨S16x4352x12x64, .f32⟩
  | .hbm, ⟨10, _⟩ => ⟨S16x4096x12x128, .f32⟩
  | .hbm, ⟨11, _⟩ => ⟨S16x4096x12x128, .f32⟩
  | .hbm, ⟨12, _⟩ => ⟨S16x4096x12x64, .f32⟩
  | .hbm, ⟨13, _⟩ => ⟨S16x256x12x128, .f32⟩
  | .hbm, ⟨14, _⟩ => ⟨S16x256x12x128, .f32⟩
  | .hbm, ⟨15, _⟩ => ⟨S16x256x12x64, .f32⟩
  | .hbm, ⟨16, _⟩ => ⟨S16x12x4096x256, .f32⟩
  | .hbm, ⟨17, _⟩ => ⟨S16x12x4096x4096, .f32⟩
  | .hbm, ⟨18, _⟩ => ⟨S16x12x4096x4352, .f32⟩
  | .hbm, ⟨19, _⟩ => ⟨S_, .f32⟩
  | .hbm, ⟨20, _⟩ => ⟨S16x12x4096, .f32⟩
  | .hbm, ⟨21, _⟩ => ⟨S_, .f32⟩
  | .hbm, ⟨22, _⟩ => ⟨S16x12x4096, .f32⟩
  | .hbm, ⟨23, _⟩ => ⟨S16x12x4096, .f32⟩
  | .hbm, ⟨24, _⟩ => ⟨S16x12x4096x1, .f32⟩
  | .hbm, ⟨25, _⟩ => ⟨S16x12x4096x4352, .f32⟩
  | .hbm, ⟨26, _⟩ => ⟨S16x12x4096x4352, .f32⟩
  | .hbm, ⟨27, _⟩ => ⟨S16x12x4096x4352, .f32⟩
  | .hbm, ⟨28, _⟩ => ⟨S_, .f32⟩
  | .hbm, ⟨29, _⟩ => ⟨S16x12x4096, .f32⟩
  | .hbm, ⟨30, _⟩ => ⟨S16x12x4096x1, .f32⟩
  | .hbm, ⟨31, _⟩ => ⟨S16x12x4096x4352, .f32⟩
  | .hbm, ⟨32, _⟩ => ⟨S16x12x4096x4352, .f32⟩
  | .hbm, ⟨33, _⟩ => ⟨S16x12x4096x256, .f32⟩
  | .hbm, ⟨34, _⟩ => ⟨S16x12x64x4096, .f32⟩
  | .hbm, ⟨35, _⟩ => ⟨S16x4096x12x64, .f32⟩
  | .hbm, ⟨36, _⟩ => ⟨S16x12x4096x4096, .f32⟩
  | .hbm, ⟨37, _⟩ => ⟨S16x12x64x4096, .f32⟩
  | .hbm, ⟨38, _⟩ => ⟨S16x4096x12x64, .f32⟩
  | .hbm, ⟨39, _⟩ => ⟨S16x4096x12x64, .f32⟩
  | .hbm, ⟨40, _⟩ => ⟨S16x4096x768, .f32⟩
  | .hbm, ⟨41, _⟩ => ⟨S16x12x256x256, .f32⟩
  | .hbm, ⟨42, _⟩ => ⟨S_, .f32⟩
  | .hbm, ⟨43, _⟩ => ⟨S16x12x256, .f32⟩
  | .hbm, ⟨44, _⟩ => ⟨S_, .f32⟩
  | .hbm, ⟨45, _⟩ => ⟨S16x12x256, .f32⟩
  | .hbm, ⟨46, _⟩ => ⟨S16x12x256, .f32⟩
  | .hbm, ⟨47, _⟩ => ⟨S16x12x256x1, .f32⟩
  | .hbm, ⟨48, _⟩ => ⟨S16x12x256x256, .f32⟩
  | .hbm, ⟨49, _⟩ => ⟨S16x12x256x256, .f32⟩
  | .hbm, ⟨50, _⟩ => ⟨S16x12x256x256, .f32⟩
  | .hbm, ⟨51, _⟩ => ⟨S_, .f32⟩
  | .hbm, ⟨52, _⟩ => ⟨S16x12x256, .f32⟩
  | .hbm, ⟨53, _⟩ => ⟨S16x12x256x1, .f32⟩
  | .hbm, ⟨54, _⟩ => ⟨S16x12x256x256, .f32⟩
  | .hbm, ⟨55, _⟩ => ⟨S16x12x256x256, .f32⟩
  | .hbm, ⟨56, _⟩ => ⟨S16x12x64x256, .f32⟩
  | .hbm, ⟨57, _⟩ => ⟨S16x256x12x64, .f32⟩
  | .hbm, ⟨58, _⟩ => ⟨S16x256x768, .f32⟩
  | .hbm, ⟨59, _⟩ => ⟨S16x4352x768, .f32⟩
  | .hbm, ⟨60, _⟩ => ⟨S16x4352x768, .bf16⟩
  | _, _ => ⟨S16x12x4352x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩

abbrev nD : Nat := 1
abbrev τ : Topo := Topo.v7x

variable {F : FTy → Type} [FloatOps F]
-- ==== Out.lean ====
abbrev S16x4352x1024 : Shape := ⟨3, ![16, 4352, 1024]⟩
abbrev S24x6x1024 : Shape := ⟨3, ![24, 6, 1024]⟩
abbrev S16x4352x768 : Shape := ⟨3, ![16, 4352, 768]⟩
abbrev S16x4352x256 : Shape := ⟨3, ![16, 4352, 256]⟩
abbrev S1024x1024 : Shape := ⟨2, ![1024, 1024]⟩
abbrev S768x1024 : Shape := ⟨2, ![768, 1024]⟩
abbrev S256x1024 : Shape := ⟨2, ![256, 1024]⟩
abbrev S1x256x1024 : Shape := ⟨3, ![1, 256, 1024]⟩
abbrev S1x6x1024 : Shape := ⟨3, ![1, 6, 1024]⟩
abbrev S1x256x768 : Shape := ⟨3, ![1, 256, 768]⟩
abbrev S1x256x256 : Shape := ⟨3, ![1, 256, 256]⟩
abbrev S256x768 : Shape := ⟨2, ![256, 768]⟩
abbrev S256x256 : Shape := ⟨2, ![256, 256]⟩
abbrev S6x1024 : Shape := ⟨2, ![6, 1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16x4352x1024, .f32⟩
  | .hbm, ⟨1, _⟩ => ⟨S24x6x1024, .f32⟩
  | .hbm, ⟨2, _⟩ => ⟨S16x4352x768, .bf16⟩
  | .hbm, ⟨3, _⟩ => ⟨S16x4352x256, .bf16⟩
  | .hbm, ⟨4, _⟩ => ⟨S1024x1024, .f32⟩
  | .hbm, ⟨5, _⟩ => ⟨S1024x1024, .bf16⟩
  | .hbm, ⟨6, _⟩ => ⟨S768x1024, .bf16⟩
  | .hbm, ⟨7, _⟩ => ⟨S256x1024, .bf16⟩
  | .hbm, ⟨8, _⟩ => ⟨S16x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x256x768, .bf16⟩
  | .local _ .vmem, ⟨5, _⟩ => ⟨S1x256x768, .bf16⟩
  | .local _ .vmem, ⟨6, _⟩ => ⟨S1x256x256, .bf16⟩
  | .local _ .vmem, ⟨7, _⟩ => ⟨S1x256x256, .bf16⟩
  | .local _ .vmem, ⟨8, _⟩ => ⟨S768x1024, .bf16⟩
  | .local _ .vmem, ⟨9, _⟩ => ⟨S256x1024, .bf16⟩
  | .local _ .vmem, ⟨10, _⟩ => ⟨S1x256x1024, .f32⟩
  | .local _ .vmem, ⟨11, _⟩ => ⟨S1x256x1024, .f32⟩
  | _, _ => ⟨S16x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.select v0 arg0 c16_i32_0
  let c0_i32 : BitVec 32 := 0#32
  let c0_i32_1 : BitVec 32 := 0#32
  let c0_i32_2 : BitVec 32 := 0#32
  ![v1.toNat, c0_i32.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutRefIdeal.lean ====
abbrev S16x4352x1024 : Shape := ⟨3, ![16, 4352, 1024]⟩
abbrev S24x6x1024 : Shape := ⟨3, ![24, 6, 1024]⟩
abbrev S16x4352x768 : Shape := ⟨3, ![16, 4352, 768]⟩
abbrev S16x4352x256 : Shape := ⟨3, ![16, 4352, 256]⟩
abbrev S1024x1024 : Shape := ⟨2, ![1024, 1024]⟩
abbrev S16x4096x1024 : Shape := ⟨3, ![16, 4096, 1024]⟩
abbrev S16x256x1024 : Shape := ⟨3, ![16, 256, 1024]⟩
abbrev S16x1x1024 : Shape := ⟨3, ![16, 1, 1024]⟩
abbrev S16x1024 : Shape := ⟨2, ![16, 1024]⟩
abbrev S1x1x1024 : Shape := ⟨3, ![1, 1, 1024]⟩
abbrev S1024 : Shape := ⟨1, ![1024]⟩

abbrev nBuf : Space → Nat
  | .hbm => 27
  | .vmem => 0
  | .smem => 0
  | _ => 0

abbrev bufTy : (tb : Table) → Fin (tcTables nBuf tb) → BufTy
  | .hbm, ⟨0, _⟩ => ⟨S16x4352x1024, .f32⟩
  | .hbm, ⟨1, _⟩ => ⟨S24x6x1024, .f32⟩
  | .hbm, ⟨2, _⟩ => ⟨S16x4352x768, .bf16⟩
  | .hbm, ⟨3, _⟩ => ⟨S16x4352x256, .bf16⟩
  | .hbm, ⟨4, _⟩ => ⟨S1024x1024, .f32⟩
  | .hbm, ⟨5, _⟩ => ⟨S16x4352x768, .f32⟩
  | .hbm, ⟨6, _⟩ => ⟨S16x4352x256, .f32⟩
  | .hbm, ⟨7, _⟩ => ⟨S16x4352x1024, .f32⟩
  | .hbm, ⟨8, _⟩ => ⟨S16x4096x1024, .f32⟩
  | .hbm, ⟨9, _⟩ => ⟨S16x4096x1024, .f32⟩
  | .hbm, ⟨10, _⟩ => ⟨S16x256x1024, .f32⟩
  | .hbm, ⟨11, _⟩ => ⟨S16x256x1024, .f32⟩
  | .hbm, ⟨12, _⟩ => ⟨S16x4096x1024, .f32⟩
  | .hbm, ⟨13, _⟩ => ⟨S16x1x1024, .f32⟩
  | .hbm, ⟨14, _⟩ => ⟨S16x1024, .f32⟩
  | .hbm, ⟨15, _⟩ => ⟨S16x1x1024, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x256x1024, .f32⟩
  | .hbm, ⟨20, _⟩ => ⟨S1x1x1024, .f32⟩
  | .hbm, ⟨21, _⟩ => ⟨S1024, .f32⟩
  | .hbm, ⟨22, _⟩ => ⟨S1x1x1024, .f32⟩
  | .hbm, ⟨23, _⟩ => ⟨S16x256x1024, .f32⟩
  | .hbm, ⟨24, _⟩ => ⟨S16x256x1024, .f32⟩
  | .hbm, ⟨25, _⟩ => ⟨S16x256x1024, .f32⟩
  | .hbm, ⟨26, _⟩ => ⟨S16x4352x1024, .f32⟩
  | _, _ => ⟨S16x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Ffn.lean ====
abbrev S16x4352x1024 : Shape := ⟨3, ![16, 4352, 1024]⟩
abbrev S24x6x1024 : Shape := ⟨3, ![24, 6, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x6x1024 : Shape := ⟨3, ![16, 6, 1024]⟩
abbrev S1x6x1024 : Shape := ⟨3, ![1, 6, 1024]⟩
abbrev S6x1024 : Shape := ⟨2, ![6, 1024]⟩
abbrev S16x1x6x1024 : Shape := ⟨4, ![16, 1, 6, 1024]⟩
abbrev S16x2x6x1024 : Shape := ⟨4, ![16, 2, 6, 1024]⟩
abbrev S1x1024 : Shape := ⟨2, ![1, 1024]⟩
abbrev S1x5632 : Shape := ⟨2, ![1, 5632]⟩
abbrev S1x544x1024 : Shape := ⟨3, ![1, 544, 1024]⟩
abbrev S1x16x1024 : Shape := ⟨3, ![1, 16, 1024]⟩
abbrev S1x2x6x1024 : Shape := ⟨4, ![1, 2, 6, 1024]⟩
abbrev S576x1024 : Shape := ⟨2, ![576, 1024]⟩
abbrev S544x2816 : Shape := ⟨2, ![544, 2816]⟩
abbrev S2x6x1024 : Shape := ⟨3, ![2, 6, 1024]⟩
abbrev S16x1024 : Shape := ⟨2, ![16, 1024]⟩
abbrev S16x1 : Shape := ⟨2, ![16, 1]⟩
abbrev S1x1x1024 : Shape := ⟨3, ![1, 1, 1024]⟩
abbrev S16 : Shape := ⟨1, ![16]⟩
abbrev S544x1024 : Shape := ⟨2, ![544, 1024]⟩
abbrev S544x1 : Shape := ⟨2, ![544, 1]⟩
abbrev S544 : Shape := ⟨1, ![544]⟩
abbrev S576x1 : Shape := ⟨2, ![576, 1]⟩
abbrev S1024x256 : Shape := ⟨2, ![1024, 256]⟩
abbrev S576x256 : Shape := ⟨2, ![576, 256]⟩
abbrev S3x256 : Shape := ⟨2, ![3, 256]⟩
abbrev S1x256 : Shape := ⟨2, ![1, 256]⟩
abbrev S544x256 : Shape := ⟨2, ![544, 256]⟩

abbrev nBuf : Space → Nat
  | .hbm => 20
  | .vmem => 17
  | .smem => 0
  | _ => 0

abbrev bufTy : (tb : Table) → Fin (tcTables nBuf tb) → BufTy
  | .hbm, ⟨0, _⟩ => ⟨S16x4352x1024, .f32⟩
  | .hbm, ⟨1, _⟩ => ⟨S24x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S16x6x1024, .f32⟩
  | .hbm, ⟨8, _⟩ => ⟨S1x6x1024, .f32⟩
  | .hbm, ⟨9, _⟩ => ⟨S6x1024, .f32⟩
  | .hbm, ⟨10, _⟩ => ⟨S1x6x1024, .f32⟩
  | .hbm, ⟨11, _⟩ => ⟨S16x6x1024, .f32⟩
  | .hbm, ⟨12, _⟩ => ⟨S16x1x6x1024, .f32⟩
  | .hbm, ⟨13, _⟩ => ⟨S16x1x6x1024, .f32⟩
  | .hbm, ⟨14, _⟩ => ⟨S16x2x6x1024, .f32⟩
  | .hbm, ⟨15, _⟩ => ⟨S1x1024, .f32⟩
  | .hbm, ⟨16, _⟩ => ⟨S1024x5632, .bf16⟩
  | .hbm, ⟨17, _⟩ => ⟨S1x5632, .f32⟩
  | .hbm, ⟨18, _⟩ => ⟨S2816x1024, .bf16⟩
  | .hbm, ⟨19, _⟩ => ⟨S16x4352x1024, .f32⟩
  | .local _ .vmem, ⟨0, _⟩ => ⟨S1x544x1024, .f32⟩
  | .local _ .vmem, ⟨1, _⟩ => ⟨S1x544x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x2x6x1024, .f32⟩
  | .local _ .vmem, ⟨7, _⟩ => ⟨S1x2x6x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S1x544x1024, .f32⟩
  | .local _ .vmem, ⟨14, _⟩ => ⟨S1x544x1024, .f32⟩
  | .local _ .vmem, ⟨15, _⟩ => ⟨S576x1024, .bf16⟩
  | .local _ .vmem, ⟨16, _⟩ => ⟨S544x2816, .bf16⟩
  | _, _ => ⟨S16x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.muli arg1 c34_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c34_i32 : BitVec 32 := 34#32
  let v1 : BitVec 32 := Scalar.muli v0 c34_i32
  let c271_i32 : BitVec 32 := 271#32
  let v2 : BitVec 32 := Scalar.minsi v1 c271_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S16x4352x1024 : Shape := ⟨3, ![16, 4352, 1024]⟩
abbrev S24x6x1024 : Shape := ⟨3, ![24, 6, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x4352 : Shape := ⟨2, ![16, 4352]⟩
abbrev S16x4352x1 : Shape := ⟨3, ![16, 4352, 1]⟩
abbrev S1x1x1024 : Shape := ⟨3, ![1, 1, 1024]⟩
abbrev S16x1x1024 : Shape := ⟨3, ![16, 1, 1024]⟩
abbrev S16x1024 : Shape := ⟨2, ![16, 1024]⟩
abbrev S16x4096x1024 : Shape := ⟨3, ![16, 4096, 1024]⟩
abbrev S16x256x1024 : Shape := ⟨3, ![16, 256, 1024]⟩
abbrev S16x4352x5632 : Shape := ⟨3, ![16, 4352, 5632]⟩
abbrev S16x4096x5632 : Shape := ⟨3, ![16, 4096, 5632]⟩
abbrev S16x4098x5632 : Shape := ⟨3, ![16, 4098, 5632]⟩
abbrev S16x256x5632 : Shape := ⟨3, ![16, 256, 5632]⟩
abbrev S16x258x5632 : Shape := ⟨3, ![16, 258, 5632]⟩
abbrev S1x5632 : Shape := ⟨2, ![1, 5632]⟩
abbrev S1x1x5632 : Shape := ⟨3, ![1, 1, 5632]⟩
abbrev S16x4352x2816 : Shape := ⟨3, ![16, 4352, 2816]⟩

abbrev nBuf : Space → Nat
  | .hbm => 105
  | .vmem => 0
  | .smem => 0
  | _ => 0

abbrev bufTy : (tb : Table) → Fin (tcTables nBuf tb) → BufTy
  | .hbm, ⟨0, _⟩ => ⟨S16x4352x1024, .f32⟩
  | .hbm, ⟨1, _⟩ => ⟨S24x6x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S16x4352x1024, .f32⟩
  | .hbm, ⟨8, _⟩ => ⟨S_, .f32⟩
  | .hbm, ⟨9, _⟩ => ⟨S16x4352, .f32⟩
  | .hbm, ⟨10, _⟩ => ⟨S16x4352x1, .f32⟩
  | .hbm, ⟨11, _⟩ => ⟨S_, .f32⟩
  | .hbm, ⟨12, _⟩ => ⟨S16x4352x1, .f32⟩
  | .hbm, ⟨13, _⟩ => ⟨S16x4352x1, .f32⟩
  | .hbm, ⟨14, _⟩ => ⟨S_, .f32⟩
  | .hbm, ⟨15, _⟩ => ⟨S16x4352x1, .f32⟩
  | .hbm, ⟨16, _⟩ => ⟨S16x4352x1, .f32⟩
  | .hbm, ⟨17, _⟩ => ⟨S16x4352x1, .f32⟩
  | .hbm, ⟨18, _⟩ => ⟨S16x4352x1024, .f32⟩
  | .hbm, ⟨19, _⟩ => ⟨S16x4352x1024, .f32⟩
  | .hbm, ⟨20, _⟩ => ⟨S1x1x1024, .f32⟩
  | .hbm, ⟨21, _⟩ => ⟨S16x4352x1024, .f32⟩
  | .hbm, ⟨22, _⟩ => ⟨S16x4352x1024, .f32⟩
  | .hbm, ⟨23, _⟩ => ⟨S16x1x1024, .f32⟩
  | .hbm, ⟨24, _⟩ => ⟨S16x1024, .f32⟩
  | .hbm, ⟨25, _⟩ => ⟨S16x1x1024, .f32⟩
  | .hbm, ⟨26, _⟩ => ⟨S16x4096x1024, .f32⟩
  | .hbm, ⟨27, _⟩ => ⟨S1x1x1024, .f32⟩
  | .hbm, ⟨28, _⟩ => ⟨S1024, .f32⟩
  | .hbm, ⟨29, _⟩ => ⟨S16x256x1024, .f32⟩
  | .hbm, ⟨30, _⟩ => ⟨S16x4352x1024, .f32⟩
  | .hbm, ⟨31, _⟩ => ⟨S16x1x1024, .f32⟩
  | .hbm, ⟨32, _⟩ => ⟨S16x1024, .f32⟩
  | .hbm, ⟨33, _⟩ => ⟨S16x1x1024, .f32⟩
  | .hbm, ⟨34, _⟩ => ⟨S16x4096x1024, .f32⟩
  | .hbm, ⟨35, _⟩ => ⟨S1x1x1024, .f32⟩
  | .hbm, ⟨36, _⟩ => ⟨S1024, .f32⟩
  | .hbm, ⟨37, _⟩ => ⟨S16x256x1024, .f32⟩
  | .hbm, ⟨38, _⟩ => ⟨S16x4352x1024, .f32⟩
  | .hbm, ⟨39, _⟩ => ⟨S_, .f32⟩
  | .hbm, ⟨40, _⟩ => ⟨S16x4352x1024, .f32⟩
  | .hbm, ⟨41, _⟩ => ⟨S16x4352x1024, .f32⟩
  | .hbm, ⟨42, _⟩ => ⟨S16x4352x1024, .f32⟩
  | .hbm, ⟨43, _⟩ => ⟨S16x4352x1024, .f32⟩
  | .hbm, ⟨44, _⟩ => ⟨S16x4352x5632, .f32⟩
  | .hbm, ⟨45, _⟩ => ⟨S16x4096x5632, .f32⟩
  | .hbm, ⟨46, _⟩ => ⟨S_, .i32⟩
  | .hbm, ⟨47, _⟩ => ⟨S_, .f32⟩
  | .hbm, ⟨48, _⟩ => ⟨S16x4098x5632, .f32⟩
  | .hbm, ⟨49, _⟩ => ⟨S16x256x5632, .f32⟩
  | .hbm, ⟨50, _⟩ => ⟨S_, .i32⟩
  | .hbm, ⟨51, _⟩ => ⟨S_, .f32⟩
  | .hbm, ⟨52, _⟩ => ⟨S16x258x5632, .f32⟩
  | .hbm, ⟨53, _⟩ => ⟨S16x4096x5632, .f32⟩
  | .hbm, ⟨54, _⟩ => ⟨S16x256x5632, .f32⟩
  | .hbm, ⟨55, _⟩ => ⟨S16x4352x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S16x4352x5632, .f32⟩
  | .hbm, ⟨60, _⟩ => ⟨S16x4352x5632, .f32⟩
  | .hbm, ⟨61, _⟩ => ⟨S16x4096x5632, .f32⟩
  | .hbm, ⟨62, _⟩ => ⟨S16x256x5632, .f32⟩
  | .hbm, ⟨63, _⟩ => ⟨S16x4352x5632, .f32⟩
  | .hbm, ⟨64, _⟩ => ⟨S1x5632, .f32⟩
  | .hbm, ⟨65, _⟩ => ⟨S5632, .f32⟩
  | .hbm, ⟨66, _⟩ => ⟨S1x1x5632, .f32⟩
  | .hbm, ⟨67, _⟩ => ⟨S16x4352x5632, .f32⟩
  | .hbm, ⟨68, _⟩ => ⟨S16x4352x5632, .f32⟩
  | .hbm, ⟨69, _⟩ => ⟨S16x4352x5632, .f32⟩
  | .hbm, ⟨70, _⟩ => ⟨S16x4096x5632, .f32⟩
  | .hbm, ⟨71, _⟩ => ⟨S16x256x5632, .f32⟩
  | .hbm, ⟨72, _⟩ => ⟨S16x4352x5632, .f32⟩
  | .hbm, ⟨73, _⟩ => ⟨S1x5632, .f32⟩
  | .hbm, ⟨74, _⟩ => ⟨S5632, .f32⟩
  | .hbm, ⟨75, _⟩ => ⟨S1x1x5632, .f32⟩
  | .hbm, ⟨76, _⟩ => ⟨S16x4352x5632, .f32⟩
  | .hbm, ⟨77, _⟩ => ⟨S16x4352x5632, .f32⟩
  | .hbm, ⟨78, _⟩ => ⟨S16x4352x5632, .f32⟩
  | .hbm, ⟨79, _⟩ => ⟨S1x1x5632, .f32⟩
  | .hbm, ⟨80, _⟩ => ⟨S16x4352x5632, .f32⟩
  | .hbm, ⟨81, _⟩ => ⟨S16x4352x5632, .f32⟩
  | .hbm, ⟨82, _⟩ => ⟨S16x1x1024, .f32⟩
  | .hbm, ⟨83, _⟩ => ⟨S16x1024, .f32⟩
  | .hbm, ⟨84, _⟩ => ⟨S16x1x1024, .f32⟩
  | .hbm, ⟨85, _⟩ => ⟨S16x4096x1024, .f32⟩
  | .hbm, ⟨86, _⟩ => ⟨S1x1x1024, .f32⟩
  | .hbm, ⟨87, _⟩ => ⟨S1024, .f32⟩
  | .hbm, ⟨88, _⟩ => ⟨S16x256x1024, .f32⟩
  | .hbm, ⟨89, _⟩ => ⟨S16x4352x1024, .f32⟩
  | .hbm, ⟨90, _⟩ => ⟨S16x4352x2816, .f32⟩
  | .hbm, ⟨91, _⟩ => ⟨S16x4352x2816, .f32⟩
  | .hbm, ⟨92, _⟩ => ⟨S16x4352x2816, .f32⟩
  | .hbm, ⟨93, _⟩ => ⟨S_, .f32⟩
  | .hbm, ⟨94, _⟩ => ⟨S16x4352x2816, .f32⟩
  | .hbm, ⟨95, _⟩ => ⟨S16x4352x2816, .f32⟩
  | .hbm, ⟨96, _⟩ => ⟨S_, .f32⟩
  | .hbm, ⟨97, _⟩ => ⟨S16x4352x2816, .f32⟩
  | .hbm, ⟨98, _⟩ => ⟨S16x4352x2816, .f32⟩
  | .hbm, ⟨99, _⟩ => ⟨S16x4352x2816, .f32⟩
  | .hbm, ⟨100, _⟩ => ⟨S16x4352x2816, .f32⟩
  | .hbm, ⟨101, _⟩ => ⟨S16x4352x2816, .f32⟩
  | .hbm, ⟨102, _⟩ => ⟨S16x4352x1024, .f32⟩
  | .hbm, ⟨103, _⟩ => ⟨S16x4352x1024, .f32⟩
  | .hbm, ⟨104, _⟩ => ⟨S16x4352x1024, .f32⟩
  | _, _ => ⟨S16x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_call1_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Odd.lean ====
abbrev S16x4352x1024 : Shape := ⟨3, ![16, 4352, 1024]⟩
abbrev S24x6x1024 : Shape := ⟨3, ![24, 6, 1024]⟩
abbrev S1024 : Shape := ⟨1, ![1024]⟩
abbrev S1024x1536 : Shape := ⟨2, ![1024, 1536]⟩
abbrev S64 : Shape := ⟨1, ![64]⟩
abbrev S32x4352 : Shape := ⟨2, ![32, 4352]⟩
abbrev S1x1024 : Shape := ⟨2, ![1, 1024]⟩
abbrev S1536x1024 : Shape := ⟨2, ![1536, 1024]⟩
abbrev S64x1 : Shape := ⟨2, ![64, 1]⟩
abbrev S16x12x4352x128 : Shape := ⟨4, ![16, 12, 4352, 128]⟩
abbrev S16x2x4352x128 : Shape := ⟨4, ![16, 2, 4352, 128]⟩
abbrev S16x4352x256 : Shape := ⟨3, ![16, 4352, 256]⟩
abbrev S1x256x1024 : Shape := ⟨3, ![1, 256, 1024]⟩
abbrev S1x6x1024 : Shape := ⟨3, ![1, 6, 1024]⟩
abbrev S32x256 : Shape := ⟨2, ![32, 256]⟩
abbrev S1x12x256x128 : Shape := ⟨4, ![1, 12, 256, 128]⟩
abbrev S1x2x256x128 : Shape := ⟨4, ![1, 2, 256, 128]⟩
abbrev S1x256x256 : Shape := ⟨3, ![1, 256, 256]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S1536x256 : Shape := ⟨2, ![1536, 256]⟩
abbrev S64x256 : Shape := ⟨2, ![64, 256]⟩
abbrev S1x256 : Shape := ⟨2, ![1, 256]⟩
abbrev S128x256 : Shape := ⟨2, ![128, 256]⟩
abbrev S256x128 : Shape := ⟨2, ![256, 128]⟩
abbrev S1x1x256x128 : Shape := ⟨4, ![1, 1, 256, 128]⟩
abbrev S256x256 : Shape := ⟨2, ![256, 256]⟩

abbrev nBuf : Space → Nat
  | .hbm => 17
  | .vmem => 20
  | .smem => 0
  | _ => 0

abbrev bufTy : (tb : Table) → Fin (tcTables nBuf tb) → BufTy
  | .hbm, ⟨0, _⟩ => ⟨S16x4352x1024, .f32⟩
  | .hbm, ⟨1, _⟩ => ⟨S24x6x1024, .f32⟩
  | .hbm, ⟨2, _⟩ => ⟨S1024, .f32⟩
  | .hbm, ⟨3, _⟩ => ⟨S1024x1536, .f32⟩
  | .hbm, ⟨4, _⟩ => ⟨S64, .f32⟩
  | .hbm, ⟨5, _⟩ => ⟨S64, .f32⟩
  | .hbm, ⟨6, _⟩ => ⟨S32x4352, .f32⟩
  | .hbm, ⟨7, _⟩ => ⟨S32x4352, .f32⟩
  | .hbm, ⟨8, _⟩ => ⟨S1x1024, .f32⟩
  | .hbm, ⟨9, _⟩ => ⟨S1536x1024, .f32⟩
  | .hbm, ⟨10, _⟩ => ⟨S1536x1024, .bf16⟩
  | .hbm, ⟨11, _⟩ => ⟨S64x1, .f32⟩
  | .hbm, ⟨12, _⟩ => ⟨S64x1, .f32⟩
  | .hbm, ⟨13, _⟩ => ⟨S16x12x4352x128, .bf16⟩
  | .hbm, ⟨14, _⟩ => ⟨S16x2x4352x128, .bf16⟩
  | .hbm, ⟨15, _⟩ => ⟨S16x2x4352x128, .bf16⟩
  | .hbm, ⟨16, _⟩ => ⟨S16x4352x256, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1536x1024, .bf16⟩
  | .local _ .vmem, ⟨6, _⟩ => ⟨S64x1, .f32⟩
  | .local _ .vmem, ⟨7, _⟩ => ⟨S64x1, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S1x12x256x128, .bf16⟩
  | .local _ .vmem, ⟨13, _⟩ => ⟨S1x12x256x128, .bf16⟩
  | .local _ .vmem, ⟨14, _⟩ => ⟨S1x2x256x128, .bf16⟩
  | .local _ .vmem, ⟨15, _⟩ => ⟨S1x2x256x128, .bf16⟩
  | .local _ .vmem, ⟨16, _⟩ => ⟨S1x2x256x128, .bf16⟩
  | .local _ .vmem, ⟨17, _⟩ => ⟨S1x2x256x128, .bf16⟩
  | .local _ .vmem, ⟨18, _⟩ => ⟨S1x256x256, .f32⟩
  | .local _ .vmem, ⟨19, _⟩ => ⟨S1x256x256, .f32⟩
  | _, _ => ⟨S16x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.select v0 arg0 c16_i32_0
  let c0_i32 : BitVec 32 := 0#32
  let c0_i32_1 : BitVec 32 := 0#32
  let c0_i32_2 : BitVec 32 := 0#32
  ![v1.toNat, c0_i32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x12x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OddRefIdeal.lean ====
abbrev S16x4352x1024 : Shape := ⟨3, ![16, 4352, 1024]⟩
abbrev S24x6x1024 : Shape := ⟨3, ![24, 6, 1024]⟩
abbrev S1024 : Shape := ⟨1, ![1024]⟩
abbrev S1024x1536 : Shape := ⟨2, ![1024, 1536]⟩
abbrev S64 : Shape := ⟨1, ![64]⟩
abbrev S32x4352 : Shape := ⟨2, ![32, 4352]⟩
abbrev S_ : Shape := ⟨0, ![]⟩
abbrev S16x4352 : Shape := ⟨2, ![16, 4352]⟩
abbrev S16x4352x1 : Shape := ⟨3, ![16, 4352, 1]⟩
abbrev S1x1x1024 : Shape := ⟨3, ![1, 1, 1024]⟩
abbrev S16x1x1024 : Shape := ⟨3, ![16, 1, 1024]⟩
abbrev S16x1024 : Shape := ⟨2, ![16, 1024]⟩
abbrev S16x4096x1024 : Shape := ⟨3, ![16, 4096, 1024]⟩
abbrev S16x256x1024 : Shape := ⟨3, ![16, 256, 1024]⟩
abbrev S16x4352x1536 : Shape := ⟨3, ![16, 4352, 1536]⟩
abbrev S16x4352x768 : Shape := ⟨3, ![16, 4352, 768]⟩
abbrev S16x4352x12x64 : Shape := ⟨4, ![16, 4352, 12, 64]⟩
abbrev S16x4352x12 : Shape := ⟨3, ![16, 4352, 12]⟩
abbrev S16x4352x12x1 : Shape := ⟨4, ![16, 4352, 12, 1]⟩
abbrev S1x1x1x64 : Shape := ⟨4, ![1, 1, 1, 64]⟩
abbrev S16x4352x12x32 : Shape := ⟨4, ![16, 4352, 12, 32]⟩
abbrev S4352x32 : Shape := ⟨2, ![4352, 32]⟩
abbrev S1x4352x1x32 : Shape := ⟨4, ![1, 4352, 1, 32]⟩
abbrev S16x4352x256 : Shape := ⟨3, ![16, 4352, 256]⟩
abbrev S16x4352x4x64 : Shape := ⟨4, ![16, 4352, 4, 64]⟩
abbrev S16x4352x4 : Shape := ⟨3, ![16, 4352, 4]⟩
abbrev S16x4352x4x1 : Shape := ⟨4, ![16, 4352, 4, 1]⟩
abbrev S16x4352x4x32 : Shape := ⟨4, ![16, 4352, 4, 32]⟩
abbrev S16x4352x3x64 : Shape := ⟨4, ![16, 4352, 3, 64]⟩
abbrev S16x4352x3x128 : Shape := ⟨4, ![16, 4352, 3, 128]⟩
abbrev S16x4352x12x128 : Shape := ⟨4, ![16, 4352, 12, 128]⟩
abbrev S16x12x4352x128 : Shape := ⟨4, ![16, 12, 4352, 128]⟩
abbrev S16x4352x2x128 : Shape := ⟨4, ![16, 4352, 2, 128]⟩
abbrev S16x2x4352x128 : Shape := ⟨4, ![16, 2, 4352, 128]⟩

abbrev nBuf : Space → Nat
  | .hbm => 146
  | .vmem => 0
  | .smem => 0
  | _ => 0

abbrev hbmTy0_0 (i : Nat) : BufTy := match i % 128 with
  | 0 => ⟨S16x4352x1024, .f32⟩
  | 1 => ⟨S24x6x1024, .f32⟩
  | 2 => ⟨S1024, .f32⟩
  | 3 => ⟨S1024x1536, .f32⟩
  | 4 => ⟨S64, .f32⟩
  | 5 => ⟨S64, .f32⟩
  | 6 => ⟨S32x4352, .f32⟩
  | 7 => ⟨S32x4352, .f32⟩
  | 8 => ⟨S16x4352x1024, .f32⟩
  | 9 => ⟨S_, .f32⟩
  | 10 => ⟨S16x4352, .f32⟩
  | 11 => ⟨S16x4352x1, .f32⟩
  | 12 => ⟨S_, .f32⟩
  | 13 => ⟨S16x4352x1, .f32⟩
  | 14 => ⟨S16x4352x1, .f32⟩
  | 15 => ⟨S_, .f32⟩
  | 16 => ⟨S16x4352x1, .f32⟩
  | 17 => ⟨S16x4352x1, .f32⟩
  | 18 => ⟨S16x4352x1, .f32⟩
  | 19 => ⟨S16x4352x1024, .f32⟩
  | 20 => ⟨S16x4352x1024, .f32⟩
  | 21 => ⟨S1x1x1024, .f32⟩
  | 22 => ⟨S16x4352x1024, .f32⟩
  | 23 => ⟨S16x4352x1024, .f32⟩
  | 24 => ⟨S16x1x1024, .f32⟩
  | 25 => ⟨S16x1024, .f32⟩
  | 26 => ⟨S16x1x1024, .f32⟩
  | 27 => ⟨S16x4096x1024, .f32⟩
  | 28 => ⟨S1x1x1024, .f32⟩
  | 29 => ⟨S1024, .f32⟩
  | 30 => ⟨S16x256x1024, .f32⟩
  | 31 => ⟨S16x4352x1024, .f32⟩
  | 32 => ⟨S16x1x1024, .f32⟩
  | 33 => ⟨S16x1024, .f32⟩
  | 34 => ⟨S16x1x1024, .f32⟩
  | 35 => ⟨S16x4096x1024, .f32⟩
  | 36 => ⟨S1x1x1024, .f32⟩
  | 37 => ⟨S1024, .f32⟩
  | 38 => ⟨S16x256x1024, .f32⟩
  | 39 => ⟨S16x4352x1024, .f32⟩
  | 40 => ⟨S_, .f32⟩
  | 41 => ⟨S16x4352x1024, .f32⟩
  | 42 => ⟨S16x4352x1024, .f32⟩
  | 43 => ⟨S16x4352x1024, .f32⟩
  | 44 => ⟨S16x4352x1024, .f32⟩
  | 45 => ⟨S16x4352x1536, .f32⟩
  | 46 => ⟨S16x4352x768, .f32⟩
  | 47 => ⟨S16x4352x12x64, .f32⟩
  | 48 => ⟨S16x4352x12x64, .f32⟩
  | 49 => ⟨S_, .f32⟩
  | 50 => ⟨S16x4352x12, .f32⟩
  | 51 => ⟨S16x4352x12x1, .f32⟩
  | 52 => ⟨S_, .f32⟩
  | 53 => ⟨S16x4352x12x1, .f32⟩
  | 54 => ⟨S16x4352x12x1, .f32⟩
  | 55 => ⟨S_, .f32⟩
  | 56 => ⟨S16x4352x12x1, .f32⟩
  | 57 => ⟨S16x4352x12x1, .f32⟩
  | 58 => ⟨S16x4352x12x1, .f32⟩
  | 59 => ⟨S16x4352x12x64, .f32⟩
  | 60 => ⟨S16x4352x12x64, .f32⟩
  | 61 => ⟨S1x1x1x64, .f32⟩
  | 62 => ⟨S16x4352x12x64, .f32⟩
  | 63 => ⟨S16x4352x12x64, .f32⟩
  | 64 => ⟨S16x4352x12x32, .f32⟩
  | 65 => ⟨S16x4352x12x32, .f32⟩
  | 66 => ⟨S4352x32, .f32⟩
  | 67 => ⟨S1x4352x1x32, .f32⟩
  | 68 => ⟨S4352x32, .f32⟩
  | 69 => ⟨S1x4352x1x32, .f32⟩
  | 70 => ⟨S16x4352x12x32, .f32⟩
  | 71 => ⟨S16x4352x12x32, .f32⟩
  | 72 => ⟨S16x4352x12x32, .f32⟩
  | 73 => ⟨S16x4352x12x32, .f32⟩
  | 74 => ⟨S16x4352x12x32, .f32⟩
  | 75 => ⟨S16x4352x12x32, .f32⟩
  | 76 => ⟨S16x4352x12x32, .f32⟩
  | 77 => ⟨S16x4352x12x32, .f32⟩
  | 78 => ⟨S16x4352x12x32, .f32⟩
  | 79 => ⟨S16x4352x12x32, .f32⟩
  | 80 => ⟨S16x4352x12x64, .f32⟩
  | 81 => ⟨S_, .f32⟩
  | 82 => ⟨S16x4352x12x64, .f32⟩
  | 83 => ⟨S16x4352x12x64, .f32⟩
  | 84 => ⟨S16x4352x256, .f32⟩
  | 85 => ⟨S16x4352x4x64, .f32⟩
  | 86 => ⟨S16x4352x4x64, .f32⟩
  | 87 => ⟨S_, .f32⟩
  | 88 => ⟨S16x4352x4, .f32⟩
  | 89 => ⟨S16x4352x4x1, .f32⟩
  | 90 => ⟨S_, .f32⟩
  | 91 => ⟨S16x4352x4x1, .f32⟩
  | 92 => ⟨S16x4352x4x1, .f32⟩
  | 93 => ⟨S_, .f32⟩
  | 94 => ⟨S16x4352x4x1, .f32⟩
  | 95 => ⟨S16x4352x4x1, .f32⟩
  | 96 => ⟨S16x4352x4x1, .f32⟩
  | 97 => ⟨S16x4352x4x64, .f32⟩
  | 98 => ⟨S16x4352x4x64, .f32⟩
  | 99 => ⟨S1x1x1x64, .f32⟩
  | 100 => ⟨S16x4352x4x64, .f32⟩
  | 101 => ⟨S16x4352x4x64, .f32⟩
  | 102 => ⟨S16x4352x4x32, .f32⟩
  | 103 => ⟨S16x4352x4x32, .f32⟩
  | 104 => ⟨S4352x32, .f32⟩
  | 105 => ⟨S1x4352x1x32, .f32⟩
  | 106 => ⟨S4352x32, .f32⟩
  | 107 => ⟨S1x4352x1x32, .f32⟩
  | 108 => ⟨S16x4352x4x32, .f32⟩
  | 109 => ⟨S16x4352x4x32, .f32⟩
  | 110 => ⟨S16x4352x4x32, .f32⟩
  | 111 => ⟨S16x4352x4x32, .f32⟩
  | 112 => ⟨S16x4352x4x32, .f32⟩
  | 113 => ⟨S16x4352x4x32, .f32⟩
  | 114 => ⟨S16x4352x4x32, .f32⟩
  | 115 => ⟨S16x4352x4x32, .f32⟩
  | 116 => ⟨S16x4352x4x32, .f32⟩
  | 117 => ⟨S16x4352x4x32, .f32⟩
  | 118 => ⟨S16x4352x4x64, .f32⟩
  | 119 => ⟨S16x4352x3x64, .f32⟩
  | 120 => ⟨S_, .i32⟩
  | 121 => ⟨S_, .f32⟩
  | 122 => ⟨S16x4352x3x128, .f32⟩
  | 123 => ⟨S16x4352x3x64, .f32⟩
  | 124 => ⟨S_, .i32⟩
  | 125 => ⟨S_, .f32⟩
  | 126 => ⟨S16x4352x3x128, .f32⟩
  | 127 => ⟨S16x4352x3x64, .f32⟩
  | _ => ⟨S16x4352x1024, .f32⟩

abbrev hbmTy0_1 (i : Nat) : BufTy := match i % 128 with
  | 0 => ⟨S_, .i32⟩
  | 1 => ⟨S_, .f32⟩
  | 2 => ⟨S16x4352x3x128, .f32⟩
  | 3 => ⟨S16x4352x3x64, .f32⟩
  | 4 => ⟨S_, .i32⟩
  | 5 => ⟨S_, .f32⟩
  | 6 => ⟨S16x4352x3x128, .f32⟩
  | 7 => ⟨S16x4352x12x128, .f32⟩
  | 8 => ⟨S16x12x4352x128, .f32⟩
  | 9 => ⟨S16x12x4352x128, .bf16⟩
  | 10 => ⟨S16x4352x2x128, .f32⟩
  | 11 => ⟨S16x2x4352x128, .f32⟩
  | 12 => ⟨S16x2x4352x128, .bf16⟩
  | 13 => ⟨S16x4352x256, .f32⟩
  | 14 => ⟨S16x4352x2x128, .f32⟩
  | 15 => ⟨S16x2x4352x128, .f32⟩
  | 16 => ⟨S16x2x4352x128, .bf16⟩
  | 17 => ⟨S16x4352x256, .f32⟩
  | _ => ⟨S16x4352x1024, .f32⟩

abbrev hbmTy (i : Nat) : BufTy := match i / 128 with
  | 0 => hbmTy0_0 i
  | 1 => hbmTy0_1 i
  | _ => ⟨S16x4352x1024, .f32⟩

abbrev bufTy : (tb : Table) → Fin (tcTables nBuf tb) → BufTy
  | .hbm, ⟨i, _⟩ => hbmTy i
  | _, _ => ⟨S16x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_c : Ref sig .tc := ⟨.hbm, 120, rfl⟩
abbrev main_call0_v0 : Ref sig .tc := ⟨.hbm, 121, rfl⟩
abbrev main_v101 : Ref sig .tc := ⟨.hbm, 122, rfl⟩
abbrev main_v102 : Ref sig .tc := ⟨.hbm, 123, rfl⟩
abbrev main_c_10 : Ref sig .tc := ⟨.hbm, 124, rfl⟩
abbrev main_call1_v0 : Ref sig .tc := ⟨.hbm, 125, rfl⟩
abbrev main_v103 : Ref sig .tc := ⟨.hbm, 126, rfl⟩
abbrev main_v104 : Ref sig .tc := ⟨.hbm, 127, rfl⟩
abbrev main_c_11 : Ref sig .tc := ⟨.hbm, 128, rfl⟩
abbrev main_call2_v0 : Ref sig .tc := ⟨.hbm, 129, rfl⟩
abbrev main_v105 : Ref sig .tc := ⟨.hbm, 130, rfl⟩
abbrev main_v106 : Ref sig .tc := ⟨.hbm, 131, rfl⟩
abbrev main_c_12 : Ref sig .tc := ⟨.hbm, 132, rfl⟩
abbrev main_call3_v0 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩

abbrev nD : Nat := 1
abbrev τ : Topo := Topo.v7x

variable {F : FTy → Type} [FloatOps F]
-- ==== Even.lean ====
abbrev S16x4352x1024 : Shape := ⟨3, ![16, 4352, 1024]⟩
abbrev S24x6x1024 : Shape := ⟨3, ![24, 6, 1024]⟩
abbrev S1024 : Shape := ⟨1, ![1024]⟩
abbrev S1024x672 : Shape := ⟨2, ![1024, 672]⟩
abbrev S256 : Shape := ⟨1, ![256]⟩
abbrev S256x1152 : Shape := ⟨2, ![256, 1152]⟩
abbrev S96 : Shape := ⟨1, ![96]⟩
abbrev S128 : Shape := ⟨1, ![128]⟩
abbrev S128x1536 : Shape := ⟨2, ![128, 1536]⟩
abbrev S16x4352 : Shape := ⟨2, ![16, 4352]⟩
abbrev S1x1024 : Shape := ⟨2, ![1, 1024]⟩
abbrev S672x1024 : Shape := ⟨2, ![672, 1024]⟩
abbrev S256x1 : Shape := ⟨2, ![256, 1]⟩
abbrev S1152x256 : Shape := ⟨2, ![1152, 256]⟩
abbrev S96x1 : Shape := ⟨2, ![96, 1]⟩
abbrev S128x1 : Shape := ⟨2, ![128, 1]⟩
abbrev S1536x128 : Shape := ⟨2, ![1536, 128]⟩
abbrev S16x12x4352x128 : Shape := ⟨4, ![16, 12, 4352, 128]⟩
abbrev S16x12x128x4352 : Shape := ⟨4, ![16, 12, 128, 4352]⟩
abbrev S16x768x4352 : Shape := ⟨3, ![16, 768, 4352]⟩
abbrev S16x4352x256 : Shape := ⟨3, ![16, 4352, 256]⟩
abbrev S1x256x1024 : Shape := ⟨3, ![1, 256, 1024]⟩
abbrev S1x6x1024 : Shape := ⟨3, ![1, 6, 1024]⟩
abbrev S16x256 : Shape := ⟨2, ![16, 256]⟩
abbrev S1x12x256x128 : Shape := ⟨4, ![1, 12, 256, 128]⟩
abbrev S1x12x128x256 : Shape := ⟨4, ![1, 12, 128, 256]⟩
abbrev S1x768x256 : Shape := ⟨3, ![1, 768, 256]⟩
abbrev S1x256x256 : Shape := ⟨3, ![1, 256, 256]⟩
abbrev S6x1024 : Shape := ⟨2, ![6, 1024]⟩
abbrev S256x1024 : Shape := ⟨2, ![256, 1024]⟩
abbrev S672x256 : Shape := ⟨2, ![672, 256]⟩
abbrev S32x256 : Shape := ⟨2, ![32, 256]⟩
abbrev S256x256 : Shape := ⟨2, ![256, 256]⟩
abbrev S1x256 : Shape := ⟨2, ![1, 256]⟩
abbrev S96x256 : Shape := ⟨2, ![96, 256]⟩
abbrev S64x256 : Shape := ⟨2, ![64, 256]⟩
abbrev S128x256 : Shape := ⟨2, ![128, 256]⟩
abbrev S256x128 : Shape := ⟨2, ![256, 128]⟩
abbrev S1x1x256x128 : Shape := ⟨4, ![1, 1, 256, 128]⟩
abbrev S1536x256 : Shape := ⟨2, ![1536, 256]⟩
abbrev S64x1 : Shape := ⟨2, ![64, 1]⟩
abbrev S32x1 : Shape := ⟨2, ![32, 1]⟩
abbrev S1x1x128x256 : Shape := ⟨4, ![1, 1, 128, 256]⟩
abbrev S1x64x256 : Shape := ⟨3, ![1, 64, 256]⟩

abbrev nBuf : Space → Nat
  | .hbm => 27
  | .vmem => 24
  | .smem => 0
  | _ => 0

abbrev bufTy : (tb : Table) → Fin (tcTables nBuf tb) → BufTy
  | .hbm, ⟨0, _⟩ => ⟨S16x4352x1024, .f32⟩
  | .hbm, ⟨1, _⟩ => ⟨S24x6x1024, .f32⟩
  | .hbm, ⟨2, _⟩ => ⟨S1024, .f32⟩
  | .hbm, ⟨3, _⟩ => ⟨S1024x672, .f32⟩
  | .hbm, ⟨4, _⟩ => ⟨S256, .f32⟩
  | .hbm, ⟨5, _⟩ => ⟨S256x1152, .f32⟩
  | .hbm, ⟨6, _⟩ => ⟨S96, .f32⟩
  | .hbm, ⟨7, _⟩ => ⟨S128, .f32⟩
  | .hbm, ⟨8, _⟩ => ⟨S128x1536, .f32⟩
  | .hbm, ⟨9, _⟩ => ⟨S96, .f32⟩
  | .hbm, ⟨10, _⟩ => ⟨S16x4352, .f32⟩
  | .hbm, ⟨11, _⟩ => ⟨S16x4352, .f32⟩
  | .hbm, ⟨12, _⟩ => ⟨S1x1024, .f32⟩
  | .hbm, ⟨13, _⟩ => ⟨S672x1024, .f32⟩
  | .hbm, ⟨14, _⟩ => ⟨S672x1024, .bf16⟩
  | .hbm, ⟨15, _⟩ => ⟨S256x1, .f32⟩
  | .hbm, ⟨16, _⟩ => ⟨S1152x256, .f32⟩
  | .hbm, ⟨17, _⟩ => ⟨S1152x256, .bf16⟩
  | .hbm, ⟨18, _⟩ => ⟨S96x1, .f32⟩
  | .hbm, ⟨19, _⟩ => ⟨S128x1, .f32⟩
  | .hbm, ⟨20, _⟩ => ⟨S1536x128, .f32⟩
  | .hbm, ⟨21, _⟩ => ⟨S1536x128, .bf16⟩
  | .hbm, ⟨22, _⟩ => ⟨S96x1, .f32⟩
  | .hbm, ⟨23, _⟩ => ⟨S16x12x4352x128, .bf16⟩
  | .hbm, ⟨24, _⟩ => ⟨S16x12x128x4352, .bf16⟩
  | .hbm, ⟨25, _⟩ => ⟨S16x768x4352, .bf16⟩
  | .hbm, ⟨26, _⟩ => ⟨S16x4352x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S672x1024, .bf16⟩
  | .local _ .vmem, ⟨6, _⟩ => ⟨S256x1, .f32⟩
  | .local _ .vmem, ⟨7, _⟩ => ⟨S1152x256, .bf16⟩
  | .local _ .vmem, ⟨8, _⟩ => ⟨S96x1, .f32⟩
  | .local _ .vmem, ⟨9, _⟩ => ⟨S128x1, .f32⟩
  | .local _ .vmem, ⟨10, _⟩ => ⟨S1536x128, .bf16⟩
  | .local _ .vmem, ⟨11, _⟩ => ⟨S96x1, .f32⟩
  | .local _ .vmem, ⟨12, _⟩ => ⟨S16x256, .f32⟩
  | .local _ .vmem, ⟨13, _⟩ => ⟨S16x256, .f32⟩
  | .local _ .vmem, ⟨14, _⟩ => ⟨S16x256, .f32⟩
  | .local _ .vmem, ⟨15, _⟩ => ⟨S16x256, .f32⟩
  | .local _ .vmem, ⟨16, _⟩ => ⟨S1x12x256x128, .bf16⟩
  | .local _ .vmem, ⟨17, _⟩ => ⟨S1x12x256x128, .bf16⟩
  | .local _ .vmem, ⟨18, _⟩ => ⟨S1x12x128x256, .bf16⟩
  | .local _ .vmem, ⟨19, _⟩ => ⟨S1x12x128x256, .bf16⟩
  | .local _ .vmem, ⟨20, _⟩ => ⟨S1x768x256, .bf16⟩
  | .local _ .vmem, ⟨21, _⟩ => ⟨S1x768x256, .bf16⟩
  | .local _ .vmem, ⟨22, _⟩ => ⟨S1x256x256, .bf16⟩
  | .local _ .vmem, ⟨23, _⟩ => ⟨S1x256x256, .bf16⟩
  | _, _ => ⟨S16x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.select v0 arg0 c16_i32_0
  let c0_i32 : BitVec 32 := 0#32
  let c0_i32_1 : BitVec 32 := 0#32
  let c0_i32_2 : BitVec 32 := 0#32
  ![v1.toNat, c0_i32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S672x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1152x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S96x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1536x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S96x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x12x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x12x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x768x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== EvenIdeal.lean ====
variable {F : FTy → Type} [FloatOps F] [Named F]
def κ : String → Option EReal := fun
  | "one_96th" => some ((1 / 96 : ℝ) : EReal)
  | _ => none
-- ==== EvenRefIdeal.lean ====
abbrev S16x4352x1024 : Shape := ⟨3, ![16, 4352, 1024]⟩
abbrev S24x6x1024 : Shape := ⟨3, ![24, 6, 1024]⟩
abbrev S1024 : Shape := ⟨1, ![1024]⟩
abbrev S1024x672 : Shape := ⟨2, ![1024, 672]⟩
abbrev S256 : Shape := ⟨1, ![256]⟩
abbrev S256x1152 : Shape := ⟨2, ![256, 1152]⟩
abbrev S96 : Shape := ⟨1, ![96]⟩
abbrev S128 : Shape := ⟨1, ![128]⟩
abbrev S128x1536 : Shape := ⟨2, ![128, 1536]⟩
abbrev S16x4352 : Shape := ⟨2, ![16, 4352]⟩
abbrev S_ : Shape := ⟨0, ![]⟩
abbrev S16x4352x1 : Shape := ⟨3, ![16, 4352, 1]⟩
abbrev S1x1x1024 : Shape := ⟨3, ![1, 1, 1024]⟩
abbrev S16x1x1024 : Shape := ⟨3, ![16, 1, 1024]⟩
abbrev S16x1024 : Shape := ⟨2, ![16, 1024]⟩
abbrev S16x4096x1024 : Shape := ⟨3, ![16, 4096, 1024]⟩
abbrev S16x256x1024 : Shape := ⟨3, ![16, 256, 1024]⟩
abbrev S16x4352x672 : Shape := ⟨3, ![16, 4352, 672]⟩
abbrev S16x4352x256 : Shape := ⟨3, ![16, 4352, 256]⟩
abbrev S1x1x256 : Shape := ⟨3, ![1, 1, 256]⟩
abbrev S16x4352x1152 : Shape := ⟨3, ![16, 4352, 1152]⟩
abbrev S16x4352x12x96 : Shape := ⟨4, ![16, 4352, 12, 96]⟩
abbrev S16x4352x12 : Shape := ⟨3, ![16, 4352, 12]⟩
abbrev S16x4352x12x1 : Shape := ⟨4, ![16, 4352, 12, 1]⟩
abbrev S1x1x1x96 : Shape := ⟨4, ![1, 1, 1, 96]⟩
abbrev S16x4352x12x16 : Shape := ⟨4, ![16, 4352, 12, 16]⟩
abbrev S4352x16 : Shape := ⟨2, ![4352, 16]⟩
abbrev S1x4352x1x16 : Shape := ⟨4, ![1, 4352, 1, 16]⟩
abbrev S16x4352x12x64 : Shape := ⟨4, ![16, 4352, 12, 64]⟩
abbrev S16x4352x128 : Shape := ⟨3, ![16, 4352, 128]⟩
abbrev S1x1x128 : Shape := ⟨3, ![1, 1, 128]⟩
abbrev S16x4352x1536 : Shape := ⟨3, ![16, 4352, 1536]⟩
abbrev S16x4352x12x128 : Shape := ⟨4, ![16, 4352, 12, 128]⟩
abbrev S16x4352x32 : Shape := ⟨3, ![16, 4352, 32]⟩
abbrev S16x4352x1x32 : Shape := ⟨4, ![16, 4352, 1, 32]⟩
abbrev S16x4352x12x32 : Shape := ⟨4, ![16, 4352, 12, 32]⟩
abbrev S16x4352x768 : Shape := ⟨3, ![16, 4352, 768]⟩
abbrev S16x768x4352 : Shape := ⟨3, ![16, 768, 4352]⟩
abbrev S16x12x4352x128 : Shape := ⟨4, ![16, 12, 4352, 128]⟩
abbrev S16x12x128x4352 : Shape := ⟨4, ![16, 12, 128, 4352]⟩

abbrev nBuf : Space → Nat
  | .hbm => 180
  | .vmem => 0
  | .smem => 0
  | _ => 0

abbrev hbmTy0_0 (i : Nat) : BufTy := match i % 128 with
  | 0 => ⟨S16x4352x1024, .f32⟩
  | 1 => ⟨S24x6x1024, .f32⟩
  | 2 => ⟨S1024, .f32⟩
  | 3 => ⟨S1024x672, .f32⟩
  | 4 => ⟨S256, .f32⟩
  | 5 => ⟨S256x1152, .f32⟩
  | 6 => ⟨S96, .f32⟩
  | 7 => ⟨S128, .f32⟩
  | 8 => ⟨S128x1536, .f32⟩
  | 9 => ⟨S96, .f32⟩
  | 10 => ⟨S16x4352, .f32⟩
  | 11 => ⟨S16x4352, .f32⟩
  | 12 => ⟨S16x4352x1024, .f32⟩
  | 13 => ⟨S_, .f32⟩
  | 14 => ⟨S16x4352, .f32⟩
  | 15 => ⟨S16x4352x1, .f32⟩
  | 16 => ⟨S_, .f32⟩
  | 17 => ⟨S16x4352x1, .f32⟩
  | 18 => ⟨S16x4352x1, .f32⟩
  | 19 => ⟨S_, .f32⟩
  | 20 => ⟨S16x4352x1, .f32⟩
  | 21 => ⟨S16x4352x1, .f32⟩
  | 22 => ⟨S16x4352x1, .f32⟩
  | 23 => ⟨S16x4352x1024, .f32⟩
  | 24 => ⟨S16x4352x1024, .f32⟩
  | 25 => ⟨S1x1x1024, .f32⟩
  | 26 => ⟨S16x4352x1024, .f32⟩
  | 27 => ⟨S16x4352x1024, .f32⟩
  | 28 => ⟨S16x1x1024, .f32⟩
  | 29 => ⟨S16x1024, .f32⟩
  | 30 => ⟨S16x1x1024, .f32⟩
  | 31 => ⟨S16x4096x1024, .f32⟩
  | 32 => ⟨S1x1x1024, .f32⟩
  | 33 => ⟨S1024, .f32⟩
  | 34 => ⟨S16x256x1024, .f32⟩
  | 35 => ⟨S16x4352x1024, .f32⟩
  | 36 => ⟨S16x1x1024, .f32⟩
  | 37 => ⟨S16x1024, .f32⟩
  | 38 => ⟨S16x1x1024, .f32⟩
  | 39 => ⟨S16x4096x1024, .f32⟩
  | 40 => ⟨S1x1x1024, .f32⟩
  | 41 => ⟨S1024, .f32⟩
  | 42 => ⟨S16x256x1024, .f32⟩
  | 43 => ⟨S16x4352x1024, .f32⟩
  | 44 => ⟨S_, .f32⟩
  | 45 => ⟨S16x4352x1024, .f32⟩
  | 46 => ⟨S16x4352x1024, .f32⟩
  | 47 => ⟨S16x4352x1024, .f32⟩
  | 48 => ⟨S16x4352x1024, .f32⟩
  | 49 => ⟨S16x4352x672, .f32⟩
  | 50 => ⟨S16x4352x256, .f32⟩
  | 51 => ⟨S16x4352x256, .f32⟩
  | 52 => ⟨S_, .f32⟩
  | 53 => ⟨S16x4352, .f32⟩
  | 54 => ⟨S16x4352x1, .f32⟩
  | 55 => ⟨S_, .f32⟩
  | 56 => ⟨S16x4352x1, .f32⟩
  | 57 => ⟨S16x4352x1, .f32⟩
  | 58 => ⟨S_, .f32⟩
  | 59 => ⟨S16x4352x1, .f32⟩
  | 60 => ⟨S16x4352x1, .f32⟩
  | 61 => ⟨S16x4352x1, .f32⟩
  | 62 => ⟨S16x4352x256, .f32⟩
  | 63 => ⟨S16x4352x256, .f32⟩
  | 64 => ⟨S1x1x256, .f32⟩
  | 65 => ⟨S16x4352x256, .f32⟩
  | 66 => ⟨S16x4352x256, .f32⟩
  | 67 => ⟨S16x4352x1152, .f32⟩
  | 68 => ⟨S16x4352x12x96, .f32⟩
  | 69 => ⟨S16x4352x12x96, .f32⟩
  | 70 => ⟨S_, .f32⟩
  | 71 => ⟨S16x4352x12, .f32⟩
  | 72 => ⟨S16x4352x12x1, .f32⟩
  | 73 => ⟨S_, .f32⟩
  | 74 => ⟨S16x4352x12x1, .f32⟩
  | 75 => ⟨S16x4352x12x1, .f32⟩
  | 76 => ⟨S_, .f32⟩
  | 77 => ⟨S16x4352x12x1, .f32⟩
  | 78 => ⟨S16x4352x12x1, .f32⟩
  | 79 => ⟨S16x4352x12x1, .f32⟩
  | 80 => ⟨S16x4352x12x96, .f32⟩
  | 81 => ⟨S16x4352x12x96, .f32⟩
  | 82 => ⟨S1x1x1x96, .f32⟩
  | 83 => ⟨S16x4352x12x96, .f32⟩
  | 84 => ⟨S16x4352x12x96, .f32⟩
  | 85 => ⟨S16x4352x12x16, .f32⟩
  | 86 => ⟨S16x4352x12x16, .f32⟩
  | 87 => ⟨S4352x16, .f32⟩
  | 88 => ⟨S1x4352x1x16, .f32⟩
  | 89 => ⟨S4352x16, .f32⟩
  | 90 => ⟨S1x4352x1x16, .f32⟩
  | 91 => ⟨S16x4352x12x64, .f32⟩
  | 92 => ⟨S16x4352x12x16, .f32⟩
  | 93 => ⟨S16x4352x12x16, .f32⟩
  | 94 => ⟨S16x4352x12x16, .f32⟩
  | 95 => ⟨S16x4352x12x16, .f32⟩
  | 96 => ⟨S16x4352x12x16, .f32⟩
  | 97 => ⟨S16x4352x12x16, .f32⟩
  | 98 => ⟨S16x4352x12x16, .f32⟩
  | 99 => ⟨S16x4352x12x16, .f32⟩
  | 100 => ⟨S16x4352x12x16, .f32⟩
  | 101 => ⟨S16x4352x12x16, .f32⟩
  | 102 => ⟨S16x4352x12x96, .f32⟩
  | 103 => ⟨S_, .f32⟩
  | 104 => ⟨S16x4352x12x96, .f32⟩
  | 105 => ⟨S16x4352x12x96, .f32⟩
  | 106 => ⟨S16x4352x128, .f32⟩
  | 107 => ⟨S16x4352x128, .f32⟩
  | 108 => ⟨S_, .f32⟩
  | 109 => ⟨S16x4352, .f32⟩
  | 110 => ⟨S16x4352x1, .f32⟩
  | 111 => ⟨S_, .f32⟩
  | 112 => ⟨S16x4352x1, .f32⟩
  | 113 => ⟨S16x4352x1, .f32⟩
  | 114 => ⟨S_, .f32⟩
  | 115 => ⟨S16x4352x1, .f32⟩
  | 116 => ⟨S16x4352x1, .f32⟩
  | 117 => ⟨S16x4352x1, .f32⟩
  | 118 => ⟨S16x4352x128, .f32⟩
  | 119 => ⟨S16x4352x128, .f32⟩
  | 120 => ⟨S1x1x128, .f32⟩
  | 121 => ⟨S16x4352x128, .f32⟩
  | 122 => ⟨S16x4352x128, .f32⟩
  | 123 => ⟨S16x4352x1536, .f32⟩
  | 124 => ⟨S16x4352x12x128, .f32⟩
  | 125 => ⟨S16x4352x32, .f32⟩
  | 126 => ⟨S16x4352x1x32, .f32⟩
  | 127 => ⟨S16x4352x12x32, .f32⟩
  | _ => ⟨S16x4352x1024, .f32⟩

abbrev hbmTy0_1 (i : Nat) : BufTy := match i % 128 with
  | 0 => ⟨S16x4352x12x64, .f32⟩
  | 1 => ⟨S16x4352x12x96, .f32⟩
  | 2 => ⟨S16x4352x12x96, .f32⟩
  | 3 => ⟨S_, .f32⟩
  | 4 => ⟨S16x4352x12, .f32⟩
  | 5 => ⟨S16x4352x12x1, .f32⟩
  | 6 => ⟨S_, .f32⟩
  | 7 => ⟨S16x4352x12x1, .f32⟩
  | 8 => ⟨S16x4352x12x1, .f32⟩
  | 9 => ⟨S_, .f32⟩
  | 10 => ⟨S16x4352x12x1, .f32⟩
  | 11 => ⟨S16x4352x12x1, .f32⟩
  | 12 => ⟨S16x4352x12x1, .f32⟩
  | 13 => ⟨S16x4352x12x96, .f32⟩
  | 14 => ⟨S16x4352x12x96, .f32⟩
  | 15 => ⟨S1x1x1x96, .f32⟩
  | 16 => ⟨S16x4352x12x96, .f32⟩
  | 17 => ⟨S16x4352x12x96, .f32⟩
  | 18 => ⟨S16x4352x12x16, .f32⟩
  | 19 => ⟨S16x4352x12x16, .f32⟩
  | 20 => ⟨S4352x16, .f32⟩
  | 21 => ⟨S1x4352x1x16, .f32⟩
  | 22 => ⟨S4352x16, .f32⟩
  | 23 => ⟨S1x4352x1x16, .f32⟩
  | 24 => ⟨S16x4352x12x64, .f32⟩
  | 25 => ⟨S16x4352x12x16, .f32⟩
  | 26 => ⟨S16x4352x12x16, .f32⟩
  | 27 => ⟨S16x4352x12x16, .f32⟩
  | 28 => ⟨S16x4352x12x16, .f32⟩
  | 29 => ⟨S16x4352x12x16, .f32⟩
  | 30 => ⟨S16x4352x12x16, .f32⟩
  | 31 => ⟨S16x4352x12x16, .f32⟩
  | 32 => ⟨S16x4352x12x16, .f32⟩
  | 33 => ⟨S16x4352x12x16, .f32⟩
  | 34 => ⟨S16x4352x12x16, .f32⟩
  | 35 => ⟨S16x4352x12x96, .f32⟩
  | 36 => ⟨S16x4352x12x64, .f32⟩
  | 37 => ⟨S16x4352x768, .f32⟩
  | 38 => ⟨S16x768x4352, .f32⟩
  | 39 => ⟨S16x768x4352, .bf16⟩
  | 40 => ⟨S_, .i32⟩
  | 41 => ⟨S_, .f32⟩
  | 42 => ⟨S16x4352x12x128, .f32⟩
  | 43 => ⟨S16x4352x12x128, .bf16⟩
  | 44 => ⟨S16x12x4352x128, .bf16⟩
  | 45 => ⟨S_, .i32⟩
  | 46 => ⟨S_, .f32⟩
  | 47 => ⟨S16x4352x12x128, .f32⟩
  | 48 => ⟨S16x4352x12x128, .bf16⟩
  | 49 => ⟨S16x12x128x4352, .bf16⟩
  | 50 => ⟨S16x4352x256, .f32⟩
  | 51 => ⟨S16x4352x256, .bf16⟩
  | _ => ⟨S16x4352x1024, .f32⟩

abbrev hbmTy (i : Nat) : BufTy := match i / 128 with
  | 0 => hbmTy0_0 i
  | 1 => hbmTy0_1 i
  | _ => ⟨S16x4352x1024, .f32⟩

abbrev bufTy : (tb : Table) → Fin (tcTables nBuf tb) → BufTy
  | .hbm, ⟨i, _⟩ => hbmTy i
  | _, _ => ⟨S16x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_9 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_10 : Ref sig .tc := ⟨.hbm, 108, rfl⟩
abbrev main_v85 : Ref sig .tc := ⟨.hbm, 109, rfl⟩
abbrev main_v86 : Ref sig .tc := ⟨.hbm, 110, rfl⟩
abbrev main_cst_11 : Ref sig .tc := ⟨.hbm, 111, rfl⟩
abbrev main_v87 : Ref sig .tc := ⟨.hbm, 112, rfl⟩
abbrev main_v88 : Ref sig .tc := ⟨.hbm, 113, rfl⟩
abbrev main_cst_12 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_13 : Ref sig .tc := ⟨.hbm, 131, rfl⟩
abbrev main_v105 : Ref sig .tc := ⟨.hbm, 132, rfl⟩
abbrev main_v106 : Ref sig .tc := ⟨.hbm, 133, rfl⟩
abbrev main_cst_14 : Ref sig .tc := ⟨.hbm, 134, rfl⟩
abbrev main_v107 : Ref sig .tc := ⟨.hbm, 135, rfl⟩
abbrev main_v108 : Ref sig .tc := ⟨.hbm, 136, rfl⟩
abbrev main_cst_15 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_c : Ref sig .tc := ⟨.hbm, 168, rfl⟩
abbrev main_call0_v0 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_c_16 : Ref sig .tc := ⟨.hbm, 173, rfl⟩
abbrev main_call1_v0 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩

abbrev nD : Nat := 1
abbrev τ : Topo := Topo.v7x

variable {F : FTy → Type} [FloatOps F]
-- ==== Proof.Softmax.lean ====
module

public import Idealize.ShloMosaic.Lib.Pointwise

@[expose] public section

/-! The mathematics of one row of attention: a row of scores `s`, one number per key, and a column `v` of values.
    The weights are `exp (s k - peak)`; the kernel divides the weighted sum by the total of the weights at the end,
    the reference divides every weight first. The two agree whenever every score is a real number. -/

noncomputable section
open Idealize.ShloMosaic
namespace Cert.Attention

variable {n : ℕ}

/-- The largest score of the row (the fold starts at minus infinity). -/
def peak (s : Fin n → EReal) : EReal := Finset.univ.fold max (Ideal.ofBits .f32 0xFF800000#32) s

/-- The weight of key `k` before normalisation. -/
def weight (s : Fin n → EReal) (k : Fin n) : EReal := Ideal.exp (s k - peak s)

/-- The sum of all weights. -/
def total (s : Fin n → EReal) : EReal := ∑ k, weight s k

/-- The attention of the row, divided after the sum over the keys. -/
def divAfter (s v : Fin n → EReal) : EReal := Ideal.div (∑ k, weight s k * v k) (total s)

/-- The attention of the row, every weight divided before the sum over the keys. -/
def divBefore (s v : Fin n → EReal) : EReal := ∑ k, Ideal.div (weight s k) (total s) * v k

/-- The word `0xFF800000` is minus infinity. -/
theorem ofBits_bot : Ideal.ofBits .f32 0xFF800000#32 = (⊥ : EReal) := by
  simp [Ideal.ofBits, Ideal.ieee]

/-- The peak is the supremum of the row. -/
theorem peak_eq_iSup (s : Fin n → EReal) : peak s = ⨆ k, s k := by
  unfold peak
  rw [ofBits_bot, ← Finset.sup_univ_eq_iSup]
  rfl

/-- The peak does not depend on the order of the keys. -/
theorem peak_perm (e : Fin n ≃ Fin n) (s : Fin n → EReal) : peak (fun k => s (e k)) = peak s := by
  rw [peak_eq_iSup, peak_eq_iSup]
  exact e.iSup_comp

/-- The total does not depend on the order of the keys. -/
theorem total_perm (e : Fin n ≃ Fin n) (s : Fin n → EReal) : total (fun k => s (e k)) = total s := by
  unfold total weight
  rw [peak_perm e s]
  exact Equiv.sum_comp e fun k => Ideal.exp (s k - peak s)

/-- The attention of the row does not depend on the order of the keys, as long as scores and values move together. -/
theorem divBefore_perm (e : Fin n ≃ Fin n) (s v : Fin n → EReal) :
    divBefore (fun k => s (e k)) (fun k => v (e k)) = divBefore s v := by
  unfold divBefore
  rw [total_perm e s]
  unfold weight
  rw [peak_perm e s]
  exact Equiv.sum_comp e fun k => Ideal.div (Ideal.exp (s k - peak s)) (total s) * v k

/-- A sum of real numbers is a real number. -/
theorem sum_real {m : ℕ} (f : Fin m → EReal) (h : ∀ k, ∃ r : ℝ, f k = r) : ∃ r : ℝ, ∑ k, f k = r := by
  choose g hg using h
  refine ⟨∑ k, g k, ?_⟩
  rw [Finset.sum_congr rfl fun k _ => hg k]
  induction (Finset.univ : Finset (Fin m)) using Finset.induction_on with
  | empty => simp
  | insert a t ha ih => rw [Finset.sum_insert ha, Finset.sum_insert ha, ih, EReal.coe_add]

/-- The product of two real numbers is a real number. -/
theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- The peak of a nonempty row of real scores is a real number. -/
theorem peak_real [NeZero n] (s : Fin n → EReal) (hs : ∀ k, ∃ r : ℝ, s k = r) : ∃ r : ℝ, peak s = r := by
  rw [peak_eq_iSup, ← Finset.sup_univ_eq_iSup]
  obtain ⟨k, _, hk⟩ := Finset.exists_mem_eq_sup (Finset.univ : Finset (Fin n)) ⟨0, Finset.mem_univ 0⟩ s
  rw [hk]
  exact hs k

/-- The weights of a row of real scores are positive real numbers. -/
theorem weight_pos [NeZero n] (s : Fin n → EReal) (hs : ∀ k, ∃ r : ℝ, s k = r) (k : Fin n) :
    ∃ r : ℝ, 0 < r ∧ weight s k = r := by
  obtain ⟨p, hp⟩ := peak_real s hs
  obtain ⟨a, ha⟩ := hs k
  refine ⟨Real.exp (a - p), Real.exp_pos _, ?_⟩
  unfold weight
  rw [ha, hp, ← EReal.coe_sub]
  rfl

/-- The total of a nonempty row of real scores is a positive real number. -/
theorem total_pos [NeZero n] (s : Fin n → EReal) (hs : ∀ k, ∃ r : ℝ, s k = r) : ∃ r : ℝ, 0 < r ∧ total s = r := by
  choose g hg using weight_pos s hs
  refine ⟨∑ k, g k, Finset.sum_pos (fun k _ => (hg k).1) ⟨0, Finset.mem_univ 0⟩, ?_⟩
  unfold total
  rw [Finset.sum_congr rfl fun k _ => (hg k).2]
  induction (Finset.univ : Finset (Fin n)) using Finset.induction_on with
  | empty => simp
  | insert a t ha ih => rw [Finset.sum_insert ha, Finset.sum_insert ha, ih, EReal.coe_add]

/-- A real factor that is not negative moves into a sum of extended reals. -/
theorem sum_mul_coe {m : ℕ} (f : Fin m → EReal) (r : ℝ) (hr : 0 ≤ r) : (∑ k, f k) * (r : EReal) = ∑ k, f k * r := by
  induction (Finset.univ : Finset (Fin m)) using Finset.induction_on with
  | empty => simp
  | insert a t ha ih =>
    rw [Finset.sum_insert ha, Finset.sum_insert ha, ← ih, mul_comm _ (r : EReal), mul_comm _ (r : EReal), mul_comm _ (r : EReal)]
    exact EReal.left_distrib_of_nonneg_of_ne_top (EReal.coe_nonneg.mpr hr) (EReal.coe_ne_top r) _ _

/-- On a nonempty row of real scores it does not matter whether the division comes before or after the sum: the values
    may be anything, infinities included. -/
theorem divAfter_eq_divBefore [NeZero n] (s v : Fin n → EReal) (hs : ∀ k, ∃ r : ℝ, s k = r) : divAfter s v = divBefore s v := by
  obtain ⟨l, hl, ht⟩ := total_pos s hs
  unfold divAfter divBefore
  rw [ht, Ideal.div_coe hl.ne', sum_mul_coe _ _ (by positivity)]
  refine Finset.sum_congr rfl fun k _ => ?_
  rw [Ideal.div_coe hl.ne', mul_right_comm]

end Cert.Attention

end
-- ==== Proof.AttnSpec.lean ====
module

public import proofs.«01_k».proof.Proof.Softmax

@[expose] public section

/-! The attention call as one function of its three arguments: queries `q` (batch, head, token, feature), keys `kT`
    (batch, head, feature, token), values `v` (batch, column, token; column `e` belongs to head `e / 64`). The first
    4096 tokens are latent and attend to all 4352 tokens; the last 256 are context and attend to the context only. -/

noncomputable section
open Idealize.ShloMosaic
namespace Cert.Attention

/-- The score of query token `i` against key token `k` in head `h`. -/
def score (q : FVec Ideal ⟨4, ![16, 12, 4352, 128]⟩ .bf16) (kT : FVec Ideal ⟨4, ![16, 12, 128, 4352]⟩ .bf16)
    (b : Fin 16) (h : Fin 12) (i k : Fin 4352) : EReal :=
  ∑ d : Fin 128, q (ix4 b h i d) * kT (ix4 b h d k)

/-- The head that column `e` of the result belongs to. -/
def headOf (e : Fin 768) : Fin 12 := ⟨e.val / 64, by omega⟩

/-- The `k`-th context token. -/
def ctx (k : Fin 256) : Fin 4352 := ⟨4096 + k.val, by omega⟩

/-- The result of a latent token, by a rule `f` for one row of scores and one column of values. -/
def latOut (f : (Fin 4352 → EReal) → (Fin 4352 → EReal) → EReal) (q : FVec Ideal ⟨4, ![16, 12, 4352, 128]⟩ .bf16)
    (kT : FVec Ideal ⟨4, ![16, 12, 128, 4352]⟩ .bf16) (v : FVec Ideal ⟨3, ![16, 768, 4352]⟩ .bf16)
    (b : Fin 16) (i : Fin 4352) (e : Fin 768) : EReal :=
  f (fun k => score q kT b (headOf e) i k) (fun k => v (ix3 b e k))

/-- The result of a context token, by a rule `f` for one row of scores and one column of values. -/
def ctxOut (f : (Fin 256 → EReal) → (Fin 256 → EReal) → EReal) (q : FVec Ideal ⟨4, ![16, 12, 4352, 128]⟩ .bf16)
    (kT : FVec Ideal ⟨4, ![16, 12, 128, 4352]⟩ .bf16) (v : FVec Ideal ⟨3, ![16, 768, 4352]⟩ .bf16)
    (b : Fin 16) (i : Fin 4352) (e : Fin 768) : EReal :=
  f (fun k => score q kT b (headOf e) i (ctx k)) (fun k => v (ix3 b e (ctx k)))

/-- What the kernel computes at batch `b`, token `i`, column `e`: every row divided after its sum. -/
def kernelAt (q : FVec Ideal ⟨4, ![16, 12, 4352, 128]⟩ .bf16) (kT : FVec Ideal ⟨4, ![16, 12, 128, 4352]⟩ .bf16)
    (v : FVec Ideal ⟨3, ![16, 768, 4352]⟩ .bf16) (b : Fin 16) (i : Fin 4352) (e : Fin 768) : EReal :=
  if i.val < 4096 then latOut divAfter q kT v b i e else ctxOut divAfter q kT v b i e

/-- What the reference computes at batch `b`, token `i`, column `e`: every weight divided before the sum. -/
def referenceAt (q : FVec Ideal ⟨4, ![16, 12, 4352, 128]⟩ .bf16) (kT : FVec Ideal ⟨4, ![16, 12, 128, 4352]⟩ .bf16)
    (v : FVec Ideal ⟨3, ![16, 768, 4352]⟩ .bf16) (b : Fin 16) (i : Fin 4352) (e : Fin 768) : EReal :=
  if i.val < 4096 then latOut divBefore q kT v b i e else ctxOut divBefore q kT v b i e

/-- Real queries and keys give real scores. -/
theorem score_real (q : FVec Ideal ⟨4, ![16, 12, 4352, 128]⟩ .bf16) (kT : FVec Ideal ⟨4, ![16, 12, 128, 4352]⟩ .bf16)
    (hq : ∀ j, ∃ r : ℝ, q j = (r : EReal)) (hk : ∀ j, ∃ r : ℝ, kT j = (r : EReal)) (b : Fin 16) (h : Fin 12) (i k : Fin 4352) :
    ∃ r : ℝ, score q kT b h i k = r :=
  sum_real _ fun d => mul_real (hq _) (hk _)

/-- THE EQUATION: on real queries and keys, whatever the values, kernel and reference compute the same. -/
theorem kernelAt_eq_referenceAt (q : FVec Ideal ⟨4, ![16, 12, 4352, 128]⟩ .bf16) (kT : FVec Ideal ⟨4, ![16, 12, 128, 4352]⟩ .bf16)
    (v : FVec Ideal ⟨3, ![16, 768, 4352]⟩ .bf16) (hq : ∀ j, ∃ r : ℝ, q j = (r : EReal)) (hk : ∀ j, ∃ r : ℝ, kT j = (r : EReal))
    (b : Fin 16) (i : Fin 4352) (e : Fin 768) : kernelAt q kT v b i e = referenceAt q kT v b i e := by
  unfold kernelAt referenceAt latOut ctxOut
  rw [divAfter_eq_divBefore _ _ fun k => score_real q kT hq hk b _ i k,
    divAfter_eq_divBefore _ _ fun k => score_real q kT hq hk b _ i (ctx k)]

end Cert.Attention

end
-- ==== Proof.AttnArray.lean ====
module

public import proofs.«01_k».proof.Proof.Gen.AttnIdeal.Value
public import proofs.«01_k».proof.Proof.AttnSpec
public import Idealize.ShloMosaic.Lib.Pipeline.ValueKit
public import Idealize.ShloMosaic.Lib.Pointwise

@[expose] public section

/-! What the attention kernel leaves in its result array: `Cert.Attention.kernelAt` at every index. -/

set_option maxRecDepth 16384
noncomputable section
open Idealize.ShloMosaic Idealize.ShloMosaic.TcCoe Idealize.SL.Sem
open Idealize.ShloMosaic.Pipeline (Dat)
namespace Cert.AttnIdeal.Value
open Cert.AttnIdeal Cert.AttnIdeal.Gen
variable (m : (ℓ : Loc nD τ sig) → Buf (Elt Ideal) ℓ)

/-- Where each window's block lies at grid point `t`: batch `t / 102`, pair of heads `t / 17 % 6`, token tile `t % 17`. -/
theorem idx : ∀ t : Fin cfg0.N, win0_0.index t = ![t.val / 102, t.val / 17 % 6, t.val % 17, 0]
    ∧ win0_1.index t = ![t.val / 102, t.val / 17 % 6, 0, 0]
    ∧ win0_2.index t = ![t.val / 102, t.val / 17 % 6, 0]
    ∧ win0_3.index t = ![t.val / 102, t.val % 17, t.val / 17 % 6] :=
  (by decide +kernel : ∀ t : Fin grid0.N, _)

/-- The whole result array as a function of the arguments. -/
def OUT (q : FVec Ideal S16x12x4352x128 .bf16) (kT : FVec Ideal S16x12x128x4352 .bf16)
    (v : FVec Ideal S16x768x4352 .bf16) : FVec Ideal S16x4352x768 .bf16 :=
  fun j => Cert.Attention.kernelAt q kT v (j 0) (j 1) (j 2)

/-- A vector selected by a lane comparison, as a plain case distinction. -/
theorem sel (y : Fin 128) (a b : EReal) :
    Scalar.select (IntOp.cmpi CmpIPredicate.slt (BitVec.ofNat 32 y.val) 64#32) a b = if y.val < 64 then a else b := by
  by_cases h : y.val < 64 <;> simp only [h, ↓reduceIte]
  · have : IntOp.cmpi CmpIPredicate.slt (BitVec.ofNat 32 y.val) 64#32 = 1#1 := by word_cmp
    rw [this]; rfl
  · have : IntOp.cmpi CmpIPredicate.slt (BitVec.ofNat 32 y.val) 64#32 = 0#1 := by word_cmp
    rw [this]; rfl

/-- The attention of a row depends only on its scores and its values. -/
theorem divAfter_congr {n : ℕ} {s s' v v' : Fin n → EReal} (hs : ∀ k, s k = s' k) (hv : ∀ k, v k = v' k) :
    Cert.Attention.divAfter s v = Cert.Attention.divAfter s' v' := by
  rw [funext hs, funext hv]

/-- POINT, a tile of latent tokens: what the body stores at `y` is the result array's value where `y` lies. -/
theorem pointA (c : Dev nD) (t : Fin cfg0.N) (h0 : t.val % 17 ≤ 15) (h1 : ¬t.val % 17 = 16) (y : S1x256x128.Idx) :
    outsAt0 m c t.val t.isLt y = OUT (m ((c : Thread nD τ).loc main_arg0)) (m ((c : Thread nD τ).loc main_arg1))
      (m ((c : Thread nD τ).loc main_arg2)) ((win0_3.blk t).view.emb y) := by
  rw [outsAt0_A m c t h0 h1]
  frame_out
  idx_vars y
  have ht : t.val < 1632 := lt_of_lt_of_eq t.isLt Gen.N_0
  pointwise [k0_pay1, k0_pay4, k0_pay6, k0_pay7, k0_pay5, k0_pay3]
  rw [sel]
  unfold OUT Cert.Attention.kernelAt
  have hlt : (((win0_3.blk t).view.emb (ix3 y0 y1 y2)) 1).val < 4096 := by blk_simp [idx t]; omega
  rw [if_pos hlt]
  unfold Cert.Attention.latOut Cert.Attention.score Cert.Attention.headOf
  by_cases h : y2.val < 64
  · rw [if_pos h]
    refine (divAfter_congr (n := 4352)
      (s := fun k => ∑ d : Fin 128, (show EReal from iblk m c 0 t (ix4 0 0 y1 d)) * (show EReal from iblk m c 1 t (ix4 0 0 d k)))
      (v := fun k => iblk m c 2 t (ix3 0 y2 k)) (fun k => ?_) (fun k => ?_))
    · exact Finset.sum_congr rfl fun d _ => Ideal.mul_congr (by blk_ext [iblk, V, idx t]) (by blk_ext [iblk, V, idx t])
    · blk_ext [iblk, V, idx t]
  · rw [if_neg h]
    refine (divAfter_congr (n := 4352)
      (s := fun k => ∑ d : Fin 128, (show EReal from iblk m c 0 t (ix4 0 1 y1 d)) * (show EReal from iblk m c 1 t (ix4 0 1 d k)))
      (v := fun k => iblk m c 2 t (ix3 0 y2 k)) (fun k => ?_) (fun k => ?_))
    · exact Finset.sum_congr rfl fun d _ => Ideal.mul_congr (by blk_ext [iblk, V, idx t]) (by blk_ext [iblk, V, idx t])
    · blk_ext [iblk, V, idx t]

/-- POINT, the tile of context tokens: what the body stores at `y` is the result array's value where `y` lies. -/
theorem pointB (c : Dev nD) (t : Fin cfg0.N) (h0 : ¬t.val % 17 ≤ 15) (h1 : t.val % 17 = 16) (y : S1x256x128.Idx) :
    outsAt0 m c t.val t.isLt y = OUT (m ((c : Thread nD τ).loc main_arg0)) (m ((c : Thread nD τ).loc main_arg1))
      (m ((c : Thread nD τ).loc main_arg2)) ((win0_3.blk t).view.emb y) := by
  rw [outsAt0_B m c t h0 h1]
  frame_out
  idx_vars y
  have ht : t.val < 1632 := lt_of_lt_of_eq t.isLt Gen.N_0
  pointwise [k0_pay2, k0_pay9, k0_pay11, k0_pay12, k0_pay10, k0_pay8]
  rw [sel]
  unfold OUT Cert.Attention.kernelAt
  have hlt : ¬ (((win0_3.blk t).view.emb (ix3 y0 y1 y2)) 1).val < 4096 := by blk_simp [idx t]; omega
  rw [if_neg hlt]
  unfold Cert.Attention.ctxOut Cert.Attention.score Cert.Attention.headOf Cert.Attention.ctx
  by_cases h : y2.val < 64
  · rw [if_pos h]
    refine (divAfter_congr (n := 256)
      (s := fun k => ∑ d : Fin 128, (show EReal from iblk m c 0 t (ix4 0 0 y1 d)) * (show EReal from iblk m c 1 t (ix4 0 0 d ⟨4096 + k.val, by omega⟩)))
      (v := fun k => iblk m c 2 t (ix3 0 y2 ⟨4096 + k.val, by omega⟩)) (fun k => ?_) (fun k => ?_))
    · exact Finset.sum_congr rfl fun d _ => Ideal.mul_congr (by blk_ext [iblk, V, idx t]) (by blk_ext [iblk, V, idx t])
    · blk_ext [iblk, V, idx t]
  · rw [if_neg h]
    refine (divAfter_congr (n := 256)
      (s := fun k => ∑ d : Fin 128, (show EReal from iblk m c 0 t (ix4 0 1 y1 d)) * (show EReal from iblk m c 1 t (ix4 0 1 d ⟨4096 + k.val, by omega⟩)))
      (v := fun k => iblk m c 2 t (ix3 0 y2 ⟨4096 + k.val, by omega⟩)) (fun k => ?_) (fun k => ?_))
    · exact Finset.sum_congr rfl fun d _ => Ideal.mul_congr (by blk_ext [iblk, V, idx t]) (by blk_ext [iblk, V, idx t])
    · blk_ext [iblk, V, idx t]

/-- FINAL: the result array after the run. -/
theorem final (c : Dev nD) : (dats m 0 c).arrAt 3 cfg0.N
    = OUT (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h : t.val % 17 = 16
  · exact pointB m c t (by omega) h y
  · exact pointA m c t (by omega) h y

end Cert.AttnIdeal.Value

end
-- ==== Proof.AttnRefRead.lean ====
module

public import proofs.«01_k».proof.Proof.Gen.AttnRefIdeal.Run
public import proofs.«01_k».proof.Proof.AttnSpec
public import Idealize.ShloMosaic.Lib.Pointwise

@[expose] public section

/-! What the reference computes: `Cert.Attention.referenceAt` at every index. -/

set_option maxRecDepth 16384
noncomputable section
open Idealize.ShloMosaic Idealize.ShloMosaic.TcCoe Idealize.SL.Sem
namespace Cert.AttnRefIdeal.Value
open Cert.AttnRefIdeal Cert.AttnRefIdeal.Gen

/-- The scores of the latent tokens: context keys first, latent keys after them. -/
def scoresLat (q : FVec Ideal S16x12x4352x128 .bf16) (kT : FVec Ideal S16x12x128x4352 .bf16) : FVec Ideal S16x12x4096x4352 .f32 :=
  concatenate S16x12x4096x4352 3 [⟨S16x12x4096x256, (Host.dotGeneral dot_S16x4096x12x128_S16x256x12x128_S16x12x4096x256_3_3_1_1_02_02 none (extractStridedSlice S16x4096x12x128 ![0, 0, 0, 0] (transpose S16x4352x12x128 [0, 2, 1, 3] (extf .f32 q bitsLt_bf16_f32) transposes_S16x12x4352x128_S16x4352x12x128_0_2_1_3) slices_S16x4352x12x128_S16x4096x12x128_0_0_0_0) (extractStridedSlice S16x256x12x128 ![0, 4096, 0, 0] (transpose S16x4352x12x128 [0, 3, 1, 2] (extf .f32 kT bitsLt_bf16_f32) transposes_S16x12x128x4352_S16x4352x12x128_0_3_1_2) slices_S16x4352x12x128_S16x256x12x128_0_4096_0_0))⟩, ⟨S16x12x4096x4096, (Host.dotGeneral dot_S16x4096x12x128_S16x4096x12x128_S16x12x4096x4096_3_3_1_1_02_02 none (extractStridedSlice S16x4096x12x128 ![0, 0, 0, 0] (transpose S16x4352x12x128 [0, 2, 1, 3] (extf .f32 q bitsLt_bf16_f32) transposes_S16x12x4352x128_S16x4352x12x128_0_2_1_3) slices_S16x4352x12x128_S16x4096x12x128_0_0_0_0) (extractStridedSlice S16x4096x12x128 ![0, 0, 0, 0] (transpose S16x4352x12x128 [0, 3, 1, 2] (extf .f32 kT bitsLt_bf16_f32) transposes_S16x12x128x4352_S16x4352x12x128_0_3_1_2) slices_S16x4352x12x128_S16x4096x12x128_0_0_0_0))⟩] concatenates_S16x12x4096x256_S16x12x4096x4096_S16x12x4096x4352_d3

/-- Every latent token's largest score. -/
def maxLat (s : FVec Ideal S16x12x4096x4352 .f32) : FVec Ideal S16x12x4096 .f32 :=
  Host.reduce FloatOps.maximumf s (constant S_ .f32 0xFF800000#32) reducesTo_S16x12x4096x4352_S16x12x4096_d3 h_S_

/-- The weights of the latent tokens before normalisation, from the scores and the largest scores. -/
def weightsLat (s : FVec Ideal S16x12x4096x4352 .f32) (M : FVec Ideal S16x12x4096 .f32) : FVec Ideal S16x12x4096x4352 .f32 :=
  Host.exp (subf s (broadcastInDim S16x12x4096x4352 ![0, 1, 2, 3] bcast_S16x12x4096x1_S16x12x4096x4352_0_1_2_3 (broadcastInDim S16x12x4096x1 ![0, 1, 2] bcast_S16x12x4096_S16x12x4096x1_0_1_2 (maximumf (broadcastInDim S16x12x4096 ![] bcast_S_S16x12x4096 (constant S_ .f32 0xFF800000#32)) M))))

/-- The normalised weights of the latent tokens. -/
def probsLat (p : FVec Ideal S16x12x4096x4352 .f32) : FVec Ideal S16x12x4096x4352 .f32 :=
  Host.divf p (broadcastInDim S16x12x4096x4352 ![0, 1, 2, 3] bcast_S16x12x4096x1_S16x12x4096x4352_0_1_2_3 (broadcastInDim S16x12x4096x1 ![0, 1, 2] bcast_S16x12x4096_S16x12x4096x1_0_1_2 (Host.reduceAdd p (constant S_ .f32 0x00000000#32) reducesTo_S16x12x4096x4352_S16x12x4096_d3 h_S_)))

/-- The values, laid out token by token. -/
def values (v : FVec Ideal S16x768x4352 .bf16) : FVec Ideal S16x4352x12x64 .f32 :=
  transpose S16x4352x12x64 [0, 3, 1, 2] (shapeCast S16x12x64x4352 (extf .f32 v bitsLt_bf16_f32) shapeCasts_S16x768x4352_S16x12x64x4352) transposes_S16x12x64x4352_S16x4352x12x64_0_3_1_2

/-- The weighted values of the latent tokens. -/
def outLat (p : FVec Ideal S16x12x4096x4352 .f32) (v : FVec Ideal S16x768x4352 .bf16) : FVec Ideal S16x4096x768 .f32 :=
  shapeCast S16x4096x768 (addf (transpose S16x4096x12x64 [0, 3, 1, 2] (Host.dotGeneral dot_S16x256x12x64_S16x12x4096x256_S16x12x64x4096_1_3_3_2_02_01 none (extractStridedSlice S16x256x12x64 ![0, 4096, 0, 0] (values v) slices_S16x4352x12x64_S16x256x12x64_0_4096_0_0) (extractStridedSlice S16x12x4096x256 ![0, 0, 0, 0] p slices_S16x12x4096x4352_S16x12x4096x256_0_0_0_0)) transposes_S16x12x64x4096_S16x4096x12x64_0_3_1_2) (transpose S16x4096x12x64 [0, 3, 1, 2] (Host.dotGeneral dot_S16x4096x12x64_S16x12x4096x4096_S16x12x64x4096_1_3_3_2_02_01 none (extractStridedSlice S16x4096x12x64 ![0, 0, 0, 0] (values v) slices_S16x4352x12x64_S16x4096x12x64_0_0_0_0) (extractStridedSlice S16x12x4096x4096 ![0, 0, 0, 256] p slices_S16x12x4096x4352_S16x12x4096x4096_0_0_0_256)) transposes_S16x12x64x4096_S16x4096x12x64_0_3_1_2)) shapeCasts_S16x4096x12x64_S16x4096x768

/-- The scores of the context tokens against the context keys. -/
def scoresCtx (q : FVec Ideal S16x12x4352x128 .bf16) (kT : FVec Ideal S16x12x128x4352 .bf16) : FVec Ideal S16x12x256x256 .f32 :=
  Host.dotGeneral dot_S16x256x12x128_S16x256x12x128_S16x12x256x256_3_3_1_1_02_02 none (extractStridedSlice S16x256x12x128 ![0, 4096, 0, 0] (transpose S16x4352x12x128 [0, 2, 1, 3] (extf .f32 q bitsLt_bf16_f32) transposes_S16x12x4352x128_S16x4352x12x128_0_2_1_3) slices_S16x4352x12x128_S16x256x12x128_0_4096_0_0) (extractStridedSlice S16x256x12x128 ![0, 4096, 0, 0] (transpose S16x4352x12x128 [0, 3, 1, 2] (extf .f32 kT bitsLt_bf16_f32) transposes_S16x12x128x4352_S16x4352x12x128_0_3_1_2) slices_S16x4352x12x128_S16x256x12x128_0_4096_0_0)

/-- Every context token's largest score. -/
def maxCtx (s : FVec Ideal S16x12x256x256 .f32) : FVec Ideal S16x12x256 .f32 :=
  Host.reduce FloatOps.maximumf s (constant S_ .f32 0xFF800000#32) reducesTo_S16x12x256x256_S16x12x256_d3 h_S_

/-- The weights of the context tokens before normalisation, from the scores and the largest scores. -/
def weightsCtx (s : FVec Ideal S16x12x256x256 .f32) (M : FVec Ideal S16x12x256 .f32) : FVec Ideal S16x12x256x256 .f32 :=
  Host.exp (subf s (broadcastInDim S16x12x256x256 ![0, 1, 2, 3] bcast_S16x12x256x1_S16x12x256x256_0_1_2_3 (broadcastInDim S16x12x256x1 ![0, 1, 2] bcast_S16x12x256_S16x12x256x1_0_1_2 (maximumf (broadcastInDim S16x12x256 ![] bcast_S_S16x12x256 (constant S_ .f32 0xFF800000#32)) M))))

/-- The normalised weights of the context tokens. -/
def probsCtx (p : FVec Ideal S16x12x256x256 .f32) : FVec Ideal S16x12x256x256 .f32 :=
  Host.divf p (broadcastInDim S16x12x256x256 ![0, 1, 2, 3] bcast_S16x12x256x1_S16x12x256x256_0_1_2_3 (broadcastInDim S16x12x256x1 ![0, 1, 2] bcast_S16x12x256_S16x12x256x1_0_1_2 (Host.reduceAdd p (constant S_ .f32 0x00000000#32) reducesTo_S16x12x256x256_S16x12x256_d3 h_S_)))

/-- The weighted values of the context tokens. -/
def outCtx (p : FVec Ideal S16x12x256x256 .f32) (v : FVec Ideal S16x768x4352 .bf16) : FVec Ideal S16x256x768 .f32 :=
  shapeCast S16x256x768 (transpose S16x256x12x64 [0, 3, 1, 2] (Host.dotGeneral dot_S16x256x12x64_S16x12x256x256_S16x12x64x256_1_3_3_2_02_01 none (extractStridedSlice S16x256x12x64 ![0, 4096, 0, 0] (values v) slices_S16x4352x12x64_S16x256x12x64_0_4096_0_0) p) transposes_S16x12x64x256_S16x256x12x64_0_3_1_2) shapeCasts_S16x256x12x64_S16x256x768

/-- The reference's result as a function of its arguments. -/
def REF (q : FVec Ideal S16x12x4352x128 .bf16) (kT : FVec Ideal S16x12x128x4352 .bf16) (v : FVec Ideal S16x768x4352 .bf16) :
    FVec Ideal S16x4352x768 .bf16 :=
  truncf .bf16 (concatenate S16x4352x768 1 [⟨S16x4096x768, outLat (probsLat (weightsLat (scoresLat q kT) (maxLat (scoresLat q kT)))) v⟩,
    ⟨S16x256x768, outCtx (probsCtx (weightsCtx (scoresCtx q kT) (maxCtx (scoresCtx q kT)))) v⟩] concatenates_S16x4096x768_S16x256x768_S16x4352x768_d1) bitsLt_bf16_f32

/-- The run's result is `REF` of the arguments. -/
theorem res_eq (m : (ℓ : Loc nD τ sig) → Buf (Elt Ideal) ℓ) (c : Dev nD) :
    res_out0 m c = REF (m ((c : Thread nD τ).loc main_arg0)) (m ((c : Thread nD τ).loc main_arg1)) (m ((c : Thread nD τ).loc main_arg2)) := by
  unfold res_out0 res_main_v51 REF outLat outCtx probsLat probsCtx weightsLat weightsCtx maxLat maxCtx scoresLat scoresCtx values
  rfl

open Cert.Attention (score ctx headOf weight peak total divBefore)

/-- The reference takes the keys in the order context, latent: its `k`-th key is key `refKey k` of the whole array. -/
def refKey : Fin 4352 ≃ Fin 4352 where
  toFun k := ⟨if k.val < 256 then 4096 + k.val else k.val - 256, by split <;> omega⟩
  invFun k := ⟨if k.val < 4096 then 256 + k.val else k.val - 4096, by split <;> omega⟩
  left_inv k := by ext; simp only; split <;> split <;> omega
  right_inv k := by ext; simp only; split <;> split <;> omega

/-- A latent token's score against the `k`-th key in the reference's order. -/
theorem scoresLat_at (q : FVec Ideal S16x12x4352x128 .bf16) (kT : FVec Ideal S16x12x128x4352 .bf16) (b : Fin 16) (h : Fin 12)
    (i : Fin 4096) (k : Fin 4352) : scoresLat q kT (ix4 b h i k) = score q kT b h ⟨i.val, by omega⟩ (refKey k) := by
  pointwise [scoresLat]
  by_cases hk : k.val < 256
  · rw [dif_pos hk]
    have : refKey k = ⟨4096 + k.val, by omega⟩ := Fin.ext (if_pos hk)
    rw [this]
    rfl
  · rw [dif_neg hk]
    have : refKey k = ⟨k.val - 256, by omega⟩ := Fin.ext (if_neg hk)
    rw [this]
    rfl

/-- A fold of maxima that starts at minus infinity does not change when it is maximised with minus infinity. -/
theorem max_peak {n : ℕ} (s : Fin n → EReal) : max (Ideal.ofBits .f32 0xFF800000#32) (peak s) = peak s := by
  rw [Cert.Attention.ofBits_bot]
  exact max_eq_right bot_le

/-- A maximum over the last of four axes, from minus infinity, at an index: the peak of that row. -/
theorem reduceMax_at {n0 n1 n2 n3 : ℕ} (x : FVec Ideal ⟨4, ![n0, n1, n2, n3]⟩ .f32)
    (h : (⟨4, ![n0, n1, n2, n3]⟩ : Shape).ReducesTo [3] ⟨3, ![n0, n1, n2]⟩) (hu : 0 < S_.numel) (a : Fin n0) (b : Fin n1) (c : Fin n2) :
    Host.reduce FloatOps.maximumf x (constant S_ .f32 0xFF800000#32) h hu (ix3 a b c) = peak fun k : Fin n3 => x (ix4 a b c k) := by
  rw [Host.reduce_eq_fold, Shape.ReducesTo.fold_fiber_r4_a3]
  rfl

/-- A latent token's largest score. -/
theorem maxLat_at (s : FVec Ideal S16x12x4096x4352 .f32) (b : Fin 16) (h : Fin 12) (i : Fin 4096) :
    maxLat s (ix3 b h i) = peak fun k : Fin 4352 => s (ix4 b h i k) :=
  reduceMax_at s reducesTo_S16x12x4096x4352_S16x12x4096_d3 h_S_ b h i

/-- A latent token's weights before normalisation. -/
theorem weightsLat_at (s : FVec Ideal S16x12x4096x4352 .f32) (b : Fin 16) (h : Fin 12) (i : Fin 4096) (k : Fin 4352) :
    weightsLat s (maxLat s) (ix4 b h i k) = weight (fun k : Fin 4352 => s (ix4 b h i k)) k := by
  have e : ∀ M, weightsLat s M (ix4 b h i k) = Ideal.exp (s (ix4 b h i k) - max (Ideal.ofBits .f32 0xFF800000#32) (M (ix3 b h i))) := by
    intro M
    pointwise [weightsLat]
  rw [e, maxLat_at, max_peak, weight]

/-- A latent token's normalised weights. -/
theorem probsLat_at (s : FVec Ideal S16x12x4096x4352 .f32) (b : Fin 16) (h : Fin 12)
    (i : Fin 4096) (k : Fin 4352) : probsLat s (ix4 b h i k) = Ideal.div (s (ix4 b h i k)) (∑ k : Fin 4352, s (ix4 b h i k)) := by
  pointwise [probsLat]

/-- A latent token's result: the context keys' part plus the latent keys' part. -/
theorem outLat_at (p : FVec Ideal S16x12x4096x4352 .f32) (v : FVec Ideal S16x768x4352 .bf16) (b : Fin 16)
    (i : Fin 4096) (e : Fin 768) : outLat p v (ix3 b i e) = ∑ k : Fin 4352, p (ix4 b (headOf e) i k) * v (ix3 b e (refKey k)) := by
  pointwise [outLat, values]
  rw [Fin.sum_univ_two_halves 256 4096 rfl]
  refine congrArg₂ (· + ·) (Finset.sum_congr rfl fun k _ => ?_) (Finset.sum_congr rfl fun k _ => ?_)
  · have : refKey ⟨k.val, by omega⟩ = ⟨4096 + k.val, by omega⟩ := Fin.ext (if_pos k.isLt)
    rw [mul_comm, this]
    rfl
  · have : refKey ⟨256 + k.val, by omega⟩ = ⟨k.val, by omega⟩ :=
      Fin.ext ((if_neg (by simp)).trans (Nat.add_sub_cancel_left 256 k.val))
    rw [mul_comm, this]
    rfl

/-- A context token's score against the `k`-th context key. -/
theorem scoresCtx_at (q : FVec Ideal S16x12x4352x128 .bf16) (kT : FVec Ideal S16x12x128x4352 .bf16) (b : Fin 16) (h : Fin 12)
    (i : Fin 256) (k : Fin 256) : scoresCtx q kT (ix4 b h i k) = score q kT b h (ctx i) (ctx k) := by
  pointwise [scoresCtx, Cert.Attention.score, Cert.Attention.ctx]

/-- A context token's largest score. -/
theorem maxCtx_at (s : FVec Ideal S16x12x256x256 .f32) (b : Fin 16) (h : Fin 12) (i : Fin 256) :
    maxCtx s (ix3 b h i) = peak fun k : Fin 256 => s (ix4 b h i k) :=
  reduceMax_at s reducesTo_S16x12x256x256_S16x12x256_d3 h_S_ b h i

/-- A context token's weights before normalisation. -/
theorem weightsCtx_at (s : FVec Ideal S16x12x256x256 .f32) (b : Fin 16) (h : Fin 12) (i : Fin 256) (k : Fin 256) :
    weightsCtx s (maxCtx s) (ix4 b h i k) = weight (fun k : Fin 256 => s (ix4 b h i k)) k := by
  have e : ∀ M, weightsCtx s M (ix4 b h i k) = Ideal.exp (s (ix4 b h i k) - max (Ideal.ofBits .f32 0xFF800000#32) (M (ix3 b h i))) := by
    intro M
    pointwise [weightsCtx]
  rw [e, maxCtx_at, max_peak, weight]

/-- A context token's normalised weights. -/
theorem probsCtx_at (s : FVec Ideal S16x12x256x256 .f32) (b : Fin 16) (h : Fin 12)
    (i : Fin 256) (k : Fin 256) : probsCtx s (ix4 b h i k) = Ideal.div (s (ix4 b h i k)) (∑ k : Fin 256, s (ix4 b h i k)) := by
  pointwise [probsCtx]

/-- A context token's result. -/
theorem outCtx_at (p : FVec Ideal S16x12x256x256 .f32) (v : FVec Ideal S16x768x4352 .bf16) (b : Fin 16)
    (i : Fin 256) (e : Fin 768) : outCtx p v (ix3 b i e) = ∑ k : Fin 256, p (ix4 b (headOf e) i k) * v (ix3 b e (ctx k)) := by
  pointwise [outCtx, values]
  exact Finset.sum_congr rfl fun k _ => mul_comm _ _

/-- THE REFERENCE at an index. -/
theorem REF_at (q : FVec Ideal S16x12x4352x128 .bf16) (kT : FVec Ideal S16x12x128x4352 .bf16) (v : FVec Ideal S16x768x4352 .bf16)
    (b : Fin 16) (i : Fin 4352) (e : Fin 768) : REF q kT v (ix3 b i e) = Cert.Attention.referenceAt q kT v b i e := by
  have hR : REF q kT v (ix3 b i e) = if h : i.val < 4096 then outLat (probsLat (weightsLat (scoresLat q kT) (maxLat (scoresLat q kT)))) v (ix3 b ⟨i.val, h⟩ e)
      else outCtx (probsCtx (weightsCtx (scoresCtx q kT) (maxCtx (scoresCtx q kT)))) v (ix3 b ⟨i.val - 4096, by omega⟩ e) := by
    pointwise [REF]
  refine hR.trans ?_
  unfold Cert.Attention.referenceAt
  by_cases h : i.val < 4096
  · rw [dif_pos h, if_pos h, outLat_at]
    have hw : ∀ k : Fin 4352, weightsLat (scoresLat q kT) (maxLat (scoresLat q kT)) (ix4 b (headOf e) ⟨i.val, h⟩ k)
        = weight (fun k => score q kT b (headOf e) i (refKey k)) k := fun k =>
      (weightsLat_at _ b (headOf e) ⟨i.val, h⟩ k).trans
        (congrArg (fun s => weight s k) (funext fun k => scoresLat_at q kT b (headOf e) ⟨i.val, h⟩ k))
    have hp : ∀ k : Fin 4352, probsLat (weightsLat (scoresLat q kT) (maxLat (scoresLat q kT))) (ix4 b (headOf e) ⟨i.val, h⟩ k)
        = Ideal.div (weight (fun k => score q kT b (headOf e) i (refKey k)) k) (total (fun k => score q kT b (headOf e) i (refKey k))) := fun k =>
      (probsLat_at _ b (headOf e) ⟨i.val, h⟩ k).trans
        (congrArg₂ Ideal.div (hw k) (Finset.sum_congr rfl fun k _ => hw k))
    refine (Finset.sum_congr rfl fun k _ => congrArg (· * v (ix3 b e (refKey k))) (hp k)).trans ?_
    exact Cert.Attention.divBefore_perm refKey (fun k => score q kT b (headOf e) i k) (fun k => v (ix3 b e k))
  · rw [dif_neg h, if_neg h, outCtx_at]
    have hi : ctx ⟨i.val - 4096, by omega⟩ = i := Fin.ext (by show 4096 + (i.val - 4096) = i.val; omega)
    have hw : ∀ k : Fin 256, weightsCtx (scoresCtx q kT) (maxCtx (scoresCtx q kT)) (ix4 b (headOf e) ⟨i.val - 4096, by omega⟩ k)
        = weight (fun k => score q kT b (headOf e) i (ctx k)) k := fun k =>
      (weightsCtx_at _ b (headOf e) ⟨i.val - 4096, by omega⟩ k).trans
        (congrArg (fun s => weight s k) (funext fun k => (scoresCtx_at q kT b (headOf e) ⟨i.val - 4096, by omega⟩ k).trans (by rw [hi])))
    have hp : ∀ k : Fin 256, probsCtx (weightsCtx (scoresCtx q kT) (maxCtx (scoresCtx q kT))) (ix4 b (headOf e) ⟨i.val - 4096, by omega⟩ k)
        = Ideal.div (weight (fun k => score q kT b (headOf e) i (ctx k)) k) (total (fun k => score q kT b (headOf e) i (ctx k))) := fun k =>
      (probsCtx_at _ b (headOf e) ⟨i.val - 4096, by omega⟩ k).trans
        (congrArg₂ Ideal.div (hw k) (Finset.sum_congr rfl fun k _ => hw k))
    exact Finset.sum_congr rfl fun k _ => congrArg (· * v (ix3 b e (ctx k))) (hp k)

end Cert.AttnRefIdeal.Value

end
-- ==== Proof.AttnPre.lean ====
module

public import proofs.«01_k».proof.Defs
public import proofs.«01_k».proof.Proof.Gen.Pre_finite_q_k
public import Idealize.ShloMosaic.Lib.Pointwise

@[expose] public section

/-! What the precondition says on the extended reals: every query and every key is a real number. -/

set_option maxRecDepth 16384
noncomputable section
open Idealize.ShloMosaic Idealize.SL.Sem
namespace Cert.Attention

/-- An extended real whose absolute value lies below `⊤` is a real number. -/
theorem real_of_abs_lt (x : EReal) (h : max x (-x) < ⊤) : ∃ r : ℝ, x = (r : EReal) := by
  induction x using EReal.rec with
  | bot => simp at h
  | coe r => exact ⟨r, rfl⟩
  | top => simp at h

/-- The bound the precondition compares with is `⊤`. -/
theorem ofBits_top : Ideal.ofBits .f32 0x7F800000#32 = (⊤ : EReal) := by
  simp [Ideal.ofBits, Ideal.ieee]

/-- A comparison `|x| < ⊤` that came out true says that `x` is a real number. -/
theorem real_of_mask (x : EReal)
    (h : Ideal.cmp .olt (max x (-x)) (Ideal.ofBits .f32 0x7F800000#32) = 1#1) : ∃ r : ℝ, x = (r : EReal) := by
  rw [ofBits_top] at h
  refine real_of_abs_lt x ?_
  by_contra hn
  simp [Ideal.cmp, hn] at h

/-- Under the precondition every query is a real number. -/
theorem queries_real [Cert.Pre_finite_q_k.Facts] (q : FVec Ideal ⟨4, ![16, 12, 4352, 128]⟩ .bf16)
    (kT : FVec Ideal ⟨4, ![16, 12, 128, 4352]⟩ .bf16) (v : FVec Ideal ⟨3, ![16, 768, 4352]⟩ .bf16)
    (h : (Cert.Pre_finite_q_k.fn (F := Ideal) q kT v).1 = fun _ => 1#1) (j) : ∃ r : ℝ, q j = (r : EReal) :=
  real_of_mask (q j) (congrFun h j)

/-- Under the precondition every key is a real number. -/
theorem keys_real [Cert.Pre_finite_q_k.Facts] (q : FVec Ideal ⟨4, ![16, 12, 4352, 128]⟩ .bf16)
    (kT : FVec Ideal ⟨4, ![16, 12, 128, 4352]⟩ .bf16) (v : FVec Ideal ⟨3, ![16, 768, 4352]⟩ .bf16)
    (h : (Cert.Pre_finite_q_k.fn (F := Ideal) q kT v).2 = fun _ => 1#1) (j) : ∃ r : ℝ, kT j = (r : EReal) :=
  real_of_mask (kT j) (congrFun h j)

end Cert.Attention
end
-- ==== Proof.AttnClaims.lean ====
module

public import proofs.«01_k».proof.Defs
public import proofs.«01_k».proof.Proof.Gen.Attn.Frame
public import proofs.«01_k».proof.Proof.AttnArray
public import proofs.«01_k».proof.Proof.AttnRefRead
public import proofs.«01_k».proof.Proof.AttnPre
public import Idealize.ShloMosaic.Lib.Claim

@[expose] public section

/-! The claims about the attention call, each read off a run of its program. -/

set_option maxRecDepth 16384
noncomputable section
open Idealize.ShloMosaic Idealize.ShloMosaic.TcCoe Idealize.SL.Sem
namespace Cert.Attention

instance : Cert.Attn.Facts := Cert.Attn.Gen.facts
instance : Cert.AttnIdeal.Facts := Cert.AttnIdeal.Gen.facts
instance : Cert.AttnRefIdeal.Facts := Cert.AttnRefIdeal.Gen.facts
instance : Cert.Pre_finite_q_k.Facts := Cert.Pre_finite_q_k.Gen.facts

/-- On finite queries and keys the array the kernel leaves is the array the reference computes. -/
theorem arrays_eq (m : (ℓ : Loc Cert.AttnIdeal.nD Cert.AttnIdeal.τ Cert.AttnIdeal.sig) → Buf (Elt Ideal) ℓ)
    (hpre : Cert.Pre_AttnIdeal_finite_q_k m) (c : Dev Cert.AttnIdeal.nD) :
    Cert.AttnIdeal.Value.OUT
        (m ((c.tc : Thread Cert.AttnIdeal.nD Cert.AttnIdeal.τ).loc Cert.AttnIdeal.main_arg0))
        (m ((c.tc : Thread Cert.AttnIdeal.nD Cert.AttnIdeal.τ).loc Cert.AttnIdeal.main_arg1))
        (m ((c.tc : Thread Cert.AttnIdeal.nD Cert.AttnIdeal.τ).loc Cert.AttnIdeal.main_arg2))
      = Cert.AttnRefIdeal.Value.REF
        (m ((c.tc : Thread Cert.AttnIdeal.nD Cert.AttnIdeal.τ).loc Cert.AttnIdeal.main_arg0))
        (m ((c.tc : Thread Cert.AttnIdeal.nD Cert.AttnIdeal.τ).loc Cert.AttnIdeal.main_arg1))
        (m ((c.tc : Thread Cert.AttnIdeal.nD Cert.AttnIdeal.τ).loc Cert.AttnIdeal.main_arg2)) := by
  funext j
  obtain ⟨b, i, e, rfl⟩ : ∃ b i e, j = ix3 b i e := ⟨_, _, _, eq_ix3 j⟩
  rw [Cert.AttnRefIdeal.Value.REF_at]
  exact kernelAt_eq_referenceAt _ _ _ (queries_real _ _ _ (hpre c).1) (keys_real _ _ _ (hpre c).2) b i e

/-- Kernel and reference, from equal finite queries and keys and equal values, end with equal results. -/
theorem algebraic : Cert.algebraic_AttnIdeal_AttnRefIdeal_pre_finite_q_k := by
  pair_intro
  · run_from Cert.AttnIdeal.Value.run_blocks m g
  · run_from Cert.AttnRefIdeal.Value.run m' g'
    obtain ⟨h0, h1, h2⟩ := hagree c
    refine (Cert.AttnRefIdeal.Value.res_eq m' c).trans ?_
    refine Eq.trans ?_ (Cert.AttnIdeal.Value.final m c).symm
    refine Eq.trans ?_ (arrays_eq m hpre c).symm
    rw [h0, h1, h2]

/-- The kernel terminates and leaves its arguments and its counters as they were. -/
theorem frame : Cert.quiescent_Attn := fun m g _ => Cert.Attn.Gen.frame m g

/-- So does the kernel over the extended reals. -/
theorem frameIdeal : Cert.quiescent_AttnIdeal := fun m g _ => Cert.AttnIdeal.Gen.frame m g

/-- So does the kernel over the extended reals on finite queries and keys. -/
theorem frameIdealFinite : Cert.quiescent_AttnIdeal_pre_finite_q_k := fun m g _ => Cert.AttnIdeal.Gen.frame m g

/-- So does the reference. -/
theorem frameRef : Cert.quiescent_AttnRefIdeal := fun m g _ =>
  (θ_run Cert.AttnRefIdeal.defs _ _).mono
    (fun r h => ⟨fun c => (h c).2, sem_eq_zero_of_no_sems (by decide) r.2⟩) (Cert.AttnRefIdeal.Value.run m g)

/-- So does the reference on finite queries and keys. -/
theorem frameRefFinite : Cert.quiescent_AttnRefIdeal_pre_finite_q_k := fun m g _ =>
  (θ_run Cert.AttnRefIdeal.defs _ _).mono
    (fun r h => ⟨fun c => (h c).2, sem_eq_zero_of_no_sems (by decide) r.2⟩) (Cert.AttnRefIdeal.Value.run m g)

end Cert.Attention
end
-- ==== Proof.OutSpec.lean ====
module

public import Idealize.ShloMosaic.PureOps.Ideal
public import Idealize.ShloMosaic.Lib.Pointwise

@[expose] public section

/-! The output projection, as one formula per entry of its result. -/

noncomputable section
open Idealize.ShloMosaic
namespace Cert.Layer

/-- The modulation row of token `i` of batch `b`: row `b` for the 4096 latent tokens, row 16 for the context tokens. -/
def modRow (b : Fin 16) (i : Fin 4352) : Fin 24 := if i.val < 4096 then ⟨b.val, by omega⟩ else 16

/-- The two mixer outputs side by side: 768 columns of the first, 256 of the second. -/
def mixed (att : FVec Ideal ⟨3, ![16, 4352, 768]⟩ .bf16) (br : FVec Ideal ⟨3, ![16, 4352, 256]⟩ .bf16)
    (b : Fin 16) (i : Fin 4352) (k : Fin 1024) : EReal :=
  if hk : k.val < 768 then att (ix3 b i ⟨k.val, hk⟩) else br (ix3 b i ⟨k.val - 768, by omega⟩)

/-- The entry of the projection at batch `b`, token `i`, channel `e`. -/
def projected (h : FVec Ideal ⟨3, ![16, 4352, 1024]⟩ .f32) (m : FVec Ideal ⟨3, ![24, 6, 1024]⟩ .f32)
    (att : FVec Ideal ⟨3, ![16, 4352, 768]⟩ .bf16) (br : FVec Ideal ⟨3, ![16, 4352, 256]⟩ .bf16)
    (w : FVec Ideal ⟨2, ![1024, 1024]⟩ .f32) (b : Fin 16) (i : Fin 4352) (e : Fin 1024) : EReal :=
  h (ix3 b i e) + m (ix3 (modRow b i) 2 e) * ∑ k : Fin 1024, mixed att br b i k * w (ix2 k e)

/-- A sum over 1024 columns is the sum over the first 768 plus the sum over the last 256. -/
theorem sum_split (f : Fin 1024 → EReal) :
    ∑ k : Fin 1024, f k = ∑ k : Fin 768, f ⟨k.val, by omega⟩ + ∑ k : Fin 256, f ⟨768 + k.val, by omega⟩ :=
  Fin.sum_univ_add (a := 768) (b := 256) f

/-- The product with the mixer outputs side by side is the sum of the two products. -/
theorem sum_mixed (att : FVec Ideal ⟨3, ![16, 4352, 768]⟩ .bf16) (br : FVec Ideal ⟨3, ![16, 4352, 256]⟩ .bf16)
    (w : FVec Ideal ⟨2, ![1024, 1024]⟩ .f32) (b : Fin 16) (i : Fin 4352) (e : Fin 1024) :
    ∑ k : Fin 1024, mixed att br b i k * w (ix2 k e)
      = ∑ k : Fin 768, (att (ix3 b i k) : EReal) * (w (ix2 ⟨k.val, by omega⟩ e) : EReal)
        + ∑ k : Fin 256, (br (ix3 b i k) : EReal) * (w (ix2 ⟨768 + k.val, by omega⟩ e) : EReal) := by
  refine (sum_split _).trans (congrArg₂ (· + ·) (Finset.sum_congr rfl fun k _ => ?_) (Finset.sum_congr rfl fun k _ => ?_))
  · unfold mixed; rw [dif_pos k.isLt]
  · unfold mixed; rw [dif_neg (by simp)]; simp only [Nat.add_sub_cancel_left]

end Cert.Layer
end
-- ==== Proof.OutArray.lean ====
module

public import proofs.«01_k».proof.Proof.Gen.OutIdeal.Value
public import proofs.«01_k».proof.Proof.OutSpec
public import Idealize.ShloMosaic.Lib.Pipeline.ValueKit
public import Idealize.ShloMosaic.Lib.Pointwise

@[expose] public section

/-! What the output projection's kernel leaves in its result array: `Cert.Layer.projected` at every index. -/

set_option maxRecDepth 16384
noncomputable section
open Idealize.ShloMosaic Idealize.ShloMosaic.TcCoe Idealize.SL.Sem
open Idealize.ShloMosaic.Pipeline (Dat)
namespace Cert.OutIdeal.Value
open Cert.OutIdeal Cert.OutIdeal.Gen
variable (m : (ℓ : Loc nD τ sig) → Buf (Elt Ideal) ℓ)

/-- Where each window's block lies at grid point `t`: batch `t / 17`, token tile `t % 17`; the last tile takes modulation row 16. -/
theorem idx : ∀ t : Fin cfg0.N, win0_0.index t = ![t.val / 17, t.val % 17, 0]
    ∧ win0_1.index t = ![if t.val % 17 < 16 then t.val / 17 else 16, 0, 0]
    ∧ win0_2.index t = ![t.val / 17, t.val % 17, 0]
    ∧ win0_3.index t = ![t.val / 17, t.val % 17, 0]
    ∧ win0_4.index t = ![0, 0]
    ∧ win0_5.index t = ![0, 0]
    ∧ win0_6.index t = ![t.val / 17, t.val % 17, 0] :=
  (by decide +kernel : ∀ t : Fin grid0.N, _)

/-- The whole result array as a function of the arguments. -/
def OUT (h : FVec Ideal S16x4352x1024 .f32) (mo : FVec Ideal S24x6x1024 .f32) (att : FVec Ideal S16x4352x768 .bf16)
    (br : FVec Ideal S16x4352x256 .bf16) (w : FVec Ideal S1024x1024 .f32) : FVec Ideal S16x4352x1024 .f32 :=
  fun j => Cert.Layer.projected h mo att br w (j 0) (j 1) (j 2)

/-- The batch of grid point `t`. -/
def bOf (t : Fin cfg0.N) : Fin 16 := ⟨t.val / 17, by have := lt_of_lt_of_eq t.isLt Gen.N_0; omega⟩

/-- The token at row `y` of grid point `t`. -/
def iOf (t : Fin cfg0.N) (y : Fin 256) : Fin 4352 := ⟨t.val % 17 * 256 + y.val, by omega⟩

/-- The contents of the first weight operand: the upper 768 rows of the weight. -/
theorem V_v1 (c : Dev nD) (k : Fin 768) (e : Fin 1024) :
    (V m c main_v1 : FVec Ideal S768x1024 .bf16) (ix2 k e) = (m ((c : Thread nD τ).loc main_arg4) : FVec Ideal S1024x1024 .f32) (ix2 ⟨k.val, by omega⟩ e) := by
  have : @Eq (FVec Ideal S768x1024 .bf16) (V m c main_v1) (extractStridedSlice S768x1024 ![0, 0] (truncf .bf16 (m ((c : Thread nD τ).loc main_arg4)) bitsLt_bf16_f32) slices_S1024x1024_S768x1024_0_0) := by
    unfold V; after_results; try rfl
  rw [this]
  pointwise

/-- The contents of the second weight operand: the lower 256 rows of the weight. -/
theorem V_v2 (c : Dev nD) (k : Fin 256) (e : Fin 1024) :
    (V m c main_v2 : FVec Ideal S256x1024 .bf16) (ix2 k e) = (m ((c : Thread nD τ).loc main_arg4) : FVec Ideal S1024x1024 .f32) (ix2 ⟨768 + k.val, by omega⟩ e) := by
  have : @Eq (FVec Ideal S256x1024 .bf16) (V m c main_v2) (extractStridedSlice S256x1024 ![768, 0] (truncf .bf16 (m ((c : Thread nD τ).loc main_arg4)) bitsLt_bf16_f32) slices_S1024x1024_S256x1024_768_0) := by
    unfold V; after_results; try rfl
  rw [this]
  pointwise

section
variable (c : Dev nD) (t : Fin cfg0.N)

/-- Where an entry of the output block lies. -/
theorem emb_out (y0 : Fin 1) (y1 : Fin 256) (y2 : Fin 1024) :
    (win0_6.blk t).view.emb (ix3 y0 y1 y2) = (ix3 (bOf t) (iOf t y1) y2 : S16x4352x1024.Idx) := by
  blk_ext [idx t, bOf, iOf]

theorem read0 (y : Fin 256) (e : Fin 1024) :
    (iblk m c 0 t : FVec Ideal S1x256x1024 .f32) (ix3 0 y e) = (m ((c : Thread nD τ).loc main_arg0) : FVec Ideal S16x4352x1024 .f32) (ix3 (bOf t) (iOf t y) e) := by
  blk_ext [iblk, V, idx t, bOf, iOf]

theorem read1 (y : Fin 256) (e : Fin 1024) :
    (iblk m c 1 t : FVec Ideal S1x6x1024 .f32) (ix3 0 2 e) = (m ((c : Thread nD τ).loc main_arg1) : FVec Ideal S24x6x1024 .f32) (ix3 (Cert.Layer.modRow (bOf t) (iOf t y)) 2 e) := by
  have hr : Cert.Layer.modRow (bOf t) (iOf t y) = ⟨if t.val % 17 < 16 then t.val / 17 else 16, by have := lt_of_lt_of_eq t.isLt Gen.N_0; split <;> omega⟩ := by
    apply Fin.ext
    unfold Cert.Layer.modRow iOf bOf
    by_cases h : t.val % 17 < 16
    · rw [if_pos (by show t.val % 17 * 256 + y.val < 4096; omega)]; simp [h]
    · rw [if_neg (by show ¬ t.val % 17 * 256 + y.val < 4096; omega)]; simp [h]
  rw [hr]
  blk_ext [iblk, V, idx t]

theorem read2 (y : Fin 256) (k : Fin 768) :
    (iblk m c 2 t : FVec Ideal S1x256x768 .bf16) (ix3 0 y k) = (m ((c : Thread nD τ).loc main_arg2) : FVec Ideal S16x4352x768 .bf16) (ix3 (bOf t) (iOf t y) k) := by
  blk_ext [iblk, V, idx t, bOf, iOf]

theorem read3 (y : Fin 256) (k : Fin 256) :
    (iblk m c 3 t : FVec Ideal S1x256x256 .bf16) (ix3 0 y k) = (m ((c : Thread nD τ).loc main_arg3) : FVec Ideal S16x4352x256 .bf16) (ix3 (bOf t) (iOf t y) k) := by
  blk_ext [iblk, V, idx t, bOf, iOf]

theorem read4 (k : Fin 768) (e : Fin 1024) :
    (iblk m c 4 t : FVec Ideal S768x1024 .bf16) (ix2 k e) = (m ((c : Thread nD τ).loc main_arg4) : FVec Ideal S1024x1024 .f32) (ix2 ⟨k.val, by omega⟩ e) := by
  refine Eq.trans ?_ (V_v1 m c k e)
  blk_ext [iblk, idx t]

theorem read5 (k : Fin 256) (e : Fin 1024) :
    (iblk m c 5 t : FVec Ideal S256x1024 .bf16) (ix2 k e) = (m ((c : Thread nD τ).loc main_arg4) : FVec Ideal S1024x1024 .f32) (ix2 ⟨768 + k.val, by omega⟩ e) := by
  refine Eq.trans ?_ (V_v2 m c k e)
  blk_ext [iblk, idx t]
end

/-- POINT: what the body stores at `y` is the result array's value where `y` lies. -/
theorem point (c : Dev nD) (t : Fin cfg0.N) (y : S1x256x1024.Idx) :
    out0_6 (iblk m c 0 t) (iblk m c 1 t) (iblk m c 2 t) (iblk m c 3 t) (iblk m c 4 t) (iblk m c 5 t) y
      = OUT (m ((c : Thread nD τ).loc main_arg0)) (m ((c : Thread nD τ).loc main_arg1))
      (m ((c : Thread nD τ).loc main_arg2)) (m ((c : Thread nD τ).loc main_arg3)) (m ((c : Thread nD τ).loc main_arg4))
      ((win0_6.blk t).view.emb y) := by
  frame_out
  idx_vars y
  rw [emb_out]
  show _ = Cert.Layer.projected _ _ _ _ _ (bOf t) (iOf t y1) y2
  unfold Cert.Layer.projected
  rw [Cert.Layer.sum_mixed]
  pointwise [k0_pay1]
  refine congrArg₂ (· + ·) (read0 m c t y1 y2) (Ideal.mul_congr (read1 m c t y1 y2) ?_)
  exact congrArg₂ (· + ·) (Finset.sum_congr rfl fun k _ => Ideal.mul_congr (read2 m c t y1 k) (read4 m c t k y2))
    (Finset.sum_congr rfl fun k _ => Ideal.mul_congr (read3 m c t y1 k) (read5 m c t k y2))

/-- FINAL: the result array after the run. -/
theorem final (c : Dev nD) : (dats m 0 c).arrAt 6 cfg0.N
    = OUT (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  exact point m c t y

end Cert.OutIdeal.Value

end
-- ==== Proof.OutRefRead.lean ====
module

public import proofs.«01_k».proof.Proof.Gen.OutRefIdeal.Run
public import proofs.«01_k».proof.Proof.OutSpec
public import Idealize.ShloMosaic.Lib.Pointwise

@[expose] public section

/-! What the reference of the output projection computes: `Cert.Layer.projected` at every index. -/

set_option maxRecDepth 16384
noncomputable section
open Idealize.ShloMosaic Idealize.ShloMosaic.TcCoe Idealize.SL.Sem
namespace Cert.OutRefIdeal.Value
open Cert.OutRefIdeal Cert.OutRefIdeal.Gen

/-- The two mixer outputs side by side. -/
def joined (att : FVec Ideal S16x4352x768 .bf16) (br : FVec Ideal S16x4352x256 .bf16) : FVec Ideal S16x4352x1024 .f32 :=
  concatenate S16x4352x1024 2 [⟨S16x4352x768, (extf .f32 att bitsLt_bf16_f32)⟩, ⟨S16x4352x256, (extf .f32 br bitsLt_bf16_f32)⟩] concatenates_S16x4352x768_S16x4352x256_S16x4352x1024_d2

/-- The latent tokens' half of the result. -/
def lat (h : FVec Ideal S16x4352x1024 .f32) (mo : FVec Ideal S24x6x1024 .f32) (x : FVec Ideal S16x4352x1024 .f32)
    (w : FVec Ideal S1024x1024 .f32) : FVec Ideal S16x4096x1024 .f32 :=
  addf (extractStridedSlice S16x4096x1024 ![0, 0, 0] h slices_S16x4352x1024_S16x4096x1024_0_0_0) (mulf (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 2, 0] mo slices_S24x6x1024_S16x1x1024_0_2_0) shapeCasts_S16x1x1024_S16x1024))) (Host.dotGeneral dot_S16x4096x1024_S1024x1024_S16x4096x1024_2_0_01_1_n_n none (extractStridedSlice S16x4096x1024 ![0, 0, 0] x slices_S16x4352x1024_S16x4096x1024_0_0_0) w))

/-- The context tokens' half of the result. -/
def con (h : FVec Ideal S16x4352x1024 .f32) (mo : FVec Ideal S24x6x1024 .f32) (x : FVec Ideal S16x4352x1024 .f32)
    (w : FVec Ideal S1024x1024 .f32) : FVec Ideal S16x256x1024 .f32 :=
  addf (extractStridedSlice S16x256x1024 ![0, 4096, 0] h slices_S16x4352x1024_S16x256x1024_0_4096_0) (mulf (broadcastInDim S16x256x1024 ![0, 1, 2] bcast_S1x1x1024_S16x256x1024_0_1_2 (broadcastInDim S1x1x1024 ![2] bcast_S1024_S1x1x1024_2 (shapeCast _ (extractStridedSlice S1x1x1024 ![16, 2, 0] mo slices_S24x6x1024_S1x1x1024_16_2_0) shapeCasts_S1x1x1024_S1024))) (Host.dotGeneral dot_S16x256x1024_S1024x1024_S16x256x1024_2_0_01_1_n_n none (extractStridedSlice S16x256x1024 ![0, 4096, 0] x slices_S16x4352x1024_S16x256x1024_0_4096_0) w))

/-- The reference's result as a function of its arguments. -/
def REF (h : FVec Ideal S16x4352x1024 .f32) (mo : FVec Ideal S24x6x1024 .f32) (att : FVec Ideal S16x4352x768 .bf16)
    (br : FVec Ideal S16x4352x256 .bf16) (w : FVec Ideal S1024x1024 .f32) : FVec Ideal S16x4352x1024 .f32 :=
  concatenate S16x4352x1024 1 [⟨S16x4096x1024, lat h mo (joined att br) w⟩, ⟨S16x256x1024, con h mo (joined att br) w⟩] concatenates_S16x4096x1024_S16x256x1024_S16x4352x1024_d1

open Cert.Layer (modRow mixed projected)

/-- The joined array, read at an index. -/
theorem joined_at (att : FVec Ideal S16x4352x768 .bf16) (br : FVec Ideal S16x4352x256 .bf16) (b : Fin 16) (i : Fin 4352) (k : Fin 1024) :
    joined att br (ix3 b i k) = mixed att br b i k := by
  unfold mixed
  pointwise [joined]

section
variable (h : FVec Ideal S16x4352x1024 .f32) (mo : FVec Ideal S24x6x1024 .f32) (att : FVec Ideal S16x4352x768 .bf16)
    (br : FVec Ideal S16x4352x256 .bf16) (w : FVec Ideal S1024x1024 .f32) (b : Fin 16)

/-- A latent token's entry. -/
theorem lat_at (i : Fin 4096) (e : Fin 1024) :
    lat h mo (joined att br) w (ix3 b i e) = projected h mo att br w b ⟨i.val, by omega⟩ e := by
  have hr : modRow b (⟨i.val, by omega⟩ : Fin 4352) = ⟨b.val, by omega⟩ := if_pos i.isLt
  unfold projected
  rw [hr]
  simp only [← joined_at]
  pointwise [lat]

/-- A context token's entry. -/
theorem con_at (i : Fin 256) (e : Fin 1024) :
    con h mo (joined att br) w (ix3 b i e) = projected h mo att br w b ⟨4096 + i.val, by omega⟩ e := by
  have hr : modRow b (⟨4096 + i.val, by omega⟩ : Fin 4352) = 16 := if_neg (by show ¬ 4096 + i.val < 4096; omega)
  unfold projected
  rw [hr]
  simp only [← joined_at]
  pointwise [con]

/-- THE REFERENCE at every index. -/
theorem REF_at (i : Fin 4352) (e : Fin 1024) : REF h mo att br w (ix3 b i e) = projected h mo att br w b i e := by
  pointwise [REF]
  by_cases hi : i.val < 4096
  · rw [dif_pos hi]
    exact lat_at h mo att br w b ⟨i.val, hi⟩ e
  · rw [dif_neg hi]
    refine (con_at h mo att br w b ⟨i.val - 4096, by omega⟩ e).trans (congrArg (fun q => projected h mo att br w b q e) (Fin.ext ?_))
    show 4096 + (i.val - 4096) = i.val
    omega
end

end Cert.OutRefIdeal.Value

end
-- ==== Proof.OutClaims.lean ====
module

public import proofs.«01_k».proof.Defs
public import proofs.«01_k».proof.Proof.Gen.Out.Frame
public import proofs.«01_k».proof.Proof.OutArray
public import proofs.«01_k».proof.Proof.OutRefRead
public import Idealize.ShloMosaic.Lib.Claim

@[expose] public section

/-! The claims about the output projection, each read off a run of its program. -/

set_option maxRecDepth 16384
noncomputable section
open Idealize.ShloMosaic Idealize.ShloMosaic.TcCoe Idealize.SL.Sem
namespace Cert.Projection

instance : Cert.Out.Facts := Cert.Out.Gen.facts
instance : Cert.OutIdeal.Facts := Cert.OutIdeal.Gen.facts
instance : Cert.OutRefIdeal.Facts := Cert.OutRefIdeal.Gen.facts

/-- From the same arguments, the array the kernel leaves is the array the reference computes. -/
theorem arrays_eq (h : FVec Ideal Cert.OutIdeal.S16x4352x1024 .f32) (mo : FVec Ideal Cert.OutIdeal.S24x6x1024 .f32)
    (att : FVec Ideal Cert.OutIdeal.S16x4352x768 .bf16) (br : FVec Ideal Cert.OutIdeal.S16x4352x256 .bf16)
    (w : FVec Ideal Cert.OutIdeal.S1024x1024 .f32) :
    Cert.OutIdeal.Value.OUT h mo att br w = Cert.OutRefIdeal.Value.REF h mo att br w := by
  funext j
  obtain ⟨b, i, e, rfl⟩ : ∃ b i e, j = ix3 b i e := ⟨_, _, _, eq_ix3 j⟩
  exact (Cert.OutRefIdeal.Value.REF_at h mo att br w b i e).symm

/-- Kernel and reference, from equal arguments, end with equal results. -/
theorem algebraic : Cert.algebraic_OutIdeal_OutRefIdeal := by
  pair_intro
  · run_from Cert.OutIdeal.Value.run_blocks m g
  · run_from Cert.OutRefIdeal.Value.run m' g'
    obtain ⟨h0, h1, h2, h3, h4⟩ := hagree c
    refine Eq.trans ?_ (Cert.OutIdeal.Value.final m c).symm
    refine Eq.trans ?_ (arrays_eq _ _ _ _ _).symm
    refine Eq.trans ?_ (congrArg (fun w => Cert.OutRefIdeal.Value.REF _ _ _ _ w) h4)
    show _ = Cert.OutRefIdeal.Value.REF _ _ _ _ _
    unfold Cert.OutRefIdeal.Value.REF Cert.OutRefIdeal.Value.lat Cert.OutRefIdeal.Value.con Cert.OutRefIdeal.Value.joined
    rfl

/-- The kernel terminates and leaves its arguments and its counters as they were. -/
theorem frame : Cert.quiescent_Out := fun m g _ => Cert.Out.Gen.frame m g

/-- So does the kernel over the extended reals. -/
theorem frameIdeal : Cert.quiescent_OutIdeal := fun m g _ => Cert.OutIdeal.Gen.frame m g

/-- So does the reference. -/
theorem frameRef : Cert.quiescent_OutRefIdeal := fun m g _ =>
  (θ_run Cert.OutRefIdeal.defs _ _).mono
    (fun r h => ⟨fun c => (h c).2, sem_eq_zero_of_no_sems (by decide) r.2⟩) (Cert.OutRefIdeal.Value.run m g)

end Cert.Projection
end
-- ==== Proof.FfnSpec.lean ====
module

public import proofs.«01_k».proof.Proof.OutSpec

@[expose] public section

/-! The gated convolutional feed-forward, as one formula per entry of its result. -/

noncomputable section
open Idealize.ShloMosaic
namespace Cert.Layer

section
variable (x : FVec Ideal ⟨3, ![16, 4352, 1024]⟩ .f32) (m : FVec Ideal ⟨3, ![24, 6, 1024]⟩ .f32)
  (g : FVec Ideal ⟨1, ![1024]⟩ .f32) (up : FVec Ideal ⟨2, ![1024, 5632]⟩ .f32)
  (cw : FVec Ideal ⟨2, ![3, 5632]⟩ .f32) (cb : FVec Ideal ⟨1, ![5632]⟩ .f32)
  (down : FVec Ideal ⟨2, ![2816, 1024]⟩ .f32) (b : Fin 16) (i : Fin 4352)

/-- The reciprocal root mean square of a row. -/
def invRms (x : Fin 1024 → EReal) : EReal :=
  Ideal.rsqrt (Ideal.div (∑ d : Fin 1024, x d * x d) (Ideal.ofBits .f32 0x44800000#32) + Ideal.ofBits .f32 0x358637BD#32)

/-- A row normalised by its root mean square, then scaled and shifted. -/
def normed (x : Fin 1024 → EReal) (g sc sh : EReal) (d : Fin 1024) : EReal :=
  x d * invRms x * g * (Ideal.ofBits .f32 0x3F800000#32 + sc) + sh

/-- The modulated row `i` of batch `b`. -/
def inner (d : Fin 1024) : EReal :=
  normed (fun d => x (ix3 b i d)) (g (ix1 d)) (m (ix3 (modRow b i) 4 d)) (m (ix3 (modRow b i) 3 d)) d

/-- The up-projection of row `i`, column `f`. -/
def upAt (f : Fin 5632) : EReal := ∑ d : Fin 1024, inner x m g b i d * up (ix2 d f)

/-- The up-projection of the row before, zero at the first row of either stream. -/
def upPrev (f : Fin 5632) : EReal :=
  if h : i.val ≠ 0 ∧ i.val ≠ 4096 then upAt x m g up b ⟨i.val - 1, by omega⟩ f else 0

/-- The up-projection of the row after, zero at the last row of either stream. -/
def upNext (f : Fin 5632) : EReal :=
  if h : i.val ≠ 4095 ∧ i.val ≠ 4351 then upAt x m g up b ⟨i.val + 1, by omega⟩ f else 0

/-- The centred convolution of width three over the rows of a stream. -/
def convAt (f : Fin 5632) : EReal :=
  upPrev x m g up b i f * cw (ix2 0 f) + upAt x m g up b i f * cw (ix2 1 f) + upNext x m g up b i f * cw (ix2 2 f) + cb (ix1 f)

/-- A gated value: the gate times its logistic, times the value. -/
def gated (a v : EReal) : EReal := a * Ideal.logistic a * v

/-- The gated activation of row `i`, column `f`. -/
def actAt (f : Fin 2816) : EReal :=
  gated (convAt x m g up cw cb b i ⟨f.val, by omega⟩) (convAt x m g up cw cb b i ⟨2816 + f.val, by omega⟩)

/-- The entry of the feed-forward at batch `b`, token `i`, channel `e`. -/
def ffnAt (e : Fin 1024) : EReal :=
  x (ix3 b i e) + m (ix3 (modRow b i) 5 e) * ∑ f : Fin 2816, actAt x m g up cw cb b i f * down (ix2 f e)
end

end Cert.Layer
end
-- ==== Proof.FfnHost.lean ====
module

public import proofs.«01_k».proof.Proof.Gen.FfnIdeal.Value
public import proofs.«01_k».proof.Proof.FfnSpec
public import Idealize.ShloMosaic.Lib.Pipeline.ValueKit
public import Idealize.ShloMosaic.Lib.Pointwise

@[expose] public section

/-! What the windows of the feed-forward kernel hold, from the program's arguments. -/

set_option maxRecDepth 16384
noncomputable section
open Idealize.ShloMosaic Idealize.ShloMosaic.TcCoe Idealize.SL.Sem
open Idealize.ShloMosaic.Pipeline (Dat)
namespace Cert.FfnIdeal.Value
open Cert.FfnIdeal Cert.FfnIdeal.Gen
variable (m : (ℓ : Loc nD τ sig) → Buf (Elt Ideal) ℓ)

/-- Where each window's block lies at grid point `t`: batch `t / 8`, token tile `t % 8`. -/
theorem idx : ∀ t : Fin cfg0.N, win0_0.index t = ![t.val / 8, t.val % 8, 0]
    ∧ win0_1.index t = ![t.val / 8, t.val % 8 * 34 - 1, 0]
    ∧ win0_2.index t = ![t.val / 8, min ((t.val % 8 + 1) * 34) 271, 0]
    ∧ win0_3.index t = ![t.val / 8, 0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val / 8, t.val % 8, 0] :=
  (by decide +kernel : ∀ t : Fin grid0.N, _)

/-- The token tile of grid point `t`, as the body reads it. -/
theorem tile_of : ∀ t : Fin cfg0.N, ((grid0.coords t) 1).val = t.val % 8 :=
  (by decide +kernel : ∀ t : Fin grid0.N, _)

/-- The batch of grid point `t`. -/
def bOf (t : Fin cfg0.N) : Fin 16 := ⟨t.val / 8, by have := lt_of_lt_of_eq t.isLt Gen.N_0; omega⟩

/-- The token at row `y` of grid point `t`. -/
def iOf (t : Fin cfg0.N) (y : Fin 544) : Fin 4352 := ⟨t.val % 8 * 544 + y.val, by omega⟩

/-- Which row of the modulations the two rows of a batch entry's operand are: its own, and the context's. -/
def row2 (b : Fin 16) (s : Fin 2) : Fin 24 := if s.val = 0 then ⟨b.val, by omega⟩ else 16

/-- The modulation operand: for each batch entry its own rows and the context's rows. -/
theorem V_m2 (c : Dev nD) (b : Fin 16) (s : Fin 2) (k : Fin 6) (d : Fin 1024) :
    (V m c main_v7 : FVec Ideal S16x2x6x1024 .f32) (ix4 b s k d) = (m ((c : Thread nD τ).loc main_arg1) : FVec Ideal S24x6x1024 .f32) (ix3 (row2 b s) k d) := by
  have : @Eq (FVec Ideal S16x2x6x1024 .f32) (V m c main_v7) (concatenate S16x2x6x1024 1
      [⟨S16x1x6x1024, broadcastInDim S16x1x6x1024 ![0, 2, 3] bcast_S16x6x1024_S16x1x6x1024_0_2_3
          (extractStridedSlice S16x6x1024 ![0, 0, 0] (m ((c : Thread nD τ).loc main_arg1) : FVec Ideal S24x6x1024 .f32) slices_S24x6x1024_S16x6x1024_0_0_0)⟩,
        ⟨S16x1x6x1024, broadcastInDim S16x1x6x1024 ![0, 2, 3] bcast_S16x6x1024_S16x1x6x1024_0_2_3
          (broadcastInDim S16x6x1024 ![0, 1, 2] bcast_S1x6x1024_S16x6x1024_0_1_2
            (broadcastInDim S1x6x1024 ![1, 2] bcast_S6x1024_S1x6x1024_1_2
              (shapeCast S6x1024 (extractStridedSlice S1x6x1024 ![16, 0, 0] (m ((c : Thread nD τ).loc main_arg1) : FVec Ideal S24x6x1024 .f32)
                slices_S24x6x1024_S1x6x1024_16_0_0) shapeCasts_S1x6x1024_S6x1024)))⟩]
      concatenates_S16x1x6x1024_S16x1x6x1024_S16x2x6x1024_d1) := by
    unfold V; after_results; try rfl
  rw [this]
  unfold row2
  by_cases h : s.val = 0
  · rw [if_pos h]
    pointwise
    rw [dif_pos (by omega)]
  · rw [if_neg h]
    pointwise
    rw [dif_neg (by omega)]

/-- The norm's gains. -/
theorem V_g (c : Dev nD) (d : Fin 1024) :
    (V m c main_v8 : FVec Ideal S1x1024 .f32) (ix2 0 d) = (m ((c : Thread nD τ).loc main_arg2) : FVec Ideal S1024 .f32) (ix1 d) := by
  have : @Eq (FVec Ideal S1x1024 .f32) (V m c main_v8) (broadcastInDim S1x1024 ![1] bcast_S1024_S1x1024_1 (m ((c : Thread nD τ).loc main_arg2) : FVec Ideal S1024 .f32)) := by
    unfold V; after_results; try rfl
  rw [this]
  pointwise

/-- The up-projection's weight. -/
theorem V_up (c : Dev nD) (d : Fin 1024) (f : Fin 5632) :
    (V m c main_v9 : FVec Ideal S1024x5632 .bf16) (ix2 d f) = (m ((c : Thread nD τ).loc main_arg3) : FVec Ideal S1024x5632 .f32) (ix2 d f) := by
  have : @Eq (FVec Ideal S1024x5632 .bf16) (V m c main_v9) (truncf .bf16 (m ((c : Thread nD τ).loc main_arg3) : FVec Ideal S1024x5632 .f32) bitsLt_bf16_f32) := by
    unfold V; after_results; try rfl
  rw [this]
  pointwise

/-- The convolution's bias. -/
theorem V_cb (c : Dev nD) (f : Fin 5632) :
    (V m c main_v10 : FVec Ideal S1x5632 .f32) (ix2 0 f) = (m ((c : Thread nD τ).loc main_arg5) : FVec Ideal S5632 .f32) (ix1 f) := by
  have : @Eq (FVec Ideal S1x5632 .f32) (V m c main_v10) (broadcastInDim S1x5632 ![1] bcast_S5632_S1x5632_1 (m ((c : Thread nD τ).loc main_arg5) : FVec Ideal S5632 .f32)) := by
    unfold V; after_results; try rfl
  rw [this]
  pointwise

/-- The down-projection's weight. -/
theorem V_down (c : Dev nD) (f : Fin 2816) (e : Fin 1024) :
    (V m c main_v11 : FVec Ideal S2816x1024 .bf16) (ix2 f e) = (m ((c : Thread nD τ).loc main_arg6) : FVec Ideal S2816x1024 .f32) (ix2 f e) := by
  have : @Eq (FVec Ideal S2816x1024 .bf16) (V m c main_v11) (truncf .bf16 (m ((c : Thread nD τ).loc main_arg6) : FVec Ideal S2816x1024 .f32) bitsLt_bf16_f32) := by
    unfold V; after_results; try rfl
  rw [this]
  pointwise

section
variable (c : Dev nD) (t : Fin cfg0.N)

/-- Where an entry of the output block lies. -/
theorem emb_out (y0 : Fin 1) (y1 : Fin 544) (y2 : Fin 1024) :
    (win0_9.blk t).view.emb (ix3 y0 y1 y2) = (ix3 (bOf t) (iOf t y1) y2 : S16x4352x1024.Idx) := by
  blk_ext [idx t, bOf, iOf]

/-- The tile's rows. -/
theorem read0 (y : Fin 544) (e : Fin 1024) :
    (iblk m c 0 t : FVec Ideal S1x544x1024 .f32) (ix3 0 y e) = (m ((c : Thread nD τ).loc main_arg0) : FVec Ideal S16x4352x1024 .f32) (ix3 (bOf t) (iOf t y) e) := by
  blk_ext [iblk, V, idx t, bOf, iOf]

/-- The rows before the tile, for every tile but the first. -/
theorem read1 (h : t.val % 8 ≠ 0) (s : Fin 16) (e : Fin 1024) :
    (iblk m c 1 t : FVec Ideal S1x16x1024 .f32) (ix3 0 s e)
      = (m ((c : Thread nD τ).loc main_arg0) : FVec Ideal S16x4352x1024 .f32) (ix3 (bOf t) ⟨t.val % 8 * 544 - 16 + s.val, by omega⟩ e) := by
  blk_ext [iblk, V, idx t, bOf]

/-- The rows after the tile, for every tile but the last. -/
theorem read2 (h : t.val % 8 ≠ 7) (s : Fin 16) (e : Fin 1024) :
    (iblk m c 2 t : FVec Ideal S1x16x1024 .f32) (ix3 0 s e)
      = (m ((c : Thread nD τ).loc main_arg0) : FVec Ideal S16x4352x1024 .f32) (ix3 (bOf t) ⟨t.val % 8 * 544 + 544 + s.val, by omega⟩ e) := by
  blk_ext [iblk, V, idx t, bOf]

/-- The modulations of the tile's batch entry, and the context's. -/
theorem read3 (s : Fin 2) (k : Fin 6) (e : Fin 1024) :
    (iblk m c 3 t : FVec Ideal S1x2x6x1024 .f32) (ix4 0 s k e) = (m ((c : Thread nD τ).loc main_arg1) : FVec Ideal S24x6x1024 .f32) (ix3 (row2 (bOf t) s) k e) := by
  refine Eq.trans ?_ (V_m2 m c (bOf t) s k e)
  blk_ext [iblk, idx t, bOf]

theorem read4 (e : Fin 1024) :
    (iblk m c 4 t : FVec Ideal S1x1024 .f32) (ix2 0 e) = (m ((c : Thread nD τ).loc main_arg2) : FVec Ideal S1024 .f32) (ix1 e) := by
  refine Eq.trans ?_ (V_g m c e)
  blk_ext [iblk, idx t]

theorem read5 (d : Fin 1024) (f : Fin 5632) :
    (iblk m c 5 t : FVec Ideal S1024x5632 .bf16) (ix2 d f) = (m ((c : Thread nD τ).loc main_arg3) : FVec Ideal S1024x5632 .f32) (ix2 d f) := by
  refine Eq.trans ?_ (V_up m c d f)
  blk_ext [iblk, idx t]

theorem read6 (k : Fin 3) (f : Fin 5632) :
    (iblk m c 6 t : FVec Ideal S3x5632 .f32) (ix2 k f) = (m ((c : Thread nD τ).loc main_arg4) : FVec Ideal S3x5632 .f32) (ix2 k f) := by
  blk_ext [iblk, V, idx t]

theorem read7 (f : Fin 5632) :
    (iblk m c 7 t : FVec Ideal S1x5632 .f32) (ix2 0 f) = (m ((c : Thread nD τ).loc main_arg5) : FVec Ideal S5632 .f32) (ix1 f) := by
  refine Eq.trans ?_ (V_cb m c f)
  blk_ext [iblk, idx t]

theorem read8 (f : Fin 2816) (e : Fin 1024) :
    (iblk m c 8 t : FVec Ideal S2816x1024 .bf16) (ix2 f e) = (m ((c : Thread nD τ).loc main_arg6) : FVec Ideal S2816x1024 .f32) (ix2 f e) := by
  refine Eq.trans ?_ (V_down m c f e)
  blk_ext [iblk, idx t]
end

end Cert.FfnIdeal.Value

end
-- ==== Proof.FfnTile.lean ====
module

public import proofs.«01_k».proof.Proof.Gen.FfnIdeal.Value
public import proofs.«01_k».proof.Proof.FfnSpec
public import Idealize.ShloMosaic.Lib.Pipeline.ValueKit
public import Idealize.ShloMosaic.Lib.Pointwise

@[expose] public section

/-! What one block of the feed-forward kernel computes, from the contents of its windows. -/

set_option maxRecDepth 16384
noncomputable section
open Idealize.ShloMosaic Idealize.ShloMosaic.TcCoe Idealize.SL.Sem
open Idealize.ShloMosaic.Pipeline (Dat)
namespace Cert.FfnIdeal.Value
open Cert.FfnIdeal Cert.FfnIdeal.Gen
open Cert.Layer (gated)

section
variable (U : FVec Ideal S576x1024 .bf16) (L R : FVec Ideal S576x1 .f32)

/-- The up-projection of scratch row `s`, column `f` of the weight columns `W`. -/
def upTile {n : ℕ} (W : FVec Ideal ⟨2, ![1024, n]⟩ .bf16) (s : Fin 576) (f : Fin n) : EReal := ∑ d : Fin 1024, U (ix2 s d) * W (ix2 d f)

/-- The convolution at output row `y` of the tile: scratch rows `y + 15`, `y + 16`, `y + 17`, the outer two masked. -/
def convTile {n : ℕ} (W : FVec Ideal ⟨2, ![1024, n]⟩ .bf16) (C : FVec Ideal ⟨2, ![3, n]⟩ .f32) (B : FVec Ideal ⟨2, ![1, n]⟩ .f32)
    (y : Fin 544) (f : Fin n) : EReal :=
  upTile U W ⟨15 + y.val, by omega⟩ f * L (ix2 ⟨16 + y.val, by omega⟩ 0) * C (ix2 0 f) + upTile U W ⟨16 + y.val, by omega⟩ f * C (ix2 1 f)
    + upTile U W ⟨17 + y.val, by omega⟩ f * R (ix2 ⟨16 + y.val, by omega⟩ 0) * C (ix2 2 f) + B (ix2 0 f)

/-- The row before, in the rotated order. -/
theorem rot_prev (y : ℕ) (h : y < 544) : (16 + y + 576 - 1) % 576 = 15 + y := by omega

/-- The row after, in the rotated order. -/
theorem rot_next (y : ℕ) (h : y < 544) : (16 + y + 576 - 575) % 576 = 17 + y := by omega

variable (Wg : FVec Ideal S1024x256 .bf16) (Cg : FVec Ideal S3x256 .f32) (Bg : FVec Ideal S1x256 .f32)
  (Wv : FVec Ideal S1024x256 .bf16) (Cv : FVec Ideal S3x256 .f32) (Bv : FVec Ideal S1x256 .f32)

/-- Chunk 0 of the activation, entry by entry. -/
theorem chunk0 (v : BitVec 32) (y : Fin 544) (f : Fin 256) :
    k0_pay31 (F := Ideal) (k0_pay30 (F := Ideal) (k0_pay24 (F := Ideal) v) (k0_pay25 (F := Ideal) v) U (k0_pay26 (F := Ideal) U Wg) Cg (k0_pay27 (F := Ideal) v U Wg) (k0_pay28 (F := Ideal) U Wg) (k0_pay29 (F := Ideal) v) Bg Wv Cv Bv) (ix2 y f)
      = gated (convTile U (k0_pay24 (F := Ideal) v) (k0_pay25 (F := Ideal) v) Wg Cg Bg y f) (convTile U (k0_pay24 (F := Ideal) v) (k0_pay25 (F := Ideal) v) Wv Cv Bv y f) := by
  unfold gated convTile upTile
  pointwise [k0_pay26, k0_pay27, k0_pay28, k0_pay29, k0_pay30, k0_pay31]
  simp only [rot_prev y.val y.isLt, rot_next y.val y.isLt]

/-- Chunk 1 of the activation, entry by entry. -/
theorem chunk1 (y : Fin 544) (f : Fin 256) :
    k0_pay37 (k0_pay32 L R U Wg Cg Bg) (k0_pay33 U Wv) Cv (k0_pay34 R U Wv) (k0_pay35 L U Wv Cv) (k0_pay36 Cv) Bv (ix2 y f)
      = gated (convTile U L R Wg Cg Bg y f) (convTile U L R Wv Cv Bv y f) := by
  unfold gated convTile upTile
  pointwise [k0_pay32, k0_pay33, k0_pay34, k0_pay35, k0_pay36, k0_pay37]
  simp only [rot_prev y.val y.isLt, rot_next y.val y.isLt]

/-- Chunk 2 of the activation, entry by entry. -/
theorem chunk2 (y : Fin 544) (f : Fin 256) :
    k0_pay39 L R U (k0_pay38 L R U Wg Cg Bg) Wv Cv Bv (ix2 y f)
      = gated (convTile U L R Wg Cg Bg y f) (convTile U L R Wv Cv Bv y f) := by
  unfold gated convTile upTile
  pointwise [k0_pay38, k0_pay39]
  simp only [rot_prev y.val y.isLt, rot_next y.val y.isLt]

/-- Chunk 3 of the activation, entry by entry. -/
theorem chunk3 (y : Fin 544) (f : Fin 256) :
    k0_pay45 (k0_pay44 L R U (k0_pay40 U Wg) Cg (k0_pay41 L U Wg) (k0_pay42 U Wg) (k0_pay43 R) Bg Wv Cv Bv) (ix2 y f)
      = gated (convTile U L R Wg Cg Bg y f) (convTile U L R Wv Cv Bv y f) := by
  unfold gated convTile upTile
  pointwise [k0_pay40, k0_pay41, k0_pay42, k0_pay43, k0_pay44, k0_pay45]
  simp only [rot_prev y.val y.isLt, rot_next y.val y.isLt]

/-- Chunk 4 of the activation, entry by entry. -/
theorem chunk4 (y : Fin 544) (f : Fin 256) :
    k0_pay51 (k0_pay46 L R U Wg Cg Bg) (k0_pay47 U Wv) Cv (k0_pay48 R U Wv) (k0_pay49 L U Wv Cv) (k0_pay50 Cv) Bv (ix2 y f)
      = gated (convTile U L R Wg Cg Bg y f) (convTile U L R Wv Cv Bv y f) := by
  unfold gated convTile upTile
  pointwise [k0_pay46, k0_pay47, k0_pay48, k0_pay49, k0_pay50, k0_pay51]
  simp only [rot_prev y.val y.isLt, rot_next y.val y.isLt]

/-- Chunk 5 of the activation, entry by entry. -/
theorem chunk5 (y : Fin 544) (f : Fin 256) :
    k0_pay53 L R U (k0_pay52 L R U Wg Cg Bg) Wv Cv Bv (ix2 y f)
      = gated (convTile U L R Wg Cg Bg y f) (convTile U L R Wv Cv Bv y f) := by
  unfold gated convTile upTile
  pointwise [k0_pay52, k0_pay53]
  simp only [rot_prev y.val y.isLt, rot_next y.val y.isLt]

/-- Chunk 6 of the activation, entry by entry. -/
theorem chunk6 (y : Fin 544) (f : Fin 256) :
    k0_pay59 (k0_pay58 L R U (k0_pay54 U Wg) Cg (k0_pay55 L U Wg) (k0_pay56 U Wg) (k0_pay57 R) Bg Wv Cv Bv) (ix2 y f)
      = gated (convTile U L R Wg Cg Bg y f) (convTile U L R Wv Cv Bv y f) := by
  unfold gated convTile upTile
  pointwise [k0_pay54, k0_pay55, k0_pay56, k0_pay57, k0_pay58, k0_pay59]
  simp only [rot_prev y.val y.isLt, rot_next y.val y.isLt]

/-- Chunk 7 of the activation, entry by entry. -/
theorem chunk7 (y : Fin 544) (f : Fin 256) :
    k0_pay65 (k0_pay60 L R U Wg Cg Bg) (k0_pay61 U Wv) Cv (k0_pay62 R U Wv) (k0_pay63 L U Wv Cv) (k0_pay64 Cv) Bv (ix2 y f)
      = gated (convTile U L R Wg Cg Bg y f) (convTile U L R Wv Cv Bv y f) := by
  unfold gated convTile upTile
  pointwise [k0_pay60, k0_pay61, k0_pay62, k0_pay63, k0_pay64, k0_pay65]
  simp only [rot_prev y.val y.isLt, rot_next y.val y.isLt]

/-- Chunk 8 of the activation, entry by entry. -/
theorem chunk8 (y : Fin 544) (f : Fin 256) :
    k0_pay67 L R U (k0_pay66 L R U Wg Cg Bg) Wv Cv Bv (ix2 y f)
      = gated (convTile U L R Wg Cg Bg y f) (convTile U L R Wv Cv Bv y f) := by
  unfold gated convTile upTile
  pointwise [k0_pay66, k0_pay67]
  simp only [rot_prev y.val y.isLt, rot_next y.val y.isLt]

/-- Chunk 9 of the activation, entry by entry. -/
theorem chunk9 (y : Fin 544) (f : Fin 256) :
    k0_pay73 (k0_pay72 L R U (k0_pay68 U Wg) Cg (k0_pay69 L U Wg) (k0_pay70 U Wg) (k0_pay71 R) Bg Wv Cv Bv) (ix2 y f)
      = gated (convTile U L R Wg Cg Bg y f) (convTile U L R Wv Cv Bv y f) := by
  unfold gated convTile upTile
  pointwise [k0_pay68, k0_pay69, k0_pay70, k0_pay71, k0_pay72, k0_pay73]
  simp only [rot_prev y.val y.isLt, rot_next y.val y.isLt]

/-- Chunk 10 of the activation, entry by entry. -/
theorem chunk10 (y : Fin 544) (f : Fin 256) :
    k0_pay79 (k0_pay74 L R U Wg Cg Bg) (k0_pay75 U Wv) Cv (k0_pay76 R U Wv) (k0_pay77 L U Wv Cv) (k0_pay78 Cv) Bv (ix2 y f)
      = gated (convTile U L R Wg Cg Bg y f) (convTile U L R Wv Cv Bv y f) := by
  unfold gated convTile upTile
  pointwise [k0_pay74, k0_pay75, k0_pay76, k0_pay77, k0_pay78, k0_pay79]
  simp only [rot_prev y.val y.isLt, rot_next y.val y.isLt]
end

/-- The scratch the rows are laid out in: 16 rows before the tile, its 544 rows, 16 rows after it. -/
theorem rowsAt (p q : FVec Ideal S16x1024 .bf16) (r : FVec Ideal S544x1024 .bf16) (s : Fin 576) (d : Fin 1024) :
    View.canon (Val := Elt Ideal) (e := .bf16) [⟨Rect.unit ![560, 0] ![16, 1024] inb_S576x1024_S16x1024_560_0, q⟩,
        ⟨Rect.unit ![16, 0] ![544, 1024] inb_S576x1024_S544x1024_16_0, r⟩,
        ⟨Rect.unit ![0, 0] ![16, 1024] inb_S576x1024_S16x1024_0_0, p⟩] (ix2 s d)
      = if h : s.val < 16 then p (ix2 ⟨s.val, h⟩ d) else if h' : s.val < 560 then r (ix2 ⟨s.val - 16, by omega⟩ d)
        else q (ix2 ⟨s.val - 560, by omega⟩ d) := by
  by_cases h : s.val < 16
  · rw [dif_pos h, View.canon_cons_of_not_mem, View.canon_cons_of_not_mem]
    · have e : (ix2 s d : S576x1024.Idx) = (Rect.unit ![0, 0] ![16, 1024] inb_S576x1024_S16x1024_0_0).emb (ix2 ⟨s.val, h⟩ d) := by
        funext a; refine Fin.ext ?_
        match a with
        | ⟨0, _⟩ => show s.val = 0 + 1 * s.val; omega
        | ⟨1, _⟩ => show d.val = 0 + 1 * d.val; omega
      rw [e]
      exact View.canon_cons_emb _ _ _ _
    · intro hm
      have h2 : 16 ≤ s.val := (Rect.mem_set_unit (inb := inb_S576x1024_S544x1024_16_0).mp hm 0).1
      omega
    · intro hm
      have h2 : 560 ≤ s.val := (Rect.mem_set_unit (inb := inb_S576x1024_S16x1024_560_0).mp hm 0).1
      omega
  · rw [dif_neg h]
    by_cases h' : s.val < 560
    · rw [dif_pos h', View.canon_cons_of_not_mem]
      · have e : (ix2 s d : S576x1024.Idx) = (Rect.unit ![16, 0] ![544, 1024] inb_S576x1024_S544x1024_16_0).emb (ix2 ⟨s.val - 16, by omega⟩ d) := by
          funext a; refine Fin.ext ?_
          match a with
          | ⟨0, _⟩ => show s.val = 16 + 1 * (s.val - 16); omega
          | ⟨1, _⟩ => show d.val = 0 + 1 * d.val; omega
        rw [e]
        exact View.canon_cons_emb _ _ _ _
      · intro hm
        have h2 : 560 ≤ s.val := (Rect.mem_set_unit (inb := inb_S576x1024_S16x1024_560_0).mp hm 0).1
        omega
    · rw [dif_neg h']
      have e : (ix2 s d : S576x1024.Idx) = (Rect.unit ![560, 0] ![16, 1024] inb_S576x1024_S16x1024_560_0).emb (ix2 ⟨s.val - 560, by omega⟩ d) := by
        funext a; refine Fin.ext ?_
        match a with
        | ⟨0, _⟩ => show s.val = 560 + 1 * (s.val - 560); omega
        | ⟨1, _⟩ => show d.val = 0 + 1 * d.val; omega
      rw [e]
      exact View.canon_cons_emb _ _ _ _

/-- The scratch the activations are laid out in: eleven chunks of 256 columns. -/
theorem chunksAt (P0 P1 P2 P3 P4 P5 P6 P7 P8 P9 P10 : FVec Ideal S544x256 .bf16) (G : FVec Ideal S544x2816 .bf16)
    (hP0 : ∀ (y : Fin 544) (f : Fin 256), P0 (ix2 y f) = G (ix2 y ⟨0 + f.val, by omega⟩))
    (hP1 : ∀ (y : Fin 544) (f : Fin 256), P1 (ix2 y f) = G (ix2 y ⟨256 + f.val, by omega⟩))
    (hP2 : ∀ (y : Fin 544) (f : Fin 256), P2 (ix2 y f) = G (ix2 y ⟨512 + f.val, by omega⟩))
    (hP3 : ∀ (y : Fin 544) (f : Fin 256), P3 (ix2 y f) = G (ix2 y ⟨768 + f.val, by omega⟩))
    (hP4 : ∀ (y : Fin 544) (f : Fin 256), P4 (ix2 y f) = G (ix2 y ⟨1024 + f.val, by omega⟩))
    (hP5 : ∀ (y : Fin 544) (f : Fin 256), P5 (ix2 y f) = G (ix2 y ⟨1280 + f.val, by omega⟩))
    (hP6 : ∀ (y : Fin 544) (f : Fin 256), P6 (ix2 y f) = G (ix2 y ⟨1536 + f.val, by omega⟩))
    (hP7 : ∀ (y : Fin 544) (f : Fin 256), P7 (ix2 y f) = G (ix2 y ⟨1792 + f.val, by omega⟩))
    (hP8 : ∀ (y : Fin 544) (f : Fin 256), P8 (ix2 y f) = G (ix2 y ⟨2048 + f.val, by omega⟩))
    (hP9 : ∀ (y : Fin 544) (f : Fin 256), P9 (ix2 y f) = G (ix2 y ⟨2304 + f.val, by omega⟩))
    (hP10 : ∀ (y : Fin 544) (f : Fin 256), P10 (ix2 y f) = G (ix2 y ⟨2560 + f.val, by omega⟩))
    (y : Fin 544) (f : Fin 2816) :
    View.canon (Val := Elt Ideal) (e := .bf16) [⟨Rect.unit ![0, 2560] ![544, 256] inb_S544x2816_S544x256_0_2560, P10⟩, ⟨Rect.unit ![0, 2304] ![544, 256] inb_S544x2816_S544x256_0_2304, P9⟩, ⟨Rect.unit ![0, 2048] ![544, 256] inb_S544x2816_S544x256_0_2048, P8⟩, ⟨Rect.unit ![0, 1792] ![544, 256] inb_S544x2816_S544x256_0_1792, P7⟩, ⟨Rect.unit ![0, 1536] ![544, 256] inb_S544x2816_S544x256_0_1536, P6⟩, ⟨Rect.unit ![0, 1280] ![544, 256] inb_S544x2816_S544x256_0_1280, P5⟩, ⟨Rect.unit ![0, 1024] ![544, 256] inb_S544x2816_S544x256_0_1024, P4⟩, ⟨Rect.unit ![0, 768] ![544, 256] inb_S544x2816_S544x256_0_768, P3⟩, ⟨Rect.unit ![0, 512] ![544, 256] inb_S544x2816_S544x256_0_512, P2⟩, ⟨Rect.unit ![0, 256] ![544, 256] inb_S544x2816_S544x256_0_256, P1⟩, ⟨Rect.unit ![0, 0] ![544, 256] inb_S544x2816_S544x256_0_0, P0⟩] (ix2 y f) = G (ix2 y f) := by
  have key : ∀ (P : FVec Ideal S544x256 .bf16) (k : ℕ) (hk : k + 256 ≤ 2816)
      (hP : ∀ (y : Fin 544) (f : Fin 256), P (ix2 y f) = G (ix2 y ⟨k + f.val, by omega⟩)) (x : S544x256.Idx)
      (e0 : y.val = (x 0).val) (e1 : f.val = k + (x 1).val), P x = G (ix2 y f) := by
    intro P k hk hP x e0 e1
    have ex : x = ix2 (x 0) (x 1) := by
      funext a; match a with
      | ⟨0, _⟩ => rfl
      | ⟨1, _⟩ => rfl
    refine (congrArg P ex).trans ((hP (x 0) (x 1)).trans (congrArg G ?_))
    exact congrArg₂ (fun a b => (ix2 a b : S544x2816.Idx)) (Fin.ext e0.symm) (Fin.ext e1.symm)
  canon_tiles x h
  · exact key P10 2560 (by omega) hP10 x h0 h1
  · exact key P9 2304 (by omega) hP9 x h0 h1
  · exact key P8 2048 (by omega) hP8 x h0 h1
  · exact key P7 1792 (by omega) hP7 x h0 h1
  · exact key P6 1536 (by omega) hP6 x h0 h1
  · exact key P5 1280 (by omega) hP5 x h0 h1
  · exact key P4 1024 (by omega) hP4 x h0 h1
  · exact key P3 768 (by omega) hP3 x h0 h1
  · exact key P2 512 (by omega) hP2 x h0 h1
  · exact key P1 256 (by omega) hP1 x h0 h1
  · exact key P0 0 (by omega) hP0 x h0 (h1.trans (Nat.zero_add _).symm)

end Cert.FfnIdeal.Value

end
-- ==== Proof.FfnRows.lean ====
module

public import proofs.«01_k».proof.Proof.FfnHost
public import proofs.«01_k».proof.Proof.FfnTile

@[expose] public section

/-! The rows and the masks one block of the feed-forward kernel works on. -/

set_option maxRecDepth 16384
noncomputable section
open Idealize.ShloMosaic Idealize.ShloMosaic.TcCoe Idealize.SL.Sem
open Idealize.ShloMosaic.Pipeline (Dat)
namespace Cert.FfnIdeal.Value
open Cert.FfnIdeal Cert.FfnIdeal.Gen
open Cert.Layer (normed invRms modRow)

/-- The first row of the tile, as the body computes it. -/
abbrev w4 (t : Fin cfg0.N) : BitVec 32 := Scalar.muli (BitVec.ofNat 32 ((grid0.coords t) 1).val) 544#32

/-- The word of the token at row `y` of the tile. -/
theorem word_of (t : Fin cfg0.N) (y : Fin 544) : IntOp.addi (w4 t) (BitVec.ofNat 32 y.val) = BitVec.ofNat 32 (iOf t y).val := by
  apply BitVec.eq_of_toNat_eq
  have h8 := Nat.mod_lt t.val (by omega : 0 < 8)
  unfold iOf w4
  rw [tile_of t]
  simp only [IntOp.addi, Scalar.muli, IntOp.muli, BitVec.toNat_add, BitVec.toNat_mul, BitVec.toNat_ofNat]
  omega

/-- The word of the token at scratch row `16 + y`. -/
theorem word_mid (t : Fin cfg0.N) (y : Fin 544) :
    IntOp.addi (Scalar.subi (w4 t) 16#32) (BitVec.ofNat 32 (16 + y.val)) = BitVec.ofNat 32 (iOf t y).val := by
  apply BitVec.eq_of_toNat_eq
  have h8 := Nat.mod_lt t.val (by omega : 0 < 8)
  unfold iOf w4
  rw [tile_of t]
  simp only [IntOp.addi, Scalar.muli, IntOp.muli, Scalar.subi, IntOp.subi, BitVec.toNat_add, BitVec.toNat_sub, BitVec.toNat_mul, BitVec.toNat_ofNat]
  omega

/-- The word of a token before the tile. -/
theorem word_before (t : Fin cfg0.N) (h : t.val % 8 ≠ 0) (s : Fin 16) :
    IntOp.addi (Scalar.subi (w4 t) 16#32) (BitVec.ofNat 32 s.val) = BitVec.ofNat 32 (t.val % 8 * 544 - 16 + s.val) := by
  apply BitVec.eq_of_toNat_eq
  have h8 := Nat.mod_lt t.val (by omega : 0 < 8)
  unfold w4
  rw [tile_of t]
  simp only [IntOp.addi, Scalar.muli, IntOp.muli, Scalar.subi, IntOp.subi, BitVec.toNat_add, BitVec.toNat_sub, BitVec.toNat_mul, BitVec.toNat_ofNat]
  omega

/-- The word of a token after the tile. -/
theorem word_after (t : Fin cfg0.N) (s : Fin 16) :
    IntOp.addi (Scalar.addi (w4 t) 544#32) (BitVec.ofNat 32 s.val) = BitVec.ofNat 32 (t.val % 8 * 544 + 544 + s.val) := by
  apply BitVec.eq_of_toNat_eq
  have h8 := Nat.mod_lt t.val (by omega : 0 < 8)
  unfold w4
  rw [tile_of t]
  simp only [IntOp.addi, Scalar.muli, IntOp.muli, Scalar.addi, BitVec.toNat_add, BitVec.toNat_mul, BitVec.toNat_ofNat]
  omega

/-- Comparing words of small numbers for difference compares the numbers. -/
theorem cmp_ne (a b : ℕ) (ha : a < 8192) (hb : b < 8192) :
    IntOp.cmpi .ne (BitVec.ofNat 32 a) (BitVec.ofNat 32 b) = if a ≠ b then 1#1 else 0#1 := by
  by_cases h : a = b
  · subst h; simp [IntOp.cmpi]
  · have : BitVec.ofNat 32 a ≠ BitVec.ofNat 32 b := fun e => h (by
      have := congrArg BitVec.toNat e
      simp only [BitVec.toNat_ofNat] at this
      omega)
    rw [if_pos h]
    show BitVec.ofBool (BitVec.ofNat 32 a != BitVec.ofNat 32 b) = 1#1
    rw [bne_iff_ne.mpr this]
    rfl

/-- Comparing words of small numbers compares the numbers. -/
theorem cmp_lt (a b : ℕ) (ha : a < 8192) (hb : b < 8192) :
    IntOp.cmpi .slt (BitVec.ofNat 32 a) (BitVec.ofNat 32 b) = if a < b then 1#1 else 0#1 := by
  have e : (BitVec.ofNat 32 a).slt (BitVec.ofNat 32 b) = decide (a < b) := by
    unfold BitVec.slt
    rw [BitVec.toInt_eq_toNat_of_lt (by simp only [BitVec.toNat_ofNat]; omega), BitVec.toInt_eq_toNat_of_lt (by simp only [BitVec.toNat_ofNat]; omega)]
    simp only [BitVec.toNat_ofNat]
    rw [Nat.mod_eq_of_lt (by omega), Nat.mod_eq_of_lt (by omega)]
    simp
  by_cases h : a < b
  · rw [if_pos h]; simp [IntOp.cmpi, e, h]
  · rw [if_neg h]; simp [IntOp.cmpi, e, h]

/-- Two tests as the number they make. -/
theorem mask_num (p q : Prop) [Decidable p] [Decidable q] :
    (FloatOps.sitofp (F := Ideal) FTy.f32 (BitVec.setWidth 32 (IntOp.andi (if p then 1#1 else 0#1) (if q then 1#1 else 0#1))) : EReal)
      = if p ∧ q then 1 else 0 := by
  have h1 : (FloatOps.sitofp (F := Ideal) FTy.f32 (1#32 : BitVec 32) : EReal) = 1 := by
    show ((((1#32 : BitVec 32).toInt : ℝ)) : EReal) = 1
    norm_num
  have h0 : (FloatOps.sitofp (F := Ideal) FTy.f32 (0#32 : BitVec 32) : EReal) = 0 := by
    show ((((0#32 : BitVec 32).toInt : ℝ)) : EReal) = 0
    norm_num
  by_cases hp : p <;> by_cases hq : q <;> simp only [hp, hq, if_true, if_false, and_self, and_true, and_false]
  · exact h1
  · exact h0
  · exact h0
  · exact h0

/-- The mask of the row before: one, except at the first row of either stream. -/
theorem maskL_at (t : Fin cfg0.N) (y : Fin 544) :
    k0_pay24 (F := Ideal) (w4 t) (ix2 ⟨16 + y.val, by omega⟩ 0) = if (iOf t y).val ≠ 0 ∧ (iOf t y).val ≠ 4096 then 1 else 0 := by
  pointwise [k0_pay24, k0_pay23]
  rw [word_mid, cmp_ne _ 0 (by omega) (by omega), cmp_ne _ 4096 (by omega) (by omega)]
  exact mask_num _ _

/-- The mask of the row after: one, except at the last row of either stream. -/
theorem maskR_at (t : Fin cfg0.N) (y : Fin 544) :
    k0_pay25 (F := Ideal) (w4 t) (ix2 ⟨16 + y.val, by omega⟩ 0) = if (iOf t y).val ≠ 4095 ∧ (iOf t y).val ≠ 4351 then 1 else 0 := by
  pointwise [k0_pay25, k0_pay23]
  rw [word_mid, cmp_ne _ 4095 (by omega) (by omega), cmp_ne _ 4351 (by omega) (by omega)]
  exact mask_num _ _

section
variable (M : FVec Ideal S1x2x6x1024 .f32) (G : FVec Ideal S1x1024 .f32) (X : FVec Ideal S1x16x1024 .f32)
  (Y : FVec Ideal S1x544x1024 .f32) (v : BitVec 32)

/-- A row before the tile, normalised and modulated. -/
theorem before_at (i : grid0.Coords) (s : Fin 16) (d : Fin 1024) :
    (k0_pay9 (F := Ideal) (k0_pay3 G) (k0_pay4 X) (k0_pay6 i M) (k0_pay7 i M) (k0_pay8 X) : FVec Ideal S16x1024 .bf16) (ix2 s d)
      = normed (fun d => X (ix3 0 s d)) (G (ix2 0 d))
          (Scalar.select (IntOp.cmpi .slt (IntOp.addi (Scalar.subi (Scalar.muli (BitVec.ofNat 32 (i 1).val) 544#32) 16#32) (BitVec.ofNat 32 s.val)) 4096#32) (M (ix4 0 0 4 d)) (M (ix4 0 1 4 d)))
          (Scalar.select (IntOp.cmpi .slt (IntOp.addi (Scalar.subi (Scalar.muli (BitVec.ofNat 32 (i 1).val) 544#32) 16#32) (BitVec.ofNat 32 s.val)) 4096#32) (M (ix4 0 0 3 d)) (M (ix4 0 1 3 d))) d := by
  unfold normed invRms
  pointwise [k0_pay9, k0_pay8, k0_pay7, k0_pay6, k0_pay5, k0_pay4, k0_pay3, k0_pay2]

/-- A row of the tile, normalised and modulated. -/
theorem tile_at (s : Fin 544) (d : Fin 1024) :
    (k0_pay15 (F := Ideal) (k0_pay3 G) (k0_pay10 Y) (k0_pay12 (k0_pay2 M) v) (k0_pay13 (k0_pay2 M) v) (k0_pay14 Y) : FVec Ideal S544x1024 .bf16) (ix2 s d)
      = normed (fun d => Y (ix3 0 s d)) (G (ix2 0 d))
          (Scalar.select (IntOp.cmpi .slt (IntOp.addi (v) (BitVec.ofNat 32 s.val)) 4096#32) (M (ix4 0 0 4 d)) (M (ix4 0 1 4 d)))
          (Scalar.select (IntOp.cmpi .slt (IntOp.addi (v) (BitVec.ofNat 32 s.val)) 4096#32) (M (ix4 0 0 3 d)) (M (ix4 0 1 3 d))) d := by
  unfold normed invRms
  pointwise [k0_pay15, k0_pay14, k0_pay13, k0_pay12, k0_pay11, k0_pay10, k0_pay3, k0_pay2]

/-- A row after the tile, normalised and modulated. -/
theorem after_at (s : Fin 16) (d : Fin 1024) :
    (k0_pay22 (F := Ideal) (k0_pay3 G) (k0_pay16 X) (k0_pay18 (k0_pay2 M) v) (k0_pay19 (k0_pay2 M) v) (k0_pay20 X) k0_pay21 : FVec Ideal S16x1024 .bf16) (ix2 s d)
      = normed (fun d => X (ix3 0 s d)) (G (ix2 0 d))
          (Scalar.select (IntOp.cmpi .slt (IntOp.addi (Scalar.addi v 544#32) (BitVec.ofNat 32 s.val)) 4096#32) (M (ix4 0 0 4 d)) (M (ix4 0 1 4 d)))
          (Scalar.select (IntOp.cmpi .slt (IntOp.addi (Scalar.addi v 544#32) (BitVec.ofNat 32 s.val)) 4096#32) (M (ix4 0 0 3 d)) (M (ix4 0 1 3 d))) d := by
  unfold normed invRms
  pointwise [k0_pay22, k0_pay21, k0_pay20, k0_pay19, k0_pay18, k0_pay17, k0_pay16, k0_pay3, k0_pay2]
end

variable (m : (ℓ : Loc nD τ sig) → Buf (Elt Ideal) ℓ) (c : Dev nD) (t : Fin cfg0.N)

/-- The modulation a row is given: its batch entry's for a latent token, the context's for a context token. -/
theorem pick (k : Fin 6) (d : Fin 1024) (i : Fin 4352) :
    Scalar.select (IntOp.cmpi .slt (BitVec.ofNat 32 i.val) 4096#32)
      ((iblk m c 3 t : FVec Ideal S1x2x6x1024 .f32) (ix4 0 0 k d)) ((iblk m c 3 t : FVec Ideal S1x2x6x1024 .f32) (ix4 0 1 k d))
      = (m ((c : Thread nD τ).loc main_arg1) : FVec Ideal S24x6x1024 .f32) (ix3 (modRow (bOf t) i) k d) := by
  rw [read3 m c t 0 k d, read3 m c t 1 k d, cmp_lt _ 4096 (by omega) (by omega)]
  unfold modRow row2
  by_cases h : i.val < 4096
  · rw [if_pos h, if_pos h]; rfl
  · rw [if_neg h, if_neg h]; rfl

/-- The scratch the body lays its rows out in. -/
def rowsOf : FVec Ideal S576x1024 .bf16 :=
  View.canon (Val := Elt Ideal) (e := .bf16) [⟨Rect.unit ![560, 0] ![16, 1024] inb_S576x1024_S16x1024_560_0,
      k0_pay22 (F := Ideal) (k0_pay3 (iblk m c 4 t)) (k0_pay16 (iblk m c 2 t)) (k0_pay18 (k0_pay2 (iblk m c 3 t)) (w4 t)) (k0_pay19 (k0_pay2 (iblk m c 3 t)) (w4 t)) (k0_pay20 (iblk m c 2 t)) k0_pay21⟩,
    ⟨Rect.unit ![16, 0] ![544, 1024] inb_S576x1024_S544x1024_16_0,
      k0_pay15 (F := Ideal) (k0_pay3 (iblk m c 4 t)) (k0_pay10 (iblk m c 0 t)) (k0_pay12 (k0_pay2 (iblk m c 3 t)) (w4 t)) (k0_pay13 (k0_pay2 (iblk m c 3 t)) (w4 t)) (k0_pay14 (iblk m c 0 t))⟩,
    ⟨Rect.unit ![0, 0] ![16, 1024] inb_S576x1024_S16x1024_0_0,
      k0_pay9 (F := Ideal) (k0_pay3 (iblk m c 4 t)) (k0_pay4 (iblk m c 1 t)) (k0_pay6 (grid0.coords t) (iblk m c 3 t)) (k0_pay7 (grid0.coords t) (iblk m c 3 t)) (k0_pay8 (iblk m c 1 t))⟩]

/-- The modulated row of a token. -/
abbrev innerOf (i : Fin 4352) (d : Fin 1024) : EReal :=
  Cert.Layer.inner (m ((c : Thread nD τ).loc main_arg0) : FVec Ideal S16x4352x1024 .f32) (m ((c : Thread nD τ).loc main_arg1) : FVec Ideal S24x6x1024 .f32) (m ((c : Thread nD τ).loc main_arg2) : FVec Ideal S1024 .f32) (bOf t) i d

/-- Scratch row `16 + y` is the modulated row of the tile's token `y`. -/
theorem rows_mid (y : Fin 544) (d : Fin 1024) : rowsOf m c t (ix2 ⟨16 + y.val, by omega⟩ d) = innerOf m c t (iOf t y) d := by
  unfold rowsOf
  rw [rowsAt, dif_neg (by show ¬ 16 + y.val < 16; omega), dif_pos (by show 16 + y.val < 560; omega)]
  have e : (⟨16 + y.val - 16, by omega⟩ : Fin 544) = y := Fin.ext (by show 16 + y.val - 16 = y.val; omega)
  rw [e, tile_at, word_of, pick, pick, read4]
  unfold innerOf Cert.Layer.inner
  refine congrArg (fun r => normed r _ _ _ d) (funext fun d => read0 m c t y d)

/-- Scratch row `s` of the first sixteen is the modulated row of a token before the tile. -/
theorem rows_before (ht : t.val % 8 ≠ 0) (s : Fin 16) (d : Fin 1024) :
    rowsOf m c t (ix2 ⟨s.val, by omega⟩ d) = innerOf m c t ⟨t.val % 8 * 544 - 16 + s.val, by omega⟩ d := by
  unfold rowsOf
  rw [rowsAt, dif_pos s.isLt, before_at]
  have hw : IntOp.cmpi .slt (IntOp.addi (Scalar.subi (Scalar.muli (BitVec.ofNat 32 ((grid0.coords t) 1).val) 544#32) 16#32) (BitVec.ofNat 32 s.val)) 4096#32
      = IntOp.cmpi .slt (BitVec.ofNat 32 (t.val % 8 * 544 - 16 + s.val)) 4096#32 := congrArg (IntOp.cmpi .slt · 4096#32) (word_before t ht s)
  rw [hw]
  have hp := fun k => pick m c t k d ⟨t.val % 8 * 544 - 16 + s.val, by omega⟩
  refine (congrArg₂ (fun a b => normed _ _ a b d) (hp 4) (hp 3)).trans ?_
  rw [read4]
  unfold innerOf Cert.Layer.inner
  exact congrArg (fun r => normed r _ _ _ d) (funext fun d => read1 m c t ht s d)

/-- Scratch row `560 + s` is the modulated row of a token after the tile. -/
theorem rows_after (ht : t.val % 8 ≠ 7) (s : Fin 16) (d : Fin 1024) :
    rowsOf m c t (ix2 ⟨560 + s.val, by omega⟩ d) = innerOf m c t ⟨t.val % 8 * 544 + 544 + s.val, by omega⟩ d := by
  unfold rowsOf
  rw [rowsAt, dif_neg (by show ¬ 560 + s.val < 16; omega), dif_neg (by show ¬ 560 + s.val < 560; omega)]
  have e : (⟨560 + s.val - 560, by omega⟩ : Fin 16) = s := Fin.ext (by show 560 + s.val - 560 = s.val; omega)
  rw [e, after_at, word_after]
  have hp := fun k => pick m c t k d ⟨t.val % 8 * 544 + 544 + s.val, by omega⟩
  refine (congrArg₂ (fun a b => normed _ _ a b d) (hp 4) (hp 3)).trans ?_
  rw [read4]
  unfold innerOf Cert.Layer.inner
  exact congrArg (fun r => normed r _ _ _ d) (funext fun d => read2 m c t ht s d)

/-- Scratch row `15 + y` is the modulated row of the token before the tile's token `y`, if there is one. -/
theorem rows_prev (y : Fin 544) (d : Fin 1024) (h : (iOf t y).val ≠ 0) :
    rowsOf m c t (ix2 ⟨15 + y.val, by omega⟩ d) = innerOf m c t ⟨(iOf t y).val - 1, by omega⟩ d := by
  by_cases hy : y.val = 0
  · have ht : t.val % 8 ≠ 0 := fun e => h (by show t.val % 8 * 544 + y.val = 0; omega)
    refine (congrArg (fun s => rowsOf m c t (ix2 s d)) (Fin.ext ?_)).trans
      ((rows_before m c t ht ⟨15, by omega⟩ d).trans (congrArg (fun i => innerOf m c t i d) (Fin.ext ?_)))
    · show 15 + y.val = 15; omega
    · show t.val % 8 * 544 - 16 + 15 = t.val % 8 * 544 + y.val - 1; omega
  · refine (congrArg (fun s => rowsOf m c t (ix2 s d)) (Fin.ext ?_)).trans
      ((rows_mid m c t ⟨y.val - 1, by omega⟩ d).trans (congrArg (fun i => innerOf m c t i d) (Fin.ext ?_)))
    · show 15 + y.val = 16 + (y.val - 1); omega
    · show t.val % 8 * 544 + (y.val - 1) = t.val % 8 * 544 + y.val - 1; omega

/-- Scratch row `17 + y` is the modulated row of the token after the tile's token `y`, if there is one. -/
theorem rows_next (y : Fin 544) (d : Fin 1024) (h : (iOf t y).val ≠ 4351) :
    rowsOf m c t (ix2 ⟨17 + y.val, by omega⟩ d) = innerOf m c t ⟨(iOf t y).val + 1, by have := (iOf t y).isLt; omega⟩ d := by
  have hi : (iOf t y).val = t.val % 8 * 544 + y.val := rfl
  by_cases hy : y.val = 543
  · have ht : t.val % 8 ≠ 7 := fun e => h (by rw [hi]; omega)
    refine (congrArg (fun s => rowsOf m c t (ix2 s d)) (Fin.ext ?_)).trans
      ((rows_after m c t ht ⟨0, by omega⟩ d).trans (congrArg (fun i => innerOf m c t i d) (Fin.ext ?_)))
    · show 17 + y.val = 560 + 0; omega
    · show t.val % 8 * 544 + 544 + 0 = (iOf t y).val + 1; rw [hi]; omega
  · refine (congrArg (fun s => rowsOf m c t (ix2 s d)) (Fin.ext ?_)).trans
      ((rows_mid m c t ⟨y.val + 1, by omega⟩ d).trans (congrArg (fun i => innerOf m c t i d) (Fin.ext ?_)))
    · show 17 + y.val = 16 + (y.val + 1); omega
    · show t.val % 8 * 544 + (y.val + 1) = (iOf t y).val + 1; rw [hi]; omega

/-- The block's convolution of the columns `f` that hold column `F` of the weights is the convolution of the specification. -/
theorem convTile_eq (W : FVec Ideal S1024x256 .bf16) (C : FVec Ideal S3x256 .f32) (B : FVec Ideal S1x256 .f32) (y : Fin 544) (f : Fin 256) (F : Fin 5632)
    (hW : ∀ d : Fin 1024, W (ix2 d f) = (m ((c : Thread nD τ).loc main_arg3) : FVec Ideal S1024x5632 .f32) (ix2 d F))
    (hC : ∀ k : Fin 3, C (ix2 k f) = (m ((c : Thread nD τ).loc main_arg4) : FVec Ideal S3x5632 .f32) (ix2 k F))
    (hB : B (ix2 0 f) = (m ((c : Thread nD τ).loc main_arg5) : FVec Ideal S5632 .f32) (ix1 F)) :
    convTile (rowsOf m c t) (k0_pay24 (F := Ideal) (w4 t)) (k0_pay25 (F := Ideal) (w4 t)) W C B y f
      = Cert.Layer.convAt (m ((c : Thread nD τ).loc main_arg0) : FVec Ideal S16x4352x1024 .f32) (m ((c : Thread nD τ).loc main_arg1) : FVec Ideal S24x6x1024 .f32) (m ((c : Thread nD τ).loc main_arg2) : FVec Ideal S1024 .f32) (m ((c : Thread nD τ).loc main_arg3) : FVec Ideal S1024x5632 .f32) (m ((c : Thread nD τ).loc main_arg4) : FVec Ideal S3x5632 .f32) (m ((c : Thread nD τ).loc main_arg5) : FVec Ideal S5632 .f32) (bOf t) (iOf t y) F := by
  have key : ∀ (s : Fin 576) (i : Fin 4352) (hr : ∀ d, rowsOf m c t (ix2 s d) = innerOf m c t i d),
      upTile (rowsOf m c t) W s f = Cert.Layer.upAt (m ((c : Thread nD τ).loc main_arg0) : FVec Ideal S16x4352x1024 .f32) (m ((c : Thread nD τ).loc main_arg1) : FVec Ideal S24x6x1024 .f32) (m ((c : Thread nD τ).loc main_arg2) : FVec Ideal S1024 .f32) (m ((c : Thread nD τ).loc main_arg3) : FVec Ideal S1024x5632 .f32) (bOf t) i F := by
    intro s i hr
    unfold upTile Cert.Layer.upAt
    exact Finset.sum_congr rfl fun d _ => Ideal.mul_congr (hr d) (hW d)
  unfold convTile Cert.Layer.convAt
  rw [maskL_at, maskR_at, hC, hC, hC, hB, key _ _ (rows_mid m c t y)]
  have h1 : upTile (rowsOf m c t) W ⟨15 + y.val, by omega⟩ f * (if (iOf t y).val ≠ 0 ∧ (iOf t y).val ≠ 4096 then (1 : EReal) else 0)
      = Cert.Layer.upPrev (m ((c : Thread nD τ).loc main_arg0) : FVec Ideal S16x4352x1024 .f32) (m ((c : Thread nD τ).loc main_arg1) : FVec Ideal S24x6x1024 .f32) (m ((c : Thread nD τ).loc main_arg2) : FVec Ideal S1024 .f32) (m ((c : Thread nD τ).loc main_arg3) : FVec Ideal S1024x5632 .f32) (bOf t) (iOf t y) F := by
    unfold Cert.Layer.upPrev
    by_cases h : (iOf t y).val ≠ 0 ∧ (iOf t y).val ≠ 4096
    · rw [if_pos h, dif_pos h, mul_one]
      exact key _ _ fun d => rows_prev m c t y d h.1
    · rw [if_neg h, dif_neg h, mul_zero]
  have h2 : upTile (rowsOf m c t) W ⟨17 + y.val, by omega⟩ f * (if (iOf t y).val ≠ 4095 ∧ (iOf t y).val ≠ 4351 then (1 : EReal) else 0)
      = Cert.Layer.upNext (m ((c : Thread nD τ).loc main_arg0) : FVec Ideal S16x4352x1024 .f32) (m ((c : Thread nD τ).loc main_arg1) : FVec Ideal S24x6x1024 .f32) (m ((c : Thread nD τ).loc main_arg2) : FVec Ideal S1024 .f32) (m ((c : Thread nD τ).loc main_arg3) : FVec Ideal S1024x5632 .f32) (bOf t) (iOf t y) F := by
    unfold Cert.Layer.upNext
    by_cases h : (iOf t y).val ≠ 4095 ∧ (iOf t y).val ≠ 4351
    · rw [if_pos h, dif_pos h, mul_one]
      exact key _ _ fun d => rows_next m c t y d h.2
    · rw [if_neg h, dif_neg h, mul_zero]
  rw [h1, h2]

end Cert.FfnIdeal.Value

end
-- ==== Proof.FfnArray.lean ====
module

public import proofs.«01_k».proof.Proof.FfnRows

@[expose] public section

/-! What the feed-forward kernel leaves in its result array: `Cert.Layer.ffnAt` at every index. -/

set_option maxRecDepth 16384
noncomputable section
open Idealize.ShloMosaic Idealize.ShloMosaic.TcCoe Idealize.SL.Sem
open Idealize.ShloMosaic.Pipeline (Dat)
namespace Cert.FfnIdeal.Value
open Cert.FfnIdeal Cert.FfnIdeal.Gen
open Cert.Layer (normed invRms modRow)

variable (m : (ℓ : Loc nD τ sig) → Buf (Elt Ideal) ℓ) (c : Dev nD) (t : Fin cfg0.N)

/-- The load of the laid-out rows reads them all. -/
theorem load_rows : (View.whole cc0_scratch0).readCov (Val := Elt Ideal) [⟨Rect.unit ![560, 0] ![16, 1024] inb_S576x1024_S16x1024_560_0,
      k0_pay22 (F := Ideal) (k0_pay3 (iblk m c 4 t)) (k0_pay16 (iblk m c 2 t)) (k0_pay18 (k0_pay2 (iblk m c 3 t)) (w4 t)) (k0_pay19 (k0_pay2 (iblk m c 3 t)) (w4 t)) (k0_pay20 (iblk m c 2 t)) k0_pay21⟩,
    ⟨Rect.unit ![16, 0] ![544, 1024] inb_S576x1024_S544x1024_16_0,
      k0_pay15 (F := Ideal) (k0_pay3 (iblk m c 4 t)) (k0_pay10 (iblk m c 0 t)) (k0_pay12 (k0_pay2 (iblk m c 3 t)) (w4 t)) (k0_pay13 (k0_pay2 (iblk m c 3 t)) (w4 t)) (k0_pay14 (iblk m c 0 t))⟩,
    ⟨Rect.unit ![0, 0] ![16, 1024] inb_S576x1024_S16x1024_0_0,
      k0_pay9 (F := Ideal) (k0_pay3 (iblk m c 4 t)) (k0_pay4 (iblk m c 1 t)) (k0_pay6 (grid0.coords t) (iblk m c 3 t)) (k0_pay7 (grid0.coords t) (iblk m c 3 t)) (k0_pay8 (iblk m c 1 t))⟩]
      (Rect.unit ![0, 0] ![576, 1024] inb_S576x1024_S576x1024_0_0).toLoadRect = rowsOf m c t := by
  rw [View.readCov_eq_canon']
  funext j
  unfold rowsOf
  refine congrArg _ ?_
  funext a
  refine Fin.ext ?_
  match a with
  | ⟨0, _⟩ => show 0 + 1 * (j 0).val = (j 0).val; omega
  | ⟨1, _⟩ => show 0 + 1 * (j 1).val = (j 1).val; omega

/-- The activations of the tile's tokens. -/
def actsOf : FVec Ideal S544x2816 .bf16 :=
  fun j => Cert.Layer.actAt (m ((c : Thread nD τ).loc main_arg0) : FVec Ideal S16x4352x1024 .f32) (m ((c : Thread nD τ).loc main_arg1) : FVec Ideal S24x6x1024 .f32) (m ((c : Thread nD τ).loc main_arg2) : FVec Ideal S1024 .f32)
    (m ((c : Thread nD τ).loc main_arg3) : FVec Ideal S1024x5632 .f32) (m ((c : Thread nD τ).loc main_arg4) : FVec Ideal S3x5632 .f32) (m ((c : Thread nD τ).loc main_arg5) : FVec Ideal S5632 .f32) (bOf t) (iOf t (j 0)) (j 1)

/-- The load of the laid-out activations, when every chunk of 256 columns holds them. -/
theorem load_acts (P0 P1 P2 P3 P4 P5 P6 P7 P8 P9 P10 : FVec Ideal S544x256 .bf16)
    (hP0 : ∀ (y : Fin 544) (f : Fin 256), P0 (ix2 y f) = actsOf m c t (ix2 y ⟨0 + f.val, by omega⟩))
    (hP1 : ∀ (y : Fin 544) (f : Fin 256), P1 (ix2 y f) = actsOf m c t (ix2 y ⟨256 + f.val, by omega⟩))
    (hP2 : ∀ (y : Fin 544) (f : Fin 256), P2 (ix2 y f) = actsOf m c t (ix2 y ⟨512 + f.val, by omega⟩))
    (hP3 : ∀ (y : Fin 544) (f : Fin 256), P3 (ix2 y f) = actsOf m c t (ix2 y ⟨768 + f.val, by omega⟩))
    (hP4 : ∀ (y : Fin 544) (f : Fin 256), P4 (ix2 y f) = actsOf m c t (ix2 y ⟨1024 + f.val, by omega⟩))
    (hP5 : ∀ (y : Fin 544) (f : Fin 256), P5 (ix2 y f) = actsOf m c t (ix2 y ⟨1280 + f.val, by omega⟩))
    (hP6 : ∀ (y : Fin 544) (f : Fin 256), P6 (ix2 y f) = actsOf m c t (ix2 y ⟨1536 + f.val, by omega⟩))
    (hP7 : ∀ (y : Fin 544) (f : Fin 256), P7 (ix2 y f) = actsOf m c t (ix2 y ⟨1792 + f.val, by omega⟩))
    (hP8 : ∀ (y : Fin 544) (f : Fin 256), P8 (ix2 y f) = actsOf m c t (ix2 y ⟨2048 + f.val, by omega⟩))
    (hP9 : ∀ (y : Fin 544) (f : Fin 256), P9 (ix2 y f) = actsOf m c t (ix2 y ⟨2304 + f.val, by omega⟩))
    (hP10 : ∀ (y : Fin 544) (f : Fin 256), P10 (ix2 y f) = actsOf m c t (ix2 y ⟨2560 + f.val, by omega⟩)) :
    (View.whole cc0_scratch1).readCov (Val := Elt Ideal) [⟨Rect.unit ![0, 2560] ![544, 256] inb_S544x2816_S544x256_0_2560, P10⟩,
      ⟨Rect.unit ![0, 2304] ![544, 256] inb_S544x2816_S544x256_0_2304, P9⟩,
      ⟨Rect.unit ![0, 2048] ![544, 256] inb_S544x2816_S544x256_0_2048, P8⟩,
      ⟨Rect.unit ![0, 1792] ![544, 256] inb_S544x2816_S544x256_0_1792, P7⟩,
      ⟨Rect.unit ![0, 1536] ![544, 256] inb_S544x2816_S544x256_0_1536, P6⟩,
      ⟨Rect.unit ![0, 1280] ![544, 256] inb_S544x2816_S544x256_0_1280, P5⟩,
      ⟨Rect.unit ![0, 1024] ![544, 256] inb_S544x2816_S544x256_0_1024, P4⟩,
      ⟨Rect.unit ![0, 768] ![544, 256] inb_S544x2816_S544x256_0_768, P3⟩,
      ⟨Rect.unit ![0, 512] ![544, 256] inb_S544x2816_S544x256_0_512, P2⟩,
      ⟨Rect.unit ![0, 256] ![544, 256] inb_S544x2816_S544x256_0_256, P1⟩,
      ⟨Rect.unit ![0, 0] ![544, 256] inb_S544x2816_S544x256_0_0, P0⟩]
      (Rect.unit ![0, 0] ![544, 2816] inb_S544x2816_S544x2816_0_0).toLoadRect = actsOf m c t := by
  rw [View.readCov_eq_canon']
  funext j
  have ej : (Rect.unit ![0, 0] ![544, 2816] inb_S544x2816_S544x2816_0_0).toLoadRect.idx j = (ix2 (j 0) (j 1) : S544x2816.Idx) := by
    funext a
    refine Fin.ext ?_
    match a with
    | ⟨0, _⟩ => show 0 + 1 * (j 0).val = (j 0).val; omega
    | ⟨1, _⟩ => show 0 + 1 * (j 1).val = (j 1).val; omega
  refine (congrArg _ ej).trans ((chunksAt P0 P1 P2 P3 P4 P5 P6 P7 P8 P9 P10 (actsOf m c t) hP0 hP1 hP2 hP3 hP4 hP5 hP6 hP7 hP8 hP9 hP10 (j 0) (j 1)).trans (congrArg (actsOf m c t) ?_))
  funext a
  match a with
  | ⟨0, _⟩ => rfl
  | ⟨1, _⟩ => rfl

/-- 256 columns of the up-projection's weight, loaded from column `k` on. -/
theorem ld5 (k : ℕ) (inb) (d : Fin 1024) (f : Fin 256) (F : Fin 5632) (hF : F.val = k + f.val) :
    (View.ld (iblk m c 5 t) (Rect.unit ![0, k] ![1024, 256] inb) : FVec Ideal S1024x256 .bf16) (ix2 d f) = (m ((c : Thread nD τ).loc main_arg3) : FVec Ideal S1024x5632 .f32) (ix2 d F) := by
  refine Eq.trans (congrArg (iblk m c 5 t : FVec Ideal S1024x5632 .bf16) ?_) (read5 m c t d F)
  funext a
  refine Fin.ext ?_
  match a with
  | ⟨0, _⟩ => show 0 + 1 * d.val = d.val; omega
  | ⟨1, _⟩ => show k + 1 * f.val = F.val; omega

/-- 256 columns of the convolution's taps, loaded from column `k` on. -/
theorem ld6 (k : ℕ) (inb) (r : Fin 3) (f : Fin 256) (F : Fin 5632) (hF : F.val = k + f.val) :
    (View.ld (iblk m c 6 t) (Rect.unit ![0, k] ![3, 256] inb) : FVec Ideal S3x256 .f32) (ix2 r f) = (m ((c : Thread nD τ).loc main_arg4) : FVec Ideal S3x5632 .f32) (ix2 r F) := by
  refine Eq.trans (congrArg (iblk m c 6 t : FVec Ideal S3x5632 .f32) ?_) (read6 m c t r F)
  funext a
  refine Fin.ext ?_
  match a with
  | ⟨0, _⟩ => show 0 + 1 * r.val = r.val; omega
  | ⟨1, _⟩ => show k + 1 * f.val = F.val; omega

/-- 256 columns of the convolution's bias, loaded from column `k` on. -/
theorem ld7 (k : ℕ) (inb) (f : Fin 256) (F : Fin 5632) (hF : F.val = k + f.val) :
    (View.ld (iblk m c 7 t) (Rect.unit ![0, k] ![1, 256] inb) : FVec Ideal S1x256 .f32) (ix2 0 f) = (m ((c : Thread nD τ).loc main_arg5) : FVec Ideal S5632 .f32) (ix1 F) := by
  refine Eq.trans (congrArg (iblk m c 7 t : FVec Ideal S1x5632 .f32) ?_) (read7 m c t F)
  funext a
  refine Fin.ext ?_
  match a with
  | ⟨0, _⟩ => rfl
  | ⟨1, _⟩ => show k + 1 * f.val = F.val; omega

/-- A chunk's gated values, computed from its loads, are the activations of its columns. -/
theorem acts_eq (kg kv : ℕ) (g5 g6 g7 v5 v6 v7) (y : Fin 544) (f : Fin 256) (F : Fin 2816) (hF : F.val = kg + f.val) (hk : kv = 2816 + kg) :
    Cert.Layer.gated
      (convTile (rowsOf m c t) (k0_pay24 (F := Ideal) (w4 t)) (k0_pay25 (F := Ideal) (w4 t))
        (View.ld (iblk m c 5 t) (Rect.unit ![0, kg] ![1024, 256] g5) : FVec Ideal S1024x256 .bf16)
        (View.ld (iblk m c 6 t) (Rect.unit ![0, kg] ![3, 256] g6) : FVec Ideal S3x256 .f32)
        (View.ld (iblk m c 7 t) (Rect.unit ![0, kg] ![1, 256] g7) : FVec Ideal S1x256 .f32) y f)
      (convTile (rowsOf m c t) (k0_pay24 (F := Ideal) (w4 t)) (k0_pay25 (F := Ideal) (w4 t))
        (View.ld (iblk m c 5 t) (Rect.unit ![0, kv] ![1024, 256] v5) : FVec Ideal S1024x256 .bf16)
        (View.ld (iblk m c 6 t) (Rect.unit ![0, kv] ![3, 256] v6) : FVec Ideal S3x256 .f32)
        (View.ld (iblk m c 7 t) (Rect.unit ![0, kv] ![1, 256] v7) : FVec Ideal S1x256 .f32) y f)
      = actsOf m c t (ix2 y F) := by
  unfold actsOf Cert.Layer.actAt
  refine congrArg₂ Cert.Layer.gated ?_ ?_
  · exact convTile_eq m c t _ _ _ y f ⟨F.val, by omega⟩ (fun d => ld5 m c t kg g5 d f _ hF) (fun r => ld6 m c t kg g6 r f _ hF) (ld7 m c t kg g7 f _ hF)
  · have hv : (⟨2816 + F.val, by omega⟩ : Fin 5632).val = kv + f.val := by show 2816 + F.val = kv + f.val; omega
    exact convTile_eq m c t _ _ _ y f ⟨2816 + F.val, by omega⟩ (fun d => ld5 m c t kv v5 d f _ hv) (fun r => ld6 m c t kv v6 r f _ hv) (ld7 m c t kv v7 f _ hv)

/-- The body's last step: the tile's rows plus the gate times the activations' down-projection. -/
theorem last_at (M : FVec Ideal S1x2x6x1024 .f32) (A : FVec Ideal S544x2816 .bf16) (W : FVec Ideal S2816x1024 .bf16) (Y : FVec Ideal S1x544x1024 .f32)
    (v : BitVec 32) (y : Fin 544) (e : Fin 1024) :
    (k0_pay1 (F := Ideal) (k0_pay80 (k0_pay2 M) v A W Y) : FVec Ideal S1x544x1024 .f32) (ix3 0 y e)
      = Y (ix3 0 y e) + Scalar.select (IntOp.cmpi .slt (IntOp.addi v (BitVec.ofNat 32 y.val)) 4096#32) (M (ix4 0 0 5 e)) (M (ix4 0 1 5 e))
          * ∑ f : Fin 2816, A (ix2 y f) * W (ix2 f e) := by
  pointwise [k0_pay1, k0_pay80, k0_pay2]

/-- The whole result array as a function of the arguments. -/
def OUT (x : FVec Ideal S16x4352x1024 .f32) (mo : FVec Ideal S24x6x1024 .f32) (g : FVec Ideal S1024 .f32) (up : FVec Ideal S1024x5632 .f32)
    (cw : FVec Ideal S3x5632 .f32) (cb : FVec Ideal S5632 .f32) (down : FVec Ideal S2816x1024 .f32) : FVec Ideal S16x4352x1024 .f32 :=
  fun j => Cert.Layer.ffnAt x mo g up cw cb down (j 0) (j 1) (j 2)

/-- POINT: what the body stores at `y` is the result array's value where `y` lies. -/
theorem point (y : S1x544x1024.Idx) :
    outsAt0 m c t y = OUT (m ((c : Thread nD τ).loc main_arg0) : FVec Ideal S16x4352x1024 .f32) (m ((c : Thread nD τ).loc main_arg1) : FVec Ideal S24x6x1024 .f32) (m ((c : Thread nD τ).loc main_arg2) : FVec Ideal S1024 .f32)
      (m ((c : Thread nD τ).loc main_arg3) : FVec Ideal S1024x5632 .f32) (m ((c : Thread nD τ).loc main_arg4) : FVec Ideal S3x5632 .f32) (m ((c : Thread nD τ).loc main_arg5) : FVec Ideal S5632 .f32) (m ((c : Thread nD τ).loc main_arg6) : FVec Ideal S2816x1024 .f32)
      ((win0_9.blk t).view.emb y) := by
  unfold outsAt0
  frame_out
  simp only [load_rows m c t]
  idx_vars y
  rw [emb_out]
  show _ = Cert.Layer.ffnAt _ _ _ _ _ _ _ (bOf t) (iOf t y1) y2
  have e0 : y0 = 0 := Subsingleton.elim _ _
  subst e0
  rw [load_acts m c t]
  · rw [last_at, word_of, pick, read0]
    unfold Cert.Layer.ffnAt
    refine congrArg₂ (· + ·) rfl (congrArg₂ (· * ·) rfl (Finset.sum_congr rfl fun f _ => Ideal.mul_congr rfl (read8 m c t f y2)))
  · exact fun y f => Eq.trans (chunk0 ..) (acts_eq m c t 0 2816 _ _ _ _ _ _ y f _ rfl rfl)
  · exact fun y f => Eq.trans (chunk1 ..) (acts_eq m c t 256 3072 _ _ _ _ _ _ y f _ rfl rfl)
  · exact fun y f => Eq.trans (chunk2 ..) (acts_eq m c t 512 3328 _ _ _ _ _ _ y f _ rfl rfl)
  · exact fun y f => Eq.trans (chunk3 ..) (acts_eq m c t 768 3584 _ _ _ _ _ _ y f _ rfl rfl)
  · exact fun y f => Eq.trans (chunk4 ..) (acts_eq m c t 1024 3840 _ _ _ _ _ _ y f _ rfl rfl)
  · exact fun y f => Eq.trans (chunk5 ..) (acts_eq m c t 1280 4096 _ _ _ _ _ _ y f _ rfl rfl)
  · exact fun y f => Eq.trans (chunk6 ..) (acts_eq m c t 1536 4352 _ _ _ _ _ _ y f _ rfl rfl)
  · exact fun y f => Eq.trans (chunk7 ..) (acts_eq m c t 1792 4608 _ _ _ _ _ _ y f _ rfl rfl)
  · exact fun y f => Eq.trans (chunk8 ..) (acts_eq m c t 2048 4864 _ _ _ _ _ _ y f _ rfl rfl)
  · exact fun y f => Eq.trans (chunk9 ..) (acts_eq m c t 2304 5120 _ _ _ _ _ _ y f _ rfl rfl)
  · exact fun y f => Eq.trans (chunk10 ..) (acts_eq m c t 2560 5376 _ _ _ _ _ _ y f _ rfl rfl)

/-- FINAL: the result array after the run. -/
theorem final : (dats m 0 c).arrAt 9 cfg0.N = OUT (m ((c : Thread nD τ).loc main_arg0) : FVec Ideal S16x4352x1024 .f32) (m ((c : Thread nD τ).loc main_arg1) : FVec Ideal S24x6x1024 .f32) (m ((c : Thread nD τ).loc main_arg2) : FVec Ideal S1024 .f32)
      (m ((c : Thread nD τ).loc main_arg3) : FVec Ideal S1024x5632 .f32) (m ((c : Thread nD τ).loc main_arg4) : FVec Ideal S3x5632 .f32) (m ((c : Thread nD τ).loc main_arg5) : FVec Ideal S5632 .f32) (m ((c : Thread nD τ).loc main_arg6) : FVec Ideal S2816x1024 .f32) := by
  refine (dats m 0 c).arrAt_eq_of_covers 9 _ (by decide +kernel) fun t _ y => ?_
  blk_simp
  rw [after0_9]
  exact point m c t y

end Cert.FfnIdeal.Value

end
-- ==== Proof.FfnRefRead.lean ====
module

public import proofs.«01_k».proof.Proof.Gen.FfnRefIdeal.Run
public import proofs.«01_k».proof.Proof.FfnSpec
public import Idealize.ShloMosaic.Lib.Pointwise

@[expose] public section

/-! What the reference of the feed-forward computes: `Cert.Layer.ffnAt` at every index. -/

set_option maxRecDepth 16384
noncomputable section
open Idealize.ShloMosaic Idealize.ShloMosaic.TcCoe Idealize.SL.Sem
namespace Cert.FfnRefIdeal.Value
open Cert.FfnRefIdeal Cert.FfnRefIdeal.Gen

/-- The shift of every token: its batch entry's for a latent token, the context's for a context token. -/
def mod3 (m : FVec Ideal S24x6x1024 .f32) : FVec Ideal S16x4352x1024 .f32 :=
  concatenate S16x4352x1024 1 [⟨S16x4096x1024, (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 3, 0] m slices_S24x6x1024_S16x1x1024_0_3_0) shapeCasts_S16x1x1024_S16x1024)))⟩, ⟨S16x256x1024, (broadcastInDim S16x256x1024 ![2] bcast_S1024_S16x256x1024_2 (shapeCast _ (extractStridedSlice S1x1x1024 ![16, 3, 0] m slices_S24x6x1024_S1x1x1024_16_3_0) shapeCasts_S1x1x1024_S1024))⟩] concatenates_S16x4096x1024_S16x256x1024_S16x4352x1024_d1

/-- The scale of every token: its batch entry's for a latent token, the context's for a context token. -/
def mod4 (m : FVec Ideal S24x6x1024 .f32) : FVec Ideal S16x4352x1024 .f32 :=
  concatenate S16x4352x1024 1 [⟨S16x4096x1024, (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 4, 0] m slices_S24x6x1024_S16x1x1024_0_4_0) shapeCasts_S16x1x1024_S16x1024)))⟩, ⟨S16x256x1024, (broadcastInDim S16x256x1024 ![2] bcast_S1024_S16x256x1024_2 (shapeCast _ (extractStridedSlice S1x1x1024 ![16, 4, 0] m slices_S24x6x1024_S1x1x1024_16_4_0) shapeCasts_S1x1x1024_S1024))⟩] concatenates_S16x4096x1024_S16x256x1024_S16x4352x1024_d1

/-- The gate of every token: its batch entry's for a latent token, the context's for a context token. -/
def mod5 (m : FVec Ideal S24x6x1024 .f32) : FVec Ideal S16x4352x1024 .f32 :=
  concatenate S16x4352x1024 1 [⟨S16x4096x1024, (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 5, 0] m slices_S24x6x1024_S16x1x1024_0_5_0) shapeCasts_S16x1x1024_S16x1024)))⟩, ⟨S16x256x1024, (broadcastInDim S16x256x1024 ![2] bcast_S1024_S16x256x1024_2 (shapeCast _ (extractStridedSlice S1x1x1024 ![16, 5, 0] m slices_S24x6x1024_S1x1x1024_16_5_0) shapeCasts_S1x1x1024_S1024))⟩] concatenates_S16x4096x1024_S16x256x1024_S16x4352x1024_d1

/-- The modulated rows. -/
def rows (x : FVec Ideal S16x4352x1024 .f32) (m : FVec Ideal S24x6x1024 .f32) (g : FVec Ideal S1024 .f32) : FVec Ideal S16x4352x1024 .f32 :=
  addf (mulf (mulf (mulf x (broadcastInDim S16x4352x1024 ![0, 1, 2] bcast_S16x4352x1_S16x4352x1024_0_1_2 (Host.rsqrt (addf (Host.divf (broadcastInDim S16x4352x1 ![0, 1] bcast_S16x4352_S16x4352x1_0_1 (Host.reduceAdd (mulf x x) (constant S_ .f32 0x00000000#32) reducesTo_S16x4352x1024_S16x4352_d2 h_S_)) (broadcastInDim S16x4352x1 ![] bcast_S_S16x4352x1 (constant S_ .f32 0x44800000#32))) (broadcastInDim S16x4352x1 ![] bcast_S_S16x4352x1 (constant S_ .f32 0x358637BD#32)))))) (broadcastInDim S16x4352x1024 ![0, 1, 2] bcast_S1x1x1024_S16x4352x1024_0_1_2 (broadcastInDim S1x1x1024 ![2] bcast_S1024_S1x1x1024_2 g))) (addf (broadcastInDim S16x4352x1024 ![] bcast_S_S16x4352x1024 (constant S_ .f32 0x3F800000#32)) (mod4 m))) (mod3 m)

/-- The up-projection of the rows. -/
def ups (U : FVec Ideal S16x4352x1024 .f32) (up : FVec Ideal S1024x5632 .f32) : FVec Ideal S16x4352x5632 .f32 :=
  Host.dotGeneral dot_S16x4352x1024_S1024x5632_S16x4352x5632_2_0_01_1_n_n none U up

/-- The rows of the latent tokens with a zero row before the first and after the last. -/
def padLat (H : FVec Ideal S16x4352x5632 .f32) : FVec Ideal S16x4098x5632 .f32 :=
  pad S16x4098x5632 ![0, 1, 0] ![0, 1, 0] ![0, 0, 0] (extractStridedSlice S16x4096x5632 ![0, 0, 0] H slices_S16x4352x5632_S16x4096x5632_0_0_0) (sitofp .f32 (constantI S_ 32 0#32)) pads_S16x4096x5632_S16x4098x5632_000_110_000 h_S_

/-- The rows of the context tokens with a zero row before the first and after the last. -/
def padCtx (H : FVec Ideal S16x4352x5632 .f32) : FVec Ideal S16x258x5632 .f32 :=
  pad S16x258x5632 ![0, 1, 0] ![0, 1, 0] ![0, 0, 0] (extractStridedSlice S16x256x5632 ![0, 4096, 0] H slices_S16x4352x5632_S16x256x5632_0_4096_0) (sitofp .f32 (constantI S_ 32 0#32)) pads_S16x256x5632_S16x258x5632_000_110_000 h_S_

/-- Every token's row before in its stream. -/
def tap0 (H : FVec Ideal S16x4352x5632 .f32) : FVec Ideal S16x4352x5632 .f32 :=
  concatenate S16x4352x5632 1 [⟨S16x4096x5632, (extractStridedSlice S16x4096x5632 ![0, 0, 0] (padLat H) slices_S16x4098x5632_S16x4096x5632_0_0_0)⟩, ⟨S16x256x5632, (extractStridedSlice S16x256x5632 ![0, 0, 0] (padCtx H) slices_S16x258x5632_S16x256x5632_0_0_0)⟩] concatenates_S16x4096x5632_S16x256x5632_S16x4352x5632_d1

/-- Every token's row itself in its stream. -/
def tap1 (H : FVec Ideal S16x4352x5632 .f32) : FVec Ideal S16x4352x5632 .f32 :=
  concatenate S16x4352x5632 1 [⟨S16x4096x5632, (extractStridedSlice S16x4096x5632 ![0, 1, 0] (padLat H) slices_S16x4098x5632_S16x4096x5632_0_1_0)⟩, ⟨S16x256x5632, (extractStridedSlice S16x256x5632 ![0, 1, 0] (padCtx H) slices_S16x258x5632_S16x256x5632_0_1_0)⟩] concatenates_S16x4096x5632_S16x256x5632_S16x4352x5632_d1

/-- Every token's row after in its stream. -/
def tap2 (H : FVec Ideal S16x4352x5632 .f32) : FVec Ideal S16x4352x5632 .f32 :=
  concatenate S16x4352x5632 1 [⟨S16x4096x5632, (extractStridedSlice S16x4096x5632 ![0, 2, 0] (padLat H) slices_S16x4098x5632_S16x4096x5632_0_2_0)⟩, ⟨S16x256x5632, (extractStridedSlice S16x256x5632 ![0, 2, 0] (padCtx H) slices_S16x258x5632_S16x256x5632_0_2_0)⟩] concatenates_S16x4096x5632_S16x256x5632_S16x4352x5632_d1

/-- The convolution over the tokens of a stream. -/
def conv (H : FVec Ideal S16x4352x5632 .f32) (cw : FVec Ideal S3x5632 .f32) (cb : FVec Ideal S5632 .f32) : FVec Ideal S16x4352x5632 .f32 :=
  addf (addf (addf (mulf (tap0 H) (broadcastInDim S16x4352x5632 ![0, 1, 2] bcast_S1x1x5632_S16x4352x5632_0_1_2 (broadcastInDim S1x1x5632 ![2] bcast_S5632_S1x1x5632_2 (shapeCast _ (extractStridedSlice S1x5632 ![0, 0] cw slices_S3x5632_S1x5632_0_0) shapeCasts_S1x5632_S5632)))) (mulf (tap1 H) (broadcastInDim S16x4352x5632 ![0, 1, 2] bcast_S1x1x5632_S16x4352x5632_0_1_2 (broadcastInDim S1x1x5632 ![2] bcast_S5632_S1x1x5632_2 (shapeCast _ (extractStridedSlice S1x5632 ![1, 0] cw slices_S3x5632_S1x5632_1_0) shapeCasts_S1x5632_S5632))))) (mulf (tap2 H) (broadcastInDim S16x4352x5632 ![0, 1, 2] bcast_S1x1x5632_S16x4352x5632_0_1_2 (broadcastInDim S1x1x5632 ![2] bcast_S5632_S1x1x5632_2 (shapeCast _ (extractStridedSlice S1x5632 ![2, 0] cw slices_S3x5632_S1x5632_2_0) shapeCasts_S1x5632_S5632))))) (broadcastInDim S16x4352x5632 ![0, 1, 2] bcast_S1x1x5632_S16x4352x5632_0_1_2 (broadcastInDim S1x1x5632 ![2] bcast_S5632_S1x1x5632_2 cb))

/-- The gated activations. -/
def act (C : FVec Ideal S16x4352x5632 .f32) : FVec Ideal S16x4352x2816 .f32 :=
  mulf (mulf (extractStridedSlice S16x4352x2816 ![0, 0, 0] C slices_S16x4352x5632_S16x4352x2816_0_0_0) (Host.divf (broadcastInDim S16x4352x2816 ![] bcast_S_S16x4352x2816 (constant S_ .f32 0x3F800000#32)) (addf (broadcastInDim S16x4352x2816 ![] bcast_S_S16x4352x2816 (constant S_ .f32 0x3F800000#32)) (Host.exp (Host.negf (extractStridedSlice S16x4352x2816 ![0, 0, 0] C slices_S16x4352x5632_S16x4352x2816_0_0_0)))))) (extractStridedSlice S16x4352x2816 ![0, 0, 2816] C slices_S16x4352x5632_S16x4352x2816_0_0_2816)

/-- The reference's result as a function of its arguments. -/
def REF (x : FVec Ideal S16x4352x1024 .f32) (m : FVec Ideal S24x6x1024 .f32) (g : FVec Ideal S1024 .f32) (up : FVec Ideal S1024x5632 .f32) (cw : FVec Ideal S3x5632 .f32) (cb : FVec Ideal S5632 .f32) (down : FVec Ideal S2816x1024 .f32) : FVec Ideal S16x4352x1024 .f32 :=
  addf x (mulf (mod5 m) (Host.dotGeneral dot_S16x4352x2816_S2816x1024_S16x4352x1024_2_0_01_1_n_n none (act (conv (ups (rows x m g) up) cw cb)) down))

/-- The run's result is `REF` of the arguments. -/
theorem res_eq (m : (ℓ : Loc nD τ sig) → Buf (Elt Ideal) ℓ) (c : Dev nD) :
    res_out0 m c = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  unfold res_out0 res_main_v81 REF act conv tap0 tap1 tap2 padLat padCtx ups rows mod3 mod4 mod5
  rfl

open Cert.Layer (modRow normed invRms upAt upPrev upNext convAt gated actAt ffnAt)

section
variable (x : FVec Ideal S16x4352x1024 .f32) (m : FVec Ideal S24x6x1024 .f32) (g : FVec Ideal S1024 .f32) (up : FVec Ideal S1024x5632 .f32)
    (cw : FVec Ideal S3x5632 .f32) (cb : FVec Ideal S5632 .f32) (down : FVec Ideal S2816x1024 .f32) (b : Fin 16)

/-- The shift of a token. -/
theorem mod3_at (i : Fin 4352) (d : Fin 1024) : mod3 m (ix3 b i d) = m (ix3 (modRow b i) 3 d) := by
  unfold modRow
  by_cases h : i.val < 4096
  · rw [if_pos h]
    pointwise [mod3]
    rw [dif_pos h]
  · rw [if_neg h]
    pointwise [mod3]
    rw [dif_neg h]

/-- The scale of a token. -/
theorem mod4_at (i : Fin 4352) (d : Fin 1024) : mod4 m (ix3 b i d) = m (ix3 (modRow b i) 4 d) := by
  unfold modRow
  by_cases h : i.val < 4096
  · rw [if_pos h]
    pointwise [mod4]
    rw [dif_pos h]
  · rw [if_neg h]
    pointwise [mod4]
    rw [dif_neg h]

/-- The gate of a token. -/
theorem mod5_at (i : Fin 4352) (d : Fin 1024) : mod5 m (ix3 b i d) = m (ix3 (modRow b i) 5 d) := by
  unfold modRow
  by_cases h : i.val < 4096
  · rw [if_pos h]
    pointwise [mod5]
    rw [dif_pos h]
  · rw [if_neg h]
    pointwise [mod5]
    rw [dif_neg h]

/-- The modulated rows, entry by entry. -/
theorem rows_at (i : Fin 4352) (d : Fin 1024) : rows x m g (ix3 b i d) = Cert.Layer.inner x m g b i d := by
  unfold Cert.Layer.inner normed invRms
  pointwise [rows]
  rw [mod3_at, mod4_at]

/-- The up-projection, entry by entry. -/
theorem ups_at (U : FVec Ideal S16x4352x1024 .f32) (i : Fin 4352) (f : Fin 5632) :
    ups U up (ix3 b i f) = ∑ d : Fin 1024, U (ix3 b i d) * up (ix2 d f) := by
  pointwise [ups]

/-- The zero an integer zero converts to. -/
theorem zero_of_int : (FloatOps.sitofp (F := Ideal) FTy.f32 (0#32 : BitVec 32) : EReal) = 0 := by
  show ((((0#32 : BitVec 32).toInt : ℝ)) : EReal) = 0
  norm_num

/-- The padded latent rows, entry by entry. -/
theorem padLat_at (H : FVec Ideal S16x4352x5632 .f32) (i : Fin 4098) (f : Fin 5632) :
    padLat H (ix3 b i f) = if h : 1 ≤ i.val ∧ i.val - 1 < 4096 then H (ix3 b ⟨i.val - 1, by omega⟩ f) else 0 := by
  pointwise [padLat]
  rw [zero_of_int]

/-- The padded context rows, entry by entry. -/
theorem padCtx_at (H : FVec Ideal S16x4352x5632 .f32) (i : Fin 258) (f : Fin 5632) :
    padCtx H (ix3 b i f) = if h : 1 ≤ i.val ∧ i.val - 1 < 256 then H (ix3 b ⟨4096 + (i.val - 1), by omega⟩ f) else 0 := by
  pointwise [padCtx]
  rw [zero_of_int]

/-- Tap 0, entry by entry. -/
theorem tap0_at (H : FVec Ideal S16x4352x5632 .f32) (i : Fin 4352) (f : Fin 5632) :
    tap0 H (ix3 b i f) = if h : i.val < 4096 then padLat H (ix3 b ⟨i.val, by omega⟩ f)
      else padCtx H (ix3 b ⟨i.val - 4096, by omega⟩ f) := by
  pointwise [tap0]

/-- Tap 1, entry by entry. -/
theorem tap1_at (H : FVec Ideal S16x4352x5632 .f32) (i : Fin 4352) (f : Fin 5632) :
    tap1 H (ix3 b i f) = if h : i.val < 4096 then padLat H (ix3 b ⟨1 + i.val, by omega⟩ f)
      else padCtx H (ix3 b ⟨1 + (i.val - 4096), by omega⟩ f) := by
  pointwise [tap1]

/-- Tap 2, entry by entry. -/
theorem tap2_at (H : FVec Ideal S16x4352x5632 .f32) (i : Fin 4352) (f : Fin 5632) :
    tap2 H (ix3 b i f) = if h : i.val < 4096 then padLat H (ix3 b ⟨2 + i.val, by omega⟩ f)
      else padCtx H (ix3 b ⟨2 + (i.val - 4096), by omega⟩ f) := by
  pointwise [tap2]

/-- The convolution, entry by entry. -/
theorem conv_at (H : FVec Ideal S16x4352x5632 .f32) (i : Fin 4352) (f : Fin 5632) :
    conv H cw cb (ix3 b i f) = tap0 H (ix3 b i f) * cw (ix2 0 f) + tap1 H (ix3 b i f) * cw (ix2 1 f)
      + tap2 H (ix3 b i f) * cw (ix2 2 f) + cb (ix1 f) := by
  pointwise [conv]

/-- The gated activations, entry by entry. -/
theorem act_at (C : FVec Ideal S16x4352x5632 .f32) (i : Fin 4352) (f : Fin 2816) :
    act C (ix3 b i f) = gated (C (ix3 b i ⟨f.val, by omega⟩)) (C (ix3 b i ⟨2816 + f.val, by omega⟩)) := by
  unfold gated Ideal.logistic
  pointwise [act]

/-- The up-projected rows are those of the specification. -/
theorem ups_eq (i : Fin 4352) (f : Fin 5632) : ups (rows x m g) up (ix3 b i f) = upAt x m g up b i f :=
  (ups_at up b _ i f).trans (Finset.sum_congr rfl fun d _ => congrArg (· * up (ix2 d f)) (rows_at x m g b i d))

/-- The reference's convolution is the convolution of the specification. -/
theorem conv_eq (i : Fin 4352) (f : Fin 5632) :
    conv (ups (rows x m g) up) cw cb (ix3 b i f) = convAt x m g up cw cb b i f := by
  have h1 : tap0 (ups (rows x m g) up) (ix3 b i f) = upPrev x m g up b i f := by
    rw [tap0_at]
    unfold upPrev
    by_cases hi : i.val < 4096
    · rw [dif_pos hi, padLat_at]
      by_cases h : i.val = 0
      · rw [dif_neg (by show ¬ (1 ≤ i.val ∧ i.val - 1 < 4096); omega), dif_neg (by omega)]
      · rw [dif_pos (by show 1 ≤ i.val ∧ i.val - 1 < 4096; omega), dif_pos (by omega)]
        exact ups_eq x m g up b _ f
    · rw [dif_neg hi, padCtx_at]
      by_cases h : i.val = 4096
      · rw [dif_neg (by show ¬ (1 ≤ i.val - 4096 ∧ i.val - 4096 - 1 < 256); omega), dif_neg (by omega)]
      · rw [dif_pos (by show 1 ≤ i.val - 4096 ∧ i.val - 4096 - 1 < 256; omega), dif_pos (by omega)]
        refine (ups_eq x m g up b _ f).trans (congrArg (fun j => upAt x m g up b j f) (Fin.ext ?_))
        show 4096 + (i.val - 4096 - 1) = i.val - 1
        omega
  have h2 : tap1 (ups (rows x m g) up) (ix3 b i f) = upAt x m g up b i f := by
    rw [tap1_at]
    by_cases hi : i.val < 4096
    · rw [dif_pos hi, padLat_at, dif_pos (by show 1 ≤ 1 + i.val ∧ 1 + i.val - 1 < 4096; omega)]
      refine (ups_eq x m g up b _ f).trans (congrArg (fun j => upAt x m g up b j f) (Fin.ext ?_))
      show 1 + i.val - 1 = i.val
      omega
    · rw [dif_neg hi, padCtx_at, dif_pos (by show 1 ≤ 1 + (i.val - 4096) ∧ 1 + (i.val - 4096) - 1 < 256; omega)]
      refine (ups_eq x m g up b _ f).trans (congrArg (fun j => upAt x m g up b j f) (Fin.ext ?_))
      show 4096 + (1 + (i.val - 4096) - 1) = i.val
      omega
  have h3 : tap2 (ups (rows x m g) up) (ix3 b i f) = upNext x m g up b i f := by
    rw [tap2_at]
    unfold upNext
    by_cases hi : i.val < 4096
    · rw [dif_pos hi, padLat_at]
      by_cases h : i.val = 4095
      · rw [dif_neg (by show ¬ (1 ≤ 2 + i.val ∧ 2 + i.val - 1 < 4096); omega), dif_neg (by omega)]
      · rw [dif_pos (by show 1 ≤ 2 + i.val ∧ 2 + i.val - 1 < 4096; omega), dif_pos (by omega)]
        refine (ups_eq x m g up b _ f).trans (congrArg (fun j => upAt x m g up b j f) (Fin.ext ?_))
        show 2 + i.val - 1 = i.val + 1
        omega
    · rw [dif_neg hi, padCtx_at]
      by_cases h : i.val = 4351
      · rw [dif_neg (by show ¬ (1 ≤ 2 + (i.val - 4096) ∧ 2 + (i.val - 4096) - 1 < 256); omega), dif_neg (by omega)]
      · rw [dif_pos (by show 1 ≤ 2 + (i.val - 4096) ∧ 2 + (i.val - 4096) - 1 < 256; omega), dif_pos (by omega)]
        refine (ups_eq x m g up b _ f).trans (congrArg (fun j => upAt x m g up b j f) (Fin.ext ?_))
        show 4096 + (2 + (i.val - 4096) - 1) = i.val + 1
        omega
  unfold convAt
  rw [conv_at, h1, h2, h3]

/-- THE REFERENCE at every index. -/
theorem REF_at (i : Fin 4352) (e : Fin 1024) : REF x m g up cw cb down (ix3 b i e) = ffnAt x m g up cw cb down b i e := by
  unfold ffnAt actAt
  pointwise [REF]
  rw [mod5_at]
  refine congrArg₂ (· + ·) rfl (congrArg₂ (· * ·) rfl (Finset.sum_congr rfl fun f _ => congrArg (· * down (ix2 f e)) ?_))
  rw [act_at, conv_eq, conv_eq]
end

end Cert.FfnRefIdeal.Value

end
-- ==== Proof.FfnClaims.lean ====
module

public import proofs.«01_k».proof.Defs
public import proofs.«01_k».proof.Proof.Gen.Ffn.Frame
public import proofs.«01_k».proof.Proof.FfnArray
public import proofs.«01_k».proof.Proof.FfnRefRead
public import Idealize.ShloMosaic.Lib.Claim

@[expose] public section

/-! The claims about the feed-forward block, each read off a run of its program. -/

set_option maxRecDepth 16384
noncomputable section
open Idealize.ShloMosaic Idealize.ShloMosaic.TcCoe Idealize.SL.Sem
namespace Cert.FeedForward

instance : Cert.Ffn.Facts := Cert.Ffn.Gen.facts
instance : Cert.FfnIdeal.Facts := Cert.FfnIdeal.Gen.facts
instance : Cert.FfnRefIdeal.Facts := Cert.FfnRefIdeal.Gen.facts

/-- From the same arguments, the array the kernel leaves is the array the reference computes. -/
theorem arrays_eq (x : FVec Ideal Cert.FfnIdeal.S16x4352x1024 .f32) (mo : FVec Ideal Cert.FfnIdeal.S24x6x1024 .f32)
    (g : FVec Ideal Cert.FfnIdeal.S1024 .f32) (up : FVec Ideal Cert.FfnIdeal.S1024x5632 .f32) (cw : FVec Ideal Cert.FfnIdeal.S3x5632 .f32)
    (cb : FVec Ideal Cert.FfnIdeal.S5632 .f32) (down : FVec Ideal Cert.FfnIdeal.S2816x1024 .f32) :
    Cert.FfnIdeal.Value.OUT x mo g up cw cb down = Cert.FfnRefIdeal.Value.REF x mo g up cw cb down := by
  funext j
  obtain ⟨b, i, e, rfl⟩ : ∃ b i e, j = ix3 b i e := ⟨_, _, _, eq_ix3 j⟩
  exact (Cert.FfnRefIdeal.Value.REF_at x mo g up cw cb down b i e).symm

/-- Kernel and reference, from equal arguments, end with equal results. -/
theorem algebraic : Cert.algebraic_FfnIdeal_FfnRefIdeal := by
  pair_intro
  · run_from Cert.FfnIdeal.Value.run_blocks m g
  · run_from Cert.FfnRefIdeal.Value.run m' g'
    obtain ⟨h0, h1, h2, h3, h4, h5, h6⟩ := hagree c
    refine (Cert.FfnRefIdeal.Value.res_eq m' c).trans ?_
    refine Eq.trans ?_ (Cert.FfnIdeal.Value.final m c).symm
    refine Eq.trans ?_ (arrays_eq _ _ _ _ _ _ _).symm
    rw [h0, h1, h2, h3, h4, h5, h6]

/-- The kernel terminates and leaves its arguments and its counters as they were. -/
theorem frame : Cert.quiescent_Ffn := fun m g _ => Cert.Ffn.Gen.frame m g

/-- So does the kernel over the extended reals. -/
theorem frameIdeal : Cert.quiescent_FfnIdeal := fun m g _ => Cert.FfnIdeal.Gen.frame m g

/-- So does the reference. -/
theorem frameRef : Cert.quiescent_FfnRefIdeal := fun m g _ =>
  (θ_run Cert.FfnRefIdeal.defs _ _).mono
    (fun r h => ⟨fun c => (h c).2, sem_eq_zero_of_no_sems (by decide) r.2⟩) (Cert.FfnRefIdeal.Value.run m g)

end Cert.FeedForward
end
-- ==== Proof.OddSpec.lean ====
module

public import proofs.«01_k».proof.Proof.FfnSpec
public import Idealize.ShloMosaic.Lib.IdealHost

@[expose] public section

/-! The input projection of the odd layers with its normed and rotated queries and keys, as one formula per entry of its results. -/

noncomputable section
open Idealize.ShloMosaic
namespace Cert.Layer

/-- Entry `e` of a head normalised by its root mean square and multiplied by its gain. -/
def headNorm (p γ : Fin 64 → EReal) (e : Fin 64) : EReal :=
  p e * Ideal.rsqrt (Ideal.div (∑ k : Fin 64, p k * p k) (Ideal.ofBits .f32 0x42800000#32) + Ideal.ofBits .f32 0x358637BD#32) * γ e

/-- A head rotated: entries `e` and `e + 32` are the two coordinates of the plane that the angle `e` turns. -/
def rotated (n : Fin 64 → EReal) (C S : Fin 32 → EReal) (e : Fin 64) : EReal :=
  if h : e.val < 32 then n e * C ⟨e.val, h⟩ - n ⟨32 + e.val, by omega⟩ * S ⟨e.val, h⟩
  else n ⟨e.val - 32, by omega⟩ * S ⟨e.val - 32, by omega⟩ + n e * C ⟨e.val - 32, by omega⟩

/-- The first 64 of 128 lanes hold `r`, the others zero. -/
def inFirst (r : Fin 64 → EReal) (l : Fin 128) : EReal := if h : l.val < 64 then r ⟨l.val, h⟩ else 0

/-- The last 64 of 128 lanes hold `r`, the others zero. -/
def inSecond (r : Fin 64 → EReal) (l : Fin 128) : EReal := if h : l.val < 64 then 0 else r ⟨l.val - 64, by omega⟩

/-- Two heads side by side. -/
def sideBySide (r s : Fin 64 → EReal) (l : Fin 128) : EReal := if h : l.val < 64 then r ⟨l.val, h⟩ else s ⟨l.val - 64, by omega⟩

/-- The queries' scale is a real number and not negative. -/
theorem scale_real : Ideal.ofBits .f32 0x3E000000#32 = (((1 : ℝ) / 8 : ℝ) : EReal) := by
  simp [Ideal.ofBits, Ideal.ieee, -EReal.coe_mul]
  norm_num

/-- The scale may be put into the gain or multiplied after the rotation. -/
theorem rotated_scaled (p γ : Fin 64 → EReal) (C S : Fin 32 → EReal) (e : Fin 64) :
    rotated (headNorm p fun k => γ k * Ideal.ofBits .f32 0x3E000000#32) C S e
      = rotated (headNorm p γ) C S e * Ideal.ofBits .f32 0x3E000000#32 := by
  have h0 : (0 : EReal) ≤ Ideal.ofBits .f32 0x3E000000#32 := by rw [scale_real]; exact_mod_cast (by norm_num : (0 : ℝ) ≤ 1 / 8)
  have h1 : Ideal.ofBits .f32 0x3E000000#32 ≠ ⊤ := by rw [scale_real]; exact EReal.coe_ne_top _
  generalize Ideal.ofBits .f32 0x3E000000#32 = s at h0 h1 ⊢
  have hn : ∀ k, headNorm p (fun k => γ k * s) k = headNorm p γ k * s := fun k => (mul_assoc _ _ _).symm
  unfold rotated
  split
  · rw [hn, hn, sub_eq_add_neg, sub_eq_add_neg, EReal.right_distrib_of_nonneg_of_ne_top h0 h1, ← EReal.neg_mul]
    refine congrArg₂ (· + ·) (mul_right_comm _ _ _) ?_
    rw [EReal.neg_mul, EReal.neg_mul]
    exact congrArg _ (mul_right_comm _ _ _)
  · rw [hn, hn, EReal.right_distrib_of_nonneg_of_ne_top h0 h1]
    exact congrArg₂ (· + ·) (mul_right_comm _ _ _) (mul_right_comm _ _ _)

section
variable (x : FVec Ideal ⟨3, ![16, 4352, 1024]⟩ .f32) (m : FVec Ideal ⟨3, ![24, 6, 1024]⟩ .f32)
  (g : FVec Ideal ⟨1, ![1024]⟩ .f32) (w : FVec Ideal ⟨2, ![1024, 1536]⟩ .f32) (qg kg : FVec Ideal ⟨1, ![64]⟩ .f32)
  (cs sn : FVec Ideal ⟨2, ![32, 4352]⟩ .f32) (b : Fin 16) (i : Fin 4352)

/-- The modulated row `i` of batch `b`. -/
def oddRow (d : Fin 1024) : EReal :=
  normed (fun d => x (ix3 b i d)) (g (ix1 d)) (m (ix3 (modRow b i) 1 d)) (m (ix3 (modRow b i) 0 d)) d

/-- The projection of row `i`, column `f`. -/
def projAt (f : Fin 1536) : EReal := ∑ d : Fin 1024, oddRow x m g b i d * w (ix2 d f)

/-- Head `h` of the queries, normed, rotated and scaled. -/
def queryAt (h : Fin 12) (e : Fin 64) : EReal :=
  rotated (headNorm (fun k => projAt x m g w b i ⟨64 * h.val + k.val, by omega⟩) (fun k => qg (ix1 k)))
    (fun k => cs (ix2 k i)) (fun k => sn (ix2 k i)) e * Ideal.ofBits .f32 0x3E000000#32

/-- Head `h` of the keys, normed and rotated. -/
def keyAt (h : Fin 4) (e : Fin 64) : EReal :=
  rotated (headNorm (fun k => projAt x m g w b i ⟨768 + (64 * h.val + k.val), by omega⟩) (fun k => kg (ix1 k)))
    (fun k => cs (ix2 k i)) (fun k => sn (ix2 k i)) e

/-- The queries as they lie: head `h` in the first lanes if its head of keys is even, in the last if it is odd. -/
def queryLane (h : Fin 12) (l : Fin 128) : EReal :=
  if h.val / 3 % 2 = 0 then inFirst (queryAt x m g w qg cs sn b i h) l else inSecond (queryAt x m g w qg cs sn b i h) l

/-- The keys as they lie: heads `2 p` and `2 p + 1` side by side. -/
def keyLane (p : Fin 2) (l : Fin 128) : EReal :=
  sideBySide (keyAt x m g w kg cs sn b i ⟨2 * p.val, by omega⟩) (keyAt x m g w kg cs sn b i ⟨2 * p.val + 1, by omega⟩) l

/-- The values as they lie. -/
def valueLane (p : Fin 2) (l : Fin 128) : EReal := projAt x m g w b i ⟨1024 + (128 * p.val + l.val), by omega⟩

/-- The columns for the pooling. -/
def poolAt (f : Fin 256) : EReal := projAt x m g w b i ⟨1280 + f.val, by omega⟩
end

end Cert.Layer
end
-- ==== Proof.OddTile.lean ====
module

public import proofs.«01_k».proof.Proof.Gen.OddIdeal.Value
public import proofs.«01_k».proof.Proof.OddSpec
public import Idealize.ShloMosaic.Lib.Pipeline.ValueKit
public import Idealize.ShloMosaic.Lib.Pointwise

@[expose] public section

/-! What one block of the odd layers' input projection computes, from the contents of its windows. -/

set_option maxRecDepth 16384
noncomputable section
open Idealize.ShloMosaic Idealize.ShloMosaic.TcCoe Idealize.SL.Sem
open Idealize.ShloMosaic.Pipeline (Dat)
namespace Cert.OddIdeal.Value
open Cert.OddIdeal Cert.OddIdeal.Gen
open Cert.Layer (headNorm rotated inFirst inSecond sideBySide)

section
variable (o : ℕ) (hs : S1536x256.Slices ![o, 0] S64x256) (H : FVec Ideal S1536x256 .f32) (C S : FVec Ideal S32x256 .f32)
  (G : FVec Ideal S64x1 .f32)

/-- Rows `o` to `o + 63` of the projection as a head, normed column by column. -/
def normRows : FVec Ideal S64x256 .f32 :=
  mulf (mulf (extractStridedSlice S64x256 ![o, 0] H hs) (broadcastTo S64x256 (rsqrt (addf (divf (shapeCast S1x256
    (multiReduction .add [0] S256 (mulf (extractStridedSlice S64x256 ![o, 0] H hs) (extractStridedSlice S64x256 ![o, 0] H hs)) 0x00000000#32
      reduces_S64x256_S256 (.inl rfl) rfl) shapeCasts_S256_S1x256) (broadcast S1x256 (Scalar.ofBits .f32 0x42800000#32)))
    (broadcast S1x256 (Scalar.ofBits .f32 0x358637BD#32)))) broadcasts_S1x256_S64x256)) (broadcastTo S64x256 G broadcasts_S64x1_S64x256)

/-- A head's rows, rotated. -/
def turnRows (N : FVec Ideal S64x256 .f32) : FVec Ideal S64x256 .f32 :=
  concatenate S64x256 0
    [⟨S32x256, subf (mulf (extractStridedSlice S32x256 ![0, 0] N slices_S64x256_o0_0_S32x256) C) (mulf (extractStridedSlice S32x256 ![32, 0] N slices_S64x256_o32_0_S32x256) S)⟩,
     ⟨S32x256, addf (mulf (extractStridedSlice S32x256 ![0, 0] N slices_S64x256_o0_0_S32x256) S) (mulf (extractStridedSlice S32x256 ![32, 0] N slices_S64x256_o32_0_S32x256) C)⟩]
    concatenates_S32x256_S32x256_S64x256_d0

/-- Two heads' rows stacked, then laid as one block of 256 tokens and 128 lanes. -/
def layRows (A B : FVec Ideal S64x256 .f32) : FVec Ideal S1x1x256x128 .bf16 :=
  shapeCast S1x1x256x128 (truncf .bf16 (transpose S256x128 [1, 0] (concatenate S128x256 0 [⟨S64x256, A⟩, ⟨S64x256, B⟩]
    concatenates_S64x256_S64x256_S128x256_d0) transposes_S128x256_p1_0_S256x128) bitsLt_bf16_f32) shapeCasts_S256x128_S1x1x256x128

/-- An entry of a normed head. -/
theorem normRows_at (e : Fin 64) (y : Fin 256) (f : Fin 64 → Fin 1536) (hf : ∀ k, (f k).val = o + k.val) :
    normRows o hs H G (ix2 e y) = headNorm (fun k => H (ix2 (f k) y)) (fun k => G (ix2 k 0)) e := by
  unfold headNorm
  have hF : ∀ k, f k = ⟨o + k.val, (hf k) ▸ (f k).isLt⟩ := fun k => Fin.ext (hf k)
  pointwise [normRows]
  simp only [hF]

/-- An entry of a rotated head. -/
theorem turnRows_at (N : FVec Ideal S64x256 .f32) (e : Fin 64) (y : Fin 256) :
    turnRows C S N (ix2 e y) = rotated (fun k => N (ix2 k y)) (fun k => C (ix2 k y)) (fun k => S (ix2 k y)) e := by
  unfold rotated
  pointwise [turnRows]
  refine dite_congr rfl (fun _ => rfl) (fun h => congrArg₂ (· + ·) rfl (congrArg (fun k => N (ix2 k y) * _) (Fin.ext ?_)))
  show 32 + (e.val - 32) = e.val
  omega

/-- An entry of the block that two heads' rows are laid as. -/
theorem layRows_at (A B : FVec Ideal S64x256 .f32) (y : Fin 256) (l : Fin 128) :
    layRows A B (ix4 0 0 y l) = sideBySide (fun k => A (ix2 k y)) (fun k => B (ix2 k y)) l := by
  unfold sideBySide
  pointwise [layRows]

/-- Column `y` of the 64 rows from `f 0` on, normed and rotated. -/
def turned (f : Fin 64 → Fin 1536) (y : Fin 256) : Fin 64 → EReal :=
  rotated (headNorm (fun k => H (ix2 (f k) y)) (fun k => G (ix2 k 0))) (fun k => C (ix2 k y)) (fun k => S (ix2 k y))

/-- A head normed and rotated in the block's layout is `turned`. -/
theorem head_at (e : Fin 64) (y : Fin 256) (f : Fin 64 → Fin 1536) (hf : ∀ k, (f k).val = o + k.val) :
    turnRows C S (normRows o hs H G) (ix2 e y) = turned H C S G f y e := by
  rw [turnRows_at]
  unfold turned
  refine congrArg (fun n => rotated n _ _ e) (funext fun k => ?_)
  exact normRows_at o hs H G k y f hf

/-- The rows of head `h` of the queries. -/
def qRow (h : Fin 12) (k : Fin 64) : Fin 1536 := ⟨64 * h.val + k.val, by omega⟩

/-- The rows of head `h` of the keys. -/
def kRow (h : Fin 4) (k : Fin 64) : Fin 1536 := ⟨768 + (64 * h.val + k.val), by omega⟩

/-- The block of queries, entry by entry. -/
def tileQ (h : Fin 12) (y : Fin 256) (l : Fin 128) : EReal :=
  if h.val / 3 % 2 = 0 then inFirst (turned H C S G (qRow h) y) l else inSecond (turned H C S G (qRow h) y) l

/-- The block of keys, entry by entry. -/
def tileK (p : Fin 2) (y : Fin 256) (l : Fin 128) : EReal :=
  sideBySide (turned H C S G (kRow ⟨2 * p.val, by omega⟩) y) (turned H C S G (kRow ⟨2 * p.val + 1, by omega⟩) y) l

/-- The block of queries as a whole. -/
def blockQ : Vec Ideal S1x12x256x128 .bf16 := fun j => tileQ H C S G (j 1) (j 2) (j 3)

/-- The block of keys as a whole. -/
def blockK : Vec Ideal S1x2x256x128 .bf16 := fun j => tileK H C S G (j 1) (j 2) (j 3)

/-- The stored zeros. -/
theorem zeros_at (e : Fin 64) (y : Fin 256) : k0_pay2 (F := Ideal) (ix2 e y) = 0 := by
  pointwise [k0_pay2]

/-- A head of queries in the first lanes, as the piece of the block that it is. -/
theorem pieceFirst (h : Fin 12) (ho : o = 64 * h.val) (hh : h.val / 3 % 2 = 0) (inb) (x : S1x1x256x128.Idx) :
    layRows (turnRows C S (normRows o hs H G)) (k0_pay2 (F := Ideal)) x
      = (blockQ H C S G) ((Rect.unit (s := S1x12x256x128) ![0, h.val, 0, 0] S1x1x256x128.size inb).idx x) := by
  idx_vars x
  obtain rfl : x0 = 0 := Subsingleton.elim _ _
  obtain rfl : x1 = 0 := Subsingleton.elim _ _
  rw [layRows_at]
  have e1 : ∀ a : Fin 12, a = h → tileQ H C S G a x2 x3 = sideBySide (turned H C S G (qRow h) x2) (fun _ => 0) x3 := by
    rintro a rfl
    unfold tileQ
    rw [if_pos hh]
    rfl
  have e2 : ∀ (a : Fin 12) (b : Fin 256) (d : Fin 128), a = h → b = x2 → d = x3 → tileQ H C S G a b d = sideBySide (turned H C S G (qRow h) x2) (fun _ => 0) x3 := by
    rintro a b d ha rfl rfl
    exact e1 a ha
  refine Eq.trans ?_ (e2 _ _ _ (Fin.ext (by show h.val + 1 * 0 = h.val; omega)) (Fin.ext (by show 0 + 1 * x2.val = x2.val; omega)) (Fin.ext (by show 0 + 1 * x3.val = x3.val; omega))).symm
  exact congrArg₂ (fun r s => sideBySide r s x3) (funext fun k => head_at o hs H C S G k x2 (qRow h) (fun k => by rw [ho]; rfl)) (funext fun k => zeros_at k x2)

/-- A head of queries in the last lanes, as the piece of the block that it is. -/
theorem pieceSecond (h : Fin 12) (ho : o = 64 * h.val) (hh : h.val / 3 % 2 = 1) (inb) (x : S1x1x256x128.Idx) :
    layRows (k0_pay2 (F := Ideal)) (turnRows C S (normRows o hs H G)) x
      = (blockQ H C S G) ((Rect.unit (s := S1x12x256x128) ![0, h.val, 0, 0] S1x1x256x128.size inb).idx x) := by
  idx_vars x
  obtain rfl : x0 = 0 := Subsingleton.elim _ _
  obtain rfl : x1 = 0 := Subsingleton.elim _ _
  rw [layRows_at]
  have e2 : ∀ (a : Fin 12) (b : Fin 256) (d : Fin 128), a = h → b = x2 → d = x3 → tileQ H C S G a b d = sideBySide (fun _ => 0) (turned H C S G (qRow h) x2) x3 := by
    rintro a b d rfl rfl rfl
    unfold tileQ
    rw [if_neg (by omega)]
    rfl
  refine Eq.trans ?_ (e2 _ _ _ (Fin.ext (by show h.val + 1 * 0 = h.val; omega)) (Fin.ext (by show 0 + 1 * x2.val = x2.val; omega)) (Fin.ext (by show 0 + 1 * x3.val = x3.val; omega))).symm
  exact congrArg₂ (fun r s => sideBySide r s x3) (funext fun k => zeros_at k x2) (funext fun k => head_at o hs H C S G k x2 (qRow h) (fun k => by rw [ho]; rfl))

/-- Two heads of keys side by side, as the piece of the block that they are. -/
theorem pieceKeys (o' : ℕ) (hs' : S1536x256.Slices ![o', 0] S64x256) (p : Fin 2) (ho : o = 768 + 64 * (2 * p.val)) (ho' : o' = 768 + 64 * (2 * p.val + 1))
    (inb) (x : S1x1x256x128.Idx) :
    layRows (turnRows C S (normRows o hs H G)) (turnRows C S (normRows o' hs' H G)) x
      = (blockK H C S G) ((Rect.unit (s := S1x2x256x128) ![0, p.val, 0, 0] S1x1x256x128.size inb).idx x) := by
  idx_vars x
  obtain rfl : x0 = 0 := Subsingleton.elim _ _
  obtain rfl : x1 = 0 := Subsingleton.elim _ _
  rw [layRows_at]
  have e2 : ∀ (a : Fin 2) (b : Fin 256) (d : Fin 128), a = p → b = x2 → d = x3 → tileK H C S G a b d = tileK H C S G p x2 x3 := by
    rintro a b d rfl rfl rfl
    rfl
  refine Eq.trans ?_ (e2 _ _ _ (Fin.ext (by show p.val + 1 * 0 = p.val; omega)) (Fin.ext (by show 0 + 1 * x2.val = x2.val; omega)) (Fin.ext (by show 0 + 1 * x3.val = x3.val; omega))).symm
  unfold tileK
  exact congrArg₂ (fun r s => sideBySide r s x3)
    (funext fun k => head_at o hs H C S G k x2 (kRow ⟨2 * p.val, by omega⟩) (fun k => by rw [ho]; show 768 + (64 * (2 * p.val) + k.val) = _; omega))
    (funext fun k => head_at o' hs' H C S G k x2 (kRow ⟨2 * p.val + 1, by omega⟩) (fun k => by rw [ho']; show 768 + (64 * (2 * p.val + 1) + k.val) = _; omega))
end

section
variable (H : FVec Ideal S1536x256 .f32) (C S : FVec Ideal S32x256 .f32) (g : FVec Ideal S64x1 .f32)

/-- The twelve stores of the queries leave `tileQ` in the block. -/
theorem queries_at (y : S1x12x256x128.Idx) :
    (View.canon [⟨r0_17, k0_pay39 C (k0_pay2 (F := Ideal)) (k0_pay36 H (k0_pay4 (F := Ideal) g (Scalar.ofBits .f32 0x3E000000#32))) (k0_pay37 H C S (k0_pay4 (F := Ideal) g (Scalar.ofBits .f32 0x3E000000#32))) (k0_pay38 H S (k0_pay4 (F := Ideal) g (Scalar.ofBits .f32 0x3E000000#32)))⟩,
    ⟨r0_16, k0_pay33 H C S (k0_pay2 (F := Ideal)) (k0_pay4 (F := Ideal) g (Scalar.ofBits .f32 0x3E000000#32))⟩,
    ⟨r0_15, k0_pay32 (k0_pay31 H C S (k0_pay2 (F := Ideal)) (k0_pay4 (F := Ideal) g (Scalar.ofBits .f32 0x3E000000#32)))⟩,
    ⟨r0_14, k0_pay30 C S (k0_pay2 (F := Ideal)) (k0_pay4 (F := Ideal) g (Scalar.ofBits .f32 0x3E000000#32)) (k0_pay27 H) (k0_pay28 H) (k0_pay29 (F := Ideal))⟩,
    ⟨r0_13, k0_pay26 H C S (k0_pay2 (F := Ideal)) (k0_pay4 (F := Ideal) g (Scalar.ofBits .f32 0x3E000000#32))⟩,
    ⟨r0_12, k0_pay25 C (k0_pay2 (F := Ideal)) (k0_pay22 H (k0_pay4 (F := Ideal) g (Scalar.ofBits .f32 0x3E000000#32))) (k0_pay23 H C S (k0_pay4 (F := Ideal) g (Scalar.ofBits .f32 0x3E000000#32))) (k0_pay24 H S (k0_pay4 (F := Ideal) g (Scalar.ofBits .f32 0x3E000000#32)))⟩,
    ⟨r0_11, k0_pay19 H C S (k0_pay2 (F := Ideal)) (k0_pay4 (F := Ideal) g (Scalar.ofBits .f32 0x3E000000#32))⟩,
    ⟨r0_10, k0_pay18 (k0_pay17 H C S (k0_pay2 (F := Ideal)) (k0_pay4 (F := Ideal) g (Scalar.ofBits .f32 0x3E000000#32)))⟩,
    ⟨r0_9, k0_pay16 C S (k0_pay2 (F := Ideal)) (k0_pay4 (F := Ideal) g (Scalar.ofBits .f32 0x3E000000#32)) (k0_pay13 H) (k0_pay14 H) (k0_pay15 (F := Ideal))⟩,
    ⟨r0_8, k0_pay12 H C S (k0_pay2 (F := Ideal)) (k0_pay4 (F := Ideal) g (Scalar.ofBits .f32 0x3E000000#32))⟩,
    ⟨r0_7, k0_pay11 C (k0_pay2 (F := Ideal)) (k0_pay8 H g (Scalar.ofBits .f32 0x3E000000#32)) (k0_pay9 H C S g (Scalar.ofBits .f32 0x3E000000#32)) (k0_pay10 H S g (Scalar.ofBits .f32 0x3E000000#32))⟩,
    ⟨r0_6, k0_pay5 H C S (k0_pay2 (F := Ideal)) g (Scalar.ofBits .f32 0x3E000000#32)⟩] : Vec Ideal S1x12x256x128 .bf16) y
      = tileQ H C S (k0_pay4 (F := Ideal) g (Scalar.ofBits .f32 0x3E000000#32)) (y 1) (y 2) (y 3) := by
  refine View.canon_apply_of_pieces (blockQ H C S (k0_pay4 (F := Ideal) g (Scalar.ofBits .f32 0x3E000000#32))) _ ?_ y (cover0_8 _ _ _ _ _ _ _ _ _ _ _ _ y)
  intro pc hpc
  rcases List.mem_cons.mp hpc with rfl | hpc
  · exact fun x => pieceSecond 704 slices_S1536x256_o704_0_S64x256 H C S (k0_pay4 (F := Ideal) g (Scalar.ofBits .f32 0x3E000000#32)) 11 rfl rfl (by decide) x
  rcases List.mem_cons.mp hpc with rfl | hpc
  · exact fun x => pieceSecond 640 slices_S1536x256_o640_0_S64x256 H C S (k0_pay4 (F := Ideal) g (Scalar.ofBits .f32 0x3E000000#32)) 10 rfl rfl (by decide) x
  rcases List.mem_cons.mp hpc with rfl | hpc
  · exact fun x => pieceSecond 576 slices_S1536x256_o576_0_S64x256 H C S (k0_pay4 (F := Ideal) g (Scalar.ofBits .f32 0x3E000000#32)) 9 rfl rfl (by decide) x
  rcases List.mem_cons.mp hpc with rfl | hpc
  · exact fun x => pieceFirst 512 slices_S1536x256_o512_0_S64x256 H C S (k0_pay4 (F := Ideal) g (Scalar.ofBits .f32 0x3E000000#32)) 8 rfl rfl (by decide) x
  rcases List.mem_cons.mp hpc with rfl | hpc
  · exact fun x => pieceFirst 448 slices_S1536x256_o448_0_S64x256 H C S (k0_pay4 (F := Ideal) g (Scalar.ofBits .f32 0x3E000000#32)) 7 rfl rfl (by decide) x
  rcases List.mem_cons.mp hpc with rfl | hpc
  · exact fun x => pieceFirst 384 slices_S1536x256_o384_0_S64x256 H C S (k0_pay4 (F := Ideal) g (Scalar.ofBits .f32 0x3E000000#32)) 6 rfl rfl (by decide) x
  rcases List.mem_cons.mp hpc with rfl | hpc
  · exact fun x => pieceSecond 320 slices_S1536x256_o320_0_S64x256 H C S (k0_pay4 (F := Ideal) g (Scalar.ofBits .f32 0x3E000000#32)) 5 rfl rfl (by decide) x
  rcases List.mem_cons.mp hpc with rfl | hpc
  · exact fun x => pieceSecond 256 slices_S1536x256_o256_0_S64x256 H C S (k0_pay4 (F := Ideal) g (Scalar.ofBits .f32 0x3E000000#32)) 4 rfl rfl (by decide) x
  rcases List.mem_cons.mp hpc with rfl | hpc
  · exact fun x => pieceSecond 192 slices_S1536x256_o192_0_S64x256 H C S (k0_pay4 (F := Ideal) g (Scalar.ofBits .f32 0x3E000000#32)) 3 rfl rfl (by decide) x
  rcases List.mem_cons.mp hpc with rfl | hpc
  · exact fun x => pieceFirst 128 slices_S1536x256_o128_0_S64x256 H C S (k0_pay4 (F := Ideal) g (Scalar.ofBits .f32 0x3E000000#32)) 2 rfl rfl (by decide) x
  rcases List.mem_cons.mp hpc with rfl | hpc
  · exact fun x => pieceFirst 64 slices_S1536x256_o64_0_S64x256 H C S (k0_pay4 (F := Ideal) g (Scalar.ofBits .f32 0x3E000000#32)) 1 rfl rfl (by decide) x
  rcases List.mem_cons.mp hpc with rfl | hpc
  · exact fun x => pieceFirst 0 slices_S1536x256_o0_0_S64x256 H C S (k0_pay4 (F := Ideal) g (Scalar.ofBits .f32 0x3E000000#32)) 0 rfl rfl (by decide) x
  · exact absurd hpc List.not_mem_nil

/-- The two stores of the keys leave `tileK` in the block. -/
theorem keys_at (y : S1x2x256x128.Idx) :
    (View.canon [⟨r0_19, k0_pay49 C S (k0_pay40 (F := Ideal) g) (k0_pay46 H C S (k0_pay40 (F := Ideal) g)) (k0_pay47 H) (k0_pay48 H)⟩,
    ⟨r0_18, k0_pay44 C S (k0_pay41 H C S g) (k0_pay42 H g) (k0_pay43 H g)⟩] : Vec Ideal S1x2x256x128 .bf16) y
      = tileK H C S (k0_pay40 (F := Ideal) g) (y 1) (y 2) (y 3) := by
  refine View.canon_apply_of_pieces (blockK H C S (k0_pay40 (F := Ideal) g)) _ ?_ y (cover0_9 _ _ y)
  intro pc hpc
  rcases List.mem_cons.mp hpc with rfl | hpc
  · exact fun x => pieceKeys 896 slices_S1536x256_o896_0_S64x256 H C S (k0_pay40 (F := Ideal) g) 960 slices_S1536x256_o960_0_S64x256 1 rfl rfl (by decide) x
  rcases List.mem_cons.mp hpc with rfl | hpc
  · exact fun x => pieceKeys 768 slices_S1536x256_o768_0_S64x256 H C S (k0_pay40 (F := Ideal) g) 832 slices_S1536x256_o832_0_S64x256 0 rfl rfl (by decide) x
  · exact absurd hpc List.not_mem_nil
end

end Cert.OddIdeal.Value

end
-- ==== Proof.OddArray.lean ====
module

public import proofs.«01_k».proof.Proof.OddTile
public import Idealize.ShloMosaic.Lib.Pipeline.ValueKit

@[expose] public section

/-! What the odd layers' input kernel leaves in its four result arrays, entry by entry. -/

set_option maxRecDepth 16384
noncomputable section
open Idealize.ShloMosaic Idealize.ShloMosaic.TcCoe Idealize.SL.Sem
open Idealize.ShloMosaic.Pipeline (Dat)
namespace Cert.OddIdeal.Value
open Cert.OddIdeal Cert.OddIdeal.Gen
open Cert.Layer (normed invRms modRow oddRow projAt queryAt keyAt queryLane keyLane valueLane poolAt headNorm rotated inFirst inSecond sideBySide)
variable (m : (ℓ : Loc nD τ sig) → Buf (Elt Ideal) ℓ)

/-- Where each window's block lies at grid point `t`: batch `t / 17`, token tile `t % 17`; the last tile takes modulation row 16. -/
theorem idx : ∀ t : Fin cfg0.N, win0_0.index t = ![t.val / 17, t.val % 17, 0]
    ∧ win0_1.index t = ![if t.val % 17 < 16 then t.val / 17 else 16, 0, 0]
    ∧ win0_2.index t = ![0, 0]
    ∧ win0_3.index t = ![0, 0]
    ∧ win0_4.index t = ![0, 0]
    ∧ win0_5.index t = ![0, 0]
    ∧ win0_6.index t = ![0, t.val % 17]
    ∧ win0_7.index t = ![0, t.val % 17]
    ∧ win0_8.index t = ![t.val / 17, 0, t.val % 17, 0]
    ∧ win0_9.index t = ![t.val / 17, 0, t.val % 17, 0]
    ∧ win0_10.index t = ![t.val / 17, 0, t.val % 17, 0]
    ∧ win0_11.index t = ![t.val / 17, t.val % 17, 0] :=
  (by decide +kernel : ∀ t : Fin grid0.N, _)

/-- The batch of grid point `t`. -/
def bOf (t : Fin cfg0.N) : Fin 16 := ⟨t.val / 17, by have := lt_of_lt_of_eq t.isLt Gen.N_0; omega⟩

/-- The token at row `y` of grid point `t`. -/
def iOf (t : Fin cfg0.N) (y : Fin 256) : Fin 4352 := ⟨t.val % 17 * 256 + y.val, by omega⟩

/-- The contents of the norm's gain operand: the gain as a row. -/
theorem V_v0 (c : Dev nD) (k : Fin 1) (d : Fin 1024) :
    (V m c main_v0 : FVec Ideal S1x1024 .f32) (ix2 k d) = (m ((c : Thread nD τ).loc main_arg2) : FVec Ideal S1024 .f32) (ix1 d) := by
  have : @Eq (FVec Ideal S1x1024 .f32) (V m c main_v0) (broadcastInDim S1x1024 ![1] bcast_S1024_S1x1024_1 (m ((c : Thread nD τ).loc main_arg2) : FVec Ideal S1024 .f32)) := by
    unfold V; after_results; try rfl
  rw [this]
  pointwise

/-- The contents of the weight operand: the weight transposed. -/
theorem V_v2 (c : Dev nD) (f : Fin 1536) (d : Fin 1024) :
    (V m c main_v2 : FVec Ideal S1536x1024 .bf16) (ix2 f d) = (m ((c : Thread nD τ).loc main_arg3) : FVec Ideal S1024x1536 .f32) (ix2 d f) := by
  have : @Eq (FVec Ideal S1536x1024 .bf16) (V m c main_v2) (truncf .bf16 (transpose S1536x1024 [1, 0] (m ((c : Thread nD τ).loc main_arg3) : FVec Ideal S1024x1536 .f32) transposes_S1024x1536_S1536x1024_1_0) bitsLt_bf16_f32) := by
    unfold V; after_results; try rfl
  rw [this]
  pointwise

/-- The contents of the queries' gain operand: the gain as a column. -/
theorem V_v3 (c : Dev nD) (e : Fin 64) (k : Fin 1) :
    (V m c main_v3 : FVec Ideal S64x1 .f32) (ix2 e k) = (m ((c : Thread nD τ).loc main_arg4) : FVec Ideal S64 .f32) (ix1 e) := by
  have : @Eq (FVec Ideal S64x1 .f32) (V m c main_v3) (shapeCast S64x1 (m ((c : Thread nD τ).loc main_arg4) : FVec Ideal S64 .f32) shapeCasts_S64_S64x1) := by
    unfold V; after_results; try rfl
  rw [this]
  pointwise

/-- The contents of the keys' gain operand: the gain as a column. -/
theorem V_v4 (c : Dev nD) (e : Fin 64) (k : Fin 1) :
    (V m c main_v4 : FVec Ideal S64x1 .f32) (ix2 e k) = (m ((c : Thread nD τ).loc main_arg5) : FVec Ideal S64 .f32) (ix1 e) := by
  have : @Eq (FVec Ideal S64x1 .f32) (V m c main_v4) (shapeCast S64x1 (m ((c : Thread nD τ).loc main_arg5) : FVec Ideal S64 .f32) shapeCasts_S64_S64x1) := by
    unfold V; after_results; try rfl
  rw [this]
  pointwise

/-- The projection's block at an entry, over the blocks it is computed of. -/
theorem proj_at (M : FVec Ideal S1x6x1024 .f32) (X : FVec Ideal S1x256x1024 .f32) (G : FVec Ideal S1x1024 .f32) (W : FVec Ideal S1536x1024 .bf16)
    (f : Fin 1536) (y : Fin 256) : k0_pay1 (F := Ideal) M X G W (ix2 f y)
      = ∑ d : Fin 1024, normed (fun d => X (ix3 0 y d)) (G (ix2 0 d)) (M (ix3 0 1 d)) (M (ix3 0 0 d)) d * W (ix2 f d) := by
  unfold normed invRms
  pointwise [k0_pay1]
  exact Finset.sum_congr rfl fun d _ => mul_comm _ _

section
variable (c : Dev nD) (t : Fin cfg0.N)

theorem emb8 (y0 : Fin 1) (y1 : Fin 12) (y2 : Fin 256) (y3 : Fin 128) :
    (win0_8.blk t).view.emb (ix4 y0 y1 y2 y3) = (ix4 (bOf t) y1 (iOf t y2) y3 : S16x12x4352x128.Idx) := by
  blk_ext [idx t, bOf, iOf]

theorem emb9 (y0 : Fin 1) (y1 : Fin 2) (y2 : Fin 256) (y3 : Fin 128) :
    (win0_9.blk t).view.emb (ix4 y0 y1 y2 y3) = (ix4 (bOf t) y1 (iOf t y2) y3 : S16x2x4352x128.Idx) := by
  blk_ext [idx t, bOf, iOf]

theorem emb10 (y0 : Fin 1) (y1 : Fin 2) (y2 : Fin 256) (y3 : Fin 128) :
    (win0_10.blk t).view.emb (ix4 y0 y1 y2 y3) = (ix4 (bOf t) y1 (iOf t y2) y3 : S16x2x4352x128.Idx) := by
  blk_ext [idx t, bOf, iOf]

theorem emb11 (y0 : Fin 1) (y1 : Fin 256) (y2 : Fin 256) :
    (win0_11.blk t).view.emb (ix3 y0 y1 y2) = (ix3 (bOf t) (iOf t y1) y2 : S16x4352x256.Idx) := by
  blk_ext [idx t, bOf, iOf]

theorem read0 (y : Fin 256) (d : Fin 1024) :
    (iblk m c 0 t : FVec Ideal S1x256x1024 .f32) (ix3 0 y d) = (m ((c : Thread nD τ).loc main_arg0) : FVec Ideal S16x4352x1024 .f32) (ix3 (bOf t) (iOf t y) d) := by
  blk_ext [iblk, V, idx t, bOf, iOf]

theorem read1 (y : Fin 256) (k : Fin 6) (d : Fin 1024) :
    (iblk m c 1 t : FVec Ideal S1x6x1024 .f32) (ix3 0 k d) = (m ((c : Thread nD τ).loc main_arg1) : FVec Ideal S24x6x1024 .f32) (ix3 (modRow (bOf t) (iOf t y)) k d) := by
  have hr : modRow (bOf t) (iOf t y) = ⟨if t.val % 17 < 16 then t.val / 17 else 16, by have := lt_of_lt_of_eq t.isLt Gen.N_0; split <;> omega⟩ := by
    apply Fin.ext
    unfold modRow iOf bOf
    by_cases h : t.val % 17 < 16
    · rw [if_pos (by show t.val % 17 * 256 + y.val < 4096; omega)]; simp [h]
    · rw [if_neg (by show ¬ t.val % 17 * 256 + y.val < 4096; omega)]; simp [h]
  rw [hr]
  blk_ext [iblk, V, idx t]

theorem read2 (d : Fin 1024) :
    (iblk m c 2 t : FVec Ideal S1x1024 .f32) (ix2 0 d) = (m ((c : Thread nD τ).loc main_arg2) : FVec Ideal S1024 .f32) (ix1 d) := by
  refine Eq.trans ?_ (V_v0 m c 0 d)
  blk_ext [iblk, idx t]

theorem read3 (f : Fin 1536) (d : Fin 1024) :
    (iblk m c 3 t : FVec Ideal S1536x1024 .bf16) (ix2 f d) = (m ((c : Thread nD τ).loc main_arg3) : FVec Ideal S1024x1536 .f32) (ix2 d f) := by
  refine Eq.trans ?_ (V_v2 m c f d)
  blk_ext [iblk, idx t]

theorem read4 (e : Fin 64) :
    (iblk m c 4 t : FVec Ideal S64x1 .f32) (ix2 e 0) = (m ((c : Thread nD τ).loc main_arg4) : FVec Ideal S64 .f32) (ix1 e) := by
  refine Eq.trans ?_ (V_v3 m c e 0)
  blk_ext [iblk, idx t]

theorem read5 (e : Fin 64) :
    (iblk m c 5 t : FVec Ideal S64x1 .f32) (ix2 e 0) = (m ((c : Thread nD τ).loc main_arg5) : FVec Ideal S64 .f32) (ix1 e) := by
  refine Eq.trans ?_ (V_v4 m c e 0)
  blk_ext [iblk, idx t]

theorem read6 (e : Fin 32) (y : Fin 256) :
    (iblk m c 6 t : FVec Ideal S32x256 .f32) (ix2 e y) = (m ((c : Thread nD τ).loc main_arg6) : FVec Ideal S32x4352 .f32) (ix2 e (iOf t y)) := by
  blk_ext [iblk, V, idx t, iOf]

theorem read7 (e : Fin 32) (y : Fin 256) :
    (iblk m c 7 t : FVec Ideal S32x256 .f32) (ix2 e y) = (m ((c : Thread nD τ).loc main_arg7) : FVec Ideal S32x4352 .f32) (ix2 e (iOf t y)) := by
  blk_ext [iblk, V, idx t, iOf]
theorem ld0 : (View.ld (iblk m c 0 t) r0_1 : FVec Ideal S1x256x1024 .f32) = iblk m c 0 t :=
  View.ld_unit_lit (S := S1x256x1024) _ _ (by decide)

theorem ld1 : (View.ld (iblk m c 1 t) r0_0 : FVec Ideal S1x6x1024 .f32) = iblk m c 1 t :=
  View.ld_unit_lit (S := S1x6x1024) _ _ (by decide)

theorem ld2 : (View.ld (iblk m c 2 t) r0_2 : FVec Ideal S1x1024 .f32) = iblk m c 2 t :=
  View.ld_unit_lit (S := S1x1024) _ _ (by decide)

theorem ld3 : (View.ld (iblk m c 3 t) r0_3 : FVec Ideal S1536x1024 .bf16) = iblk m c 3 t :=
  View.ld_unit_lit (S := S1536x1024) _ _ (by decide)

theorem ld4 : (View.ld (iblk m c 4 t) r0_5 : FVec Ideal S64x1 .f32) = iblk m c 4 t :=
  View.ld_unit_lit (S := S64x1) _ _ (by decide)

theorem ld5 : (View.ld (iblk m c 5 t) r0_5 : FVec Ideal S64x1 .f32) = iblk m c 5 t :=
  View.ld_unit_lit (S := S64x1) _ _ (by decide)

theorem ld6 : (View.ld (iblk m c 6 t) r0_4 : FVec Ideal S32x256 .f32) = iblk m c 6 t :=
  View.ld_unit_lit (S := S32x256) _ _ (by decide)

theorem ld7 : (View.ld (iblk m c 7 t) r0_4 : FVec Ideal S32x256 .f32) = iblk m c 7 t :=
  View.ld_unit_lit (S := S32x256) _ _ (by decide)

/-- The block of the projection at grid point `t`. -/
def projTile : FVec Ideal S1536x256 .f32 :=
  k0_pay1 (F := Ideal) (View.ld (iblk m c 1 t) r0_0) (View.ld (iblk m c 0 t) r0_1) (View.ld (iblk m c 2 t) r0_2) (View.ld (iblk m c 3 t) r0_3)

/-- The block of the queries' gain with the scale in it. -/
def qGain : FVec Ideal S64x1 .f32 := k0_pay4 (F := Ideal) (k0_pay3 (F := Ideal) (View.ld (iblk m c 4 t) r0_5)) (Scalar.ofBits .f32 0x3E000000#32)

/-- The block of the keys' gain. -/
def kGain : FVec Ideal S64x1 .f32 := k0_pay40 (F := Ideal) (View.ld (iblk m c 5 t) r0_5)

/-- The block of cosines. -/
def cosTile : FVec Ideal S32x256 .f32 := View.ld (iblk m c 6 t) r0_4

/-- The block of sines. -/
def sinTile : FVec Ideal S32x256 .f32 := View.ld (iblk m c 7 t) r0_4

theorem projTile_at (f : Fin 1536) (y : Fin 256) :
    projTile m c t (ix2 f y) = projAt (m ((c : Thread nD τ).loc main_arg0)) (m ((c : Thread nD τ).loc main_arg1)) (m ((c : Thread nD τ).loc main_arg2)) (m ((c : Thread nD τ).loc main_arg3)) (bOf t) (iOf t y) f := by
  unfold projTile
  rw [ld1 m c t, ld0 m c t, ld2 m c t, ld3 m c t]
  refine (proj_at _ _ _ _ f y).trans ?_
  unfold projAt oddRow
  refine Finset.sum_congr rfl fun d _ => Ideal.mul_congr ?_ (read3 m c t f d)
  rw [read2, read1 m c t y, read1 m c t y]
  exact congrArg (fun r => normed r _ _ _ d) (funext fun k => read0 m c t y k)

theorem qGain_at (e : Fin 64) : qGain m c t (ix2 e 0) = (fun v : FVec Ideal S64 .f32 => v (ix1 e) * Ideal.ofBits .f32 0x3E000000#32) (m ((c : Thread nD τ).loc main_arg4)) := by
  unfold qGain
  rw [ld4 m c t]
  pointwise [k0_pay4, k0_pay3]
  exact Ideal.mul_congr (read4 m c t e) rfl

theorem kGain_at (e : Fin 64) : kGain m c t (ix2 e 0) = (m ((c : Thread nD τ).loc main_arg5) : FVec Ideal S64 .f32) (ix1 e) := by
  unfold kGain
  rw [ld5 m c t]
  pointwise [k0_pay40]
  exact read5 m c t e

theorem cosTile_at (e : Fin 32) (y : Fin 256) : cosTile m c t (ix2 e y) = (m ((c : Thread nD τ).loc main_arg6) : FVec Ideal S32x4352 .f32) (ix2 e (iOf t y)) := by
  unfold cosTile
  rw [ld6 m c t]
  exact read6 m c t e y

theorem sinTile_at (e : Fin 32) (y : Fin 256) : sinTile m c t (ix2 e y) = (m ((c : Thread nD τ).loc main_arg7) : FVec Ideal S32x4352 .f32) (ix2 e (iOf t y)) := by
  unfold sinTile
  rw [ld7 m c t]
  exact read7 m c t e y

/-- A head of queries, normed with the scaled gain and rotated, is the head normed, rotated and then scaled. -/
theorem turned_query (h : Fin 12) (y : Fin 256) :
    turned (projTile m c t) (cosTile m c t) (sinTile m c t) (qGain m c t) (qRow h) y = queryAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (bOf t) (iOf t y) h := by
  funext e
  unfold turned queryAt
  simp only [projTile_at, qGain_at, cosTile_at, sinTile_at]
  exact Cert.Layer.rotated_scaled _ _ _ _ e

theorem turned_key (h : Fin 4) (y : Fin 256) :
    turned (projTile m c t) (cosTile m c t) (sinTile m c t) (kGain m c t) (kRow h) y = keyAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (bOf t) (iOf t y) h := by
  funext e
  unfold turned keyAt
  simp only [projTile_at, kGain_at, cosTile_at, sinTile_at]
  rfl
end

section
variable (x : FVec Ideal S16x4352x1024 .f32) (mo : FVec Ideal S24x6x1024 .f32) (g : FVec Ideal S1024 .f32) (w : FVec Ideal S1024x1536 .f32)
  (qg kg : FVec Ideal S64 .f32) (cs sn : FVec Ideal S32x4352 .f32)

/-- The whole array of queries. -/
def OUTQ : FVec Ideal S16x12x4352x128 .bf16 := fun j => queryLane x mo g w qg cs sn (j 0) (j 2) (j 1) (j 3)

/-- The whole array of keys. -/
def OUTK : FVec Ideal S16x2x4352x128 .bf16 := fun j => keyLane x mo g w kg cs sn (j 0) (j 2) (j 1) (j 3)

/-- The whole array of values. -/
def OUTV : FVec Ideal S16x2x4352x128 .bf16 := fun j => valueLane x mo g w (j 0) (j 2) (j 1) (j 3)

/-- The whole array of columns for the pooling. -/
def OUTP : FVec Ideal S16x4352x256 .f32 := fun j => poolAt x mo g w (j 0) (j 1) (j 2)
end

section
variable (c : Dev nD) (t : Fin cfg0.N)

/-- What the body stores of the queries at `y` is the array's value where `y` lies. -/
theorem point8 (y : S1x12x256x128.Idx) :
    out0_8 (iblk m c 0 t) (iblk m c 1 t) (iblk m c 2 t) (iblk m c 3 t) (iblk m c 4 t) (iblk m c 5 t) (iblk m c 6 t) (iblk m c 7 t) y = OUTQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) ((win0_8.blk t).view.emb y) := by
  refine (queries_at (projTile m c t) (cosTile m c t) (sinTile m c t) (k0_pay3 (F := Ideal) (View.ld (iblk m c 4 t) r0_5)) y).trans ?_
  idx_vars y
  rw [emb8]
  show _ = queryLane _ _ _ _ _ _ _ (bOf t) (iOf t y2) y1 y3
  show tileQ _ _ _ (qGain m c t) y1 y2 y3 = _
  unfold tileQ queryLane
  rw [turned_query]

/-- What the body stores of the keys. -/
theorem point9 (y : S1x2x256x128.Idx) :
    out0_9 (iblk m c 0 t) (iblk m c 1 t) (iblk m c 2 t) (iblk m c 3 t) (iblk m c 4 t) (iblk m c 5 t) (iblk m c 6 t) (iblk m c 7 t) y = OUTK (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) ((win0_9.blk t).view.emb y) := by
  refine (keys_at (projTile m c t) (cosTile m c t) (sinTile m c t) (View.ld (iblk m c 5 t) r0_5) y).trans ?_
  idx_vars y
  rw [emb9]
  show _ = keyLane _ _ _ _ _ _ _ (bOf t) (iOf t y2) y1 y3
  show tileK _ _ _ (kGain m c t) y1 y2 y3 = _
  unfold tileK keyLane
  rw [turned_key, turned_key]

/-- What the body stores of the values. -/
theorem point10 (y : S1x2x256x128.Idx) :
    out0_10 (iblk m c 0 t) (iblk m c 1 t) (iblk m c 2 t) (iblk m c 3 t) (iblk m c 4 t) (iblk m c 5 t) (iblk m c 6 t) (iblk m c 7 t) y = OUTV (m ((c : Thread nD τ).loc main_arg0)) (m ((c : Thread nD τ).loc main_arg1)) (m ((c : Thread nD τ).loc main_arg2)) (m ((c : Thread nD τ).loc main_arg3)) ((win0_10.blk t).view.emb y) := by
  refine (canon10_eq (View.ld (iblk m c 1 t) r0_0) (View.ld (iblk m c 0 t) r0_1) (View.ld (iblk m c 2 t) r0_2) (View.ld (iblk m c 3 t) r0_3) y).trans ?_
  idx_vars y
  rw [emb10]
  show _ = valueLane _ _ _ _ (bOf t) (iOf t y2) y1 y3
  have e : ix10_0 (ix4 y0 y1 y2 y3) = ix2 (⟨1024 + (128 * y1.val + y3.val), by omega⟩ : Fin 1536) y2 := by
    funext a
    refine Fin.ext ?_
    match a with
    | ⟨0, _⟩ => show y1.val * 128 + y3.val + 1024 = 1024 + (128 * y1.val + y3.val); omega
    | ⟨1, _⟩ => rfl
  show projTile m c t (ix10_0 (ix4 y0 y1 y2 y3)) = _
  rw [e, projTile_at]
  rfl

/-- What the body stores of the columns for the pooling. -/
theorem point11 (y : S1x256x256.Idx) :
    out0_11 (iblk m c 0 t) (iblk m c 1 t) (iblk m c 2 t) (iblk m c 3 t) (iblk m c 4 t) (iblk m c 5 t) (iblk m c 6 t) (iblk m c 7 t) y = OUTP (m ((c : Thread nD τ).loc main_arg0)) (m ((c : Thread nD τ).loc main_arg1)) (m ((c : Thread nD τ).loc main_arg2)) (m ((c : Thread nD τ).loc main_arg3)) ((win0_11.blk t).view.emb y) := by
  refine (canon11_eq (View.ld (iblk m c 1 t) r0_0) (View.ld (iblk m c 0 t) r0_1) (View.ld (iblk m c 2 t) r0_2) (View.ld (iblk m c 3 t) r0_3) y).trans ?_
  idx_vars y
  rw [emb11]
  show _ = poolAt _ _ _ _ (bOf t) (iOf t y1) y2
  have e : ix11_0 (ix3 y0 y1 y2) = ix2 (⟨1280 + y2.val, by omega⟩ : Fin 1536) y1 := by
    funext a
    refine Fin.ext ?_
    match a with
    | ⟨0, _⟩ => show y2.val + 1280 = 1280 + y2.val; omega
    | ⟨1, _⟩ => rfl
  show projTile m c t (ix11_0 (ix3 y0 y1 y2)) = _
  rw [e, projTile_at]
  rfl
end

section
variable (c : Dev nD)

/-- The array of queries after the run. -/
theorem final8 : (dats m 0 c).arrAt 8 cfg0.N = OUTQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 8 _ (by decide +kernel) fun t _ y => ?_
  blk_simp
  rw [after0_8]
  exact point8 m c t y

/-- The array of keys after the run. -/
theorem final9 : (dats m 0 c).arrAt 9 cfg0.N = OUTK (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  exact point9 m c t y

/-- The array of values after the run. -/
theorem final10 : (dats m 0 c).arrAt 10 cfg0.N = OUTV (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  exact point10 m c t y

/-- The array of columns for the pooling after the run. -/
theorem final11 : (dats m 0 c).arrAt 11 cfg0.N = OUTP (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11]
  exact point11 m c t y
end

end Cert.OddIdeal.Value

end
-- ==== Proof.OddRefRead.lean ====
module

public import proofs.«01_k».proof.Proof.Gen.OddRefIdeal.Run
public import proofs.«01_k».proof.Proof.OddSpec
public import Idealize.ShloMosaic.Lib.Pointwise

@[expose] public section

/-! What the reference of the odd layers' input computes: the formulas of `OddSpec` at every index of its four results. -/

set_option maxRecDepth 16384
noncomputable section
open Idealize.ShloMosaic Idealize.ShloMosaic.TcCoe Idealize.SL.Sem
open Idealize.ShloMosaic.StableHlo (launchContents)
namespace Cert.OddRefIdeal.Value
open Cert.OddRefIdeal Cert.OddRefIdeal.Gen

/-- The shift of every token: its batch entry's for a latent token, the context's for a context token. -/
def mod0 (m : FVec Ideal S24x6x1024 .f32) : FVec Ideal S16x4352x1024 .f32 :=
  concatenate S16x4352x1024 1 [⟨S16x4096x1024, (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 0, 0] m slices_S24x6x1024_S16x1x1024_0_0_0) shapeCasts_S16x1x1024_S16x1024)))⟩, ⟨S16x256x1024, (broadcastInDim S16x256x1024 ![2] bcast_S1024_S16x256x1024_2 (shapeCast _ (extractStridedSlice S1x1x1024 ![16, 0, 0] m slices_S24x6x1024_S1x1x1024_16_0_0) shapeCasts_S1x1x1024_S1024))⟩] concatenates_S16x4096x1024_S16x256x1024_S16x4352x1024_d1

/-- The scale of every token. -/
def mod1 (m : FVec Ideal S24x6x1024 .f32) : FVec Ideal S16x4352x1024 .f32 :=
  concatenate S16x4352x1024 1 [⟨S16x4096x1024, (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 1, 0] m slices_S24x6x1024_S16x1x1024_0_1_0) shapeCasts_S16x1x1024_S16x1024)))⟩, ⟨S16x256x1024, (broadcastInDim S16x256x1024 ![2] bcast_S1024_S16x256x1024_2 (shapeCast _ (extractStridedSlice S1x1x1024 ![16, 1, 0] m slices_S24x6x1024_S1x1x1024_16_1_0) shapeCasts_S1x1x1024_S1024))⟩] concatenates_S16x4096x1024_S16x256x1024_S16x4352x1024_d1

/-- The modulated rows. -/
def rows (x : FVec Ideal S16x4352x1024 .f32) (m : FVec Ideal S24x6x1024 .f32) (g : FVec Ideal S1024 .f32) : FVec Ideal S16x4352x1024 .f32 :=
  addf (mulf (mulf (mulf x (broadcastInDim S16x4352x1024 ![0, 1, 2] bcast_S16x4352x1_S16x4352x1024_0_1_2 (Host.rsqrt (addf (Host.divf (broadcastInDim S16x4352x1 ![0, 1] bcast_S16x4352_S16x4352x1_0_1 (Host.reduceAdd (mulf x x) (constant S_ .f32 0x00000000#32) reducesTo_S16x4352x1024_S16x4352_d2 h_S_)) (broadcastInDim S16x4352x1 ![] bcast_S_S16x4352x1 (constant S_ .f32 0x44800000#32))) (broadcastInDim S16x4352x1 ![] bcast_S_S16x4352x1 (constant S_ .f32 0x358637BD#32)))))) (broadcastInDim S16x4352x1024 ![0, 1, 2] bcast_S1x1x1024_S16x4352x1024_0_1_2 (broadcastInDim S1x1x1024 ![2] bcast_S1024_S1x1x1024_2 g))) (addf (broadcastInDim S16x4352x1024 ![] bcast_S_S16x4352x1024 (constant S_ .f32 0x3F800000#32)) (mod1 m))) (mod0 m)

/-- The projection of the rows. -/
def proj (U : FVec Ideal S16x4352x1024 .f32) (w : FVec Ideal S1024x1536 .f32) : FVec Ideal S16x4352x1536 .f32 :=
  Host.dotGeneral dot_S16x4352x1024_S1024x1536_S16x4352x1536_2_0_01_1_n_n none U w

/-- The queries' columns, head by head. -/
def headsQ (Y : FVec Ideal S16x4352x1536 .f32) : FVec Ideal S16x4352x12x64 .f32 :=
  shapeCast _ (extractStridedSlice S16x4352x768 ![0, 0, 0] Y slices_S16x4352x1536_S16x4352x768_0_0_0) shapeCasts_S16x4352x768_S16x4352x12x64

/-- The keys' columns, head by head. -/
def headsK (Y : FVec Ideal S16x4352x1536 .f32) : FVec Ideal S16x4352x4x64 .f32 :=
  shapeCast _ (extractStridedSlice S16x4352x256 ![0, 0, 768] Y slices_S16x4352x1536_S16x4352x256_0_0_768) shapeCasts_S16x4352x256_S16x4352x4x64

/-- The queries' heads normed. -/
def normQ (P : FVec Ideal S16x4352x12x64 .f32) (γ : FVec Ideal S64 .f32) : FVec Ideal S16x4352x12x64 .f32 :=
  mulf (mulf P (broadcastInDim S16x4352x12x64 ![0, 1, 2, 3] bcast_S16x4352x12x1_S16x4352x12x64_0_1_2_3 (Host.rsqrt (addf (Host.divf (broadcastInDim S16x4352x12x1 ![0, 1, 2] bcast_S16x4352x12_S16x4352x12x1_0_1_2 (Host.reduceAdd (mulf P P) (constant S_ .f32 0x00000000#32) reducesTo_S16x4352x12x64_S16x4352x12_d3 h_S_)) (broadcastInDim S16x4352x12x1 ![] bcast_S_S16x4352x12x1 (constant S_ .f32 0x42800000#32))) (broadcastInDim S16x4352x12x1 ![] bcast_S_S16x4352x12x1 (constant S_ .f32 0x358637BD#32)))))) (broadcastInDim S16x4352x12x64 ![0, 1, 2, 3] bcast_S1x1x1x64_S16x4352x12x64_0_1_2_3 (broadcastInDim S1x1x1x64 ![3] bcast_S64_S1x1x1x64_3 γ))

/-- The keys' heads normed. -/
def normK (P : FVec Ideal S16x4352x4x64 .f32) (γ : FVec Ideal S64 .f32) : FVec Ideal S16x4352x4x64 .f32 :=
  mulf (mulf P (broadcastInDim S16x4352x4x64 ![0, 1, 2, 3] bcast_S16x4352x4x1_S16x4352x4x64_0_1_2_3 (Host.rsqrt (addf (Host.divf (broadcastInDim S16x4352x4x1 ![0, 1, 2] bcast_S16x4352x4_S16x4352x4x1_0_1_2 (Host.reduceAdd (mulf P P) (constant S_ .f32 0x00000000#32) reducesTo_S16x4352x4x64_S16x4352x4_d3 h_S_)) (broadcastInDim S16x4352x4x1 ![] bcast_S_S16x4352x4x1 (constant S_ .f32 0x42800000#32))) (broadcastInDim S16x4352x4x1 ![] bcast_S_S16x4352x4x1 (constant S_ .f32 0x358637BD#32)))))) (broadcastInDim S16x4352x4x64 ![0, 1, 2, 3] bcast_S1x1x1x64_S16x4352x4x64_0_1_2_3 (broadcastInDim S1x1x1x64 ![3] bcast_S64_S1x1x1x64_3 γ))

/-- A rotation table laid over batches and heads. -/
def tab (cs : FVec Ideal S32x4352 .f32) : FVec Ideal S1x4352x1x32 .f32 :=
  broadcastInDim S1x4352x1x32 ![1, 3] bcast_S4352x32_S1x4352x1x32_1_3 (transpose S4352x32 [1, 0] cs transposes_S32x4352_S4352x32_1_0)

/-- The first halves of the queries' heads. -/
def lo12 (N : FVec Ideal S16x4352x12x64 .f32) : FVec Ideal S16x4352x12x32 .f32 :=
  extractStridedSlice S16x4352x12x32 ![0, 0, 0, 0] N slices_S16x4352x12x64_S16x4352x12x32_0_0_0_0

/-- The last halves of the queries' heads. -/
def hi12 (N : FVec Ideal S16x4352x12x64 .f32) : FVec Ideal S16x4352x12x32 .f32 :=
  extractStridedSlice S16x4352x12x32 ![0, 0, 0, 32] N slices_S16x4352x12x64_S16x4352x12x32_0_0_0_32

/-- The first halves of the keys' heads. -/
def lo4 (N : FVec Ideal S16x4352x4x64 .f32) : FVec Ideal S16x4352x4x32 .f32 :=
  extractStridedSlice S16x4352x4x32 ![0, 0, 0, 0] N slices_S16x4352x4x64_S16x4352x4x32_0_0_0_0

/-- The last halves of the keys' heads. -/
def hi4 (N : FVec Ideal S16x4352x4x64 .f32) : FVec Ideal S16x4352x4x32 .f32 :=
  extractStridedSlice S16x4352x4x32 ![0, 0, 0, 32] N slices_S16x4352x4x64_S16x4352x4x32_0_0_0_32

/-- The queries' heads rotated and scaled. -/
def rotQ (N : FVec Ideal S16x4352x12x64 .f32) (cs sn : FVec Ideal S32x4352 .f32) : FVec Ideal S16x4352x12x64 .f32 :=
  mulf (concatenate S16x4352x12x64 3 [⟨S16x4352x12x32, (subf (mulf (lo12 N) (broadcastInDim S16x4352x12x32 ![0, 1, 2, 3] bcast_S1x4352x1x32_S16x4352x12x32_0_1_2_3 (tab cs))) (mulf (hi12 N) (broadcastInDim S16x4352x12x32 ![0, 1, 2, 3] bcast_S1x4352x1x32_S16x4352x12x32_0_1_2_3 (tab sn))))⟩, ⟨S16x4352x12x32, (addf (mulf (lo12 N) (broadcastInDim S16x4352x12x32 ![0, 1, 2, 3] bcast_S1x4352x1x32_S16x4352x12x32_0_1_2_3 (tab sn))) (mulf (hi12 N) (broadcastInDim S16x4352x12x32 ![0, 1, 2, 3] bcast_S1x4352x1x32_S16x4352x12x32_0_1_2_3 (tab cs))))⟩] concatenates_S16x4352x12x32_S16x4352x12x32_S16x4352x12x64_d3) (broadcastInDim S16x4352x12x64 ![] bcast_S_S16x4352x12x64 (constant S_ .f32 0x3E000000#32))

/-- The keys' heads rotated. -/
def rotK (N : FVec Ideal S16x4352x4x64 .f32) (cs sn : FVec Ideal S32x4352 .f32) : FVec Ideal S16x4352x4x64 .f32 :=
  concatenate S16x4352x4x64 3 [⟨S16x4352x4x32, (subf (mulf (lo4 N) (broadcastInDim S16x4352x4x32 ![0, 1, 2, 3] bcast_S1x4352x1x32_S16x4352x4x32_0_1_2_3 (tab cs))) (mulf (hi4 N) (broadcastInDim S16x4352x4x32 ![0, 1, 2, 3] bcast_S1x4352x1x32_S16x4352x4x32_0_1_2_3 (tab sn))))⟩, ⟨S16x4352x4x32, (addf (mulf (lo4 N) (broadcastInDim S16x4352x4x32 ![0, 1, 2, 3] bcast_S1x4352x1x32_S16x4352x4x32_0_1_2_3 (tab sn))) (mulf (hi4 N) (broadcastInDim S16x4352x4x32 ![0, 1, 2, 3] bcast_S1x4352x1x32_S16x4352x4x32_0_1_2_3 (tab cs))))⟩] concatenates_S16x4352x4x32_S16x4352x4x32_S16x4352x4x64_d3

/-- The queries' heads as the attention reads them. -/
def layQ (Q : FVec Ideal S16x4352x12x64 .f32) : FVec Ideal S16x12x4352x128 .bf16 :=
  truncf .bf16 (transpose S16x12x4352x128 [0, 2, 1, 3] ((concatenate S16x4352x12x128 2 [⟨S16x4352x3x128, ((pad S16x4352x3x128 ![0, 0, 0, 0] ![0, 0, 0, 64] ![0, 0, 0, 0] (extractStridedSlice S16x4352x3x64 ![0, 0, 0, 0] Q slices_S16x4352x12x64_S16x4352x3x64_0_0_0_0) (sitofp .f32 (constantI S_ 32 0#32)) pads_S16x4352x3x64_S16x4352x3x128_000_000_000_0640 h_S_) : FVec Ideal S16x4352x3x128 .f32)⟩, ⟨S16x4352x3x128, ((pad S16x4352x3x128 ![0, 0, 0, 64] ![0, 0, 0, 0] ![0, 0, 0, 0] (extractStridedSlice S16x4352x3x64 ![0, 0, 3, 0] Q slices_S16x4352x12x64_S16x4352x3x64_0_0_3_0) (sitofp .f32 (constantI S_ 32 0#32)) pads_S16x4352x3x64_S16x4352x3x128_000_000_000_6400 h_S_) : FVec Ideal S16x4352x3x128 .f32)⟩, ⟨S16x4352x3x128, ((pad S16x4352x3x128 ![0, 0, 0, 0] ![0, 0, 0, 64] ![0, 0, 0, 0] (extractStridedSlice S16x4352x3x64 ![0, 0, 6, 0] Q slices_S16x4352x12x64_S16x4352x3x64_0_0_6_0) (sitofp .f32 (constantI S_ 32 0#32)) pads_S16x4352x3x64_S16x4352x3x128_000_000_000_0640 h_S_) : FVec Ideal S16x4352x3x128 .f32)⟩, ⟨S16x4352x3x128, ((pad S16x4352x3x128 ![0, 0, 0, 64] ![0, 0, 0, 0] ![0, 0, 0, 0] (extractStridedSlice S16x4352x3x64 ![0, 0, 9, 0] Q slices_S16x4352x12x64_S16x4352x3x64_0_0_9_0) (sitofp .f32 (constantI S_ 32 0#32)) pads_S16x4352x3x64_S16x4352x3x128_000_000_000_6400 h_S_) : FVec Ideal S16x4352x3x128 .f32)⟩] concatenates_S16x4352x3x128_S16x4352x3x128_S16x4352x3x128_S16x4352x3x128_S16x4352x12x128_d2 : FVec Ideal S16x4352x12x128 .f32)) transposes_S16x4352x12x128_S16x12x4352x128_0_2_1_3) bitsLt_bf16_f32

/-- The keys' heads as the attention reads them. -/
def layK (Q : FVec Ideal S16x4352x4x64 .f32) : FVec Ideal S16x2x4352x128 .bf16 :=
  truncf .bf16 (transpose S16x2x4352x128 [0, 2, 1, 3] (shapeCast _ Q shapeCasts_S16x4352x4x64_S16x4352x2x128) transposes_S16x4352x2x128_S16x2x4352x128_0_2_1_3) bitsLt_bf16_f32

/-- The values as the attention reads them. -/
def layV (Y : FVec Ideal S16x4352x1536 .f32) : FVec Ideal S16x2x4352x128 .bf16 :=
  truncf .bf16 (transpose S16x2x4352x128 [0, 2, 1, 3] (shapeCast _ (extractStridedSlice S16x4352x256 ![0, 0, 1024] Y slices_S16x4352x1536_S16x4352x256_0_0_1024) shapeCasts_S16x4352x256_S16x4352x2x128) transposes_S16x4352x2x128_S16x2x4352x128_0_2_1_3) bitsLt_bf16_f32

/-- The columns for the pooling. -/
def layP (Y : FVec Ideal S16x4352x1536 .f32) : FVec Ideal S16x4352x256 .f32 :=
  extractStridedSlice S16x4352x256 ![0, 0, 1280] Y slices_S16x4352x1536_S16x4352x256_0_0_1280

section
variable (x : FVec Ideal S16x4352x1024 .f32) (m : FVec Ideal S24x6x1024 .f32) (g : FVec Ideal S1024 .f32) (w : FVec Ideal S1024x1536 .f32)
  (qg kg : FVec Ideal S64 .f32) (cs sn : FVec Ideal S32x4352 .f32)

/-- The reference's queries. -/
def REFQ : FVec Ideal S16x12x4352x128 .bf16 := layQ (rotQ (normQ (headsQ (proj (rows x m g) w)) qg) cs sn)

/-- The reference's keys. -/
def REFK : FVec Ideal S16x2x4352x128 .bf16 := layK (rotK (normK (headsK (proj (rows x m g) w)) kg) cs sn)

/-- The reference's values. -/
def REFV : FVec Ideal S16x2x4352x128 .bf16 := layV (proj (rows x m g) w)

/-- The reference's columns for the pooling. -/
def REFP : FVec Ideal S16x4352x256 .f32 := layP (proj (rows x m g) w)
end

section
variable (m : (ℓ : Loc nD τ sig) → Buf (Elt Ideal) ℓ) (c : Dev nD)

theorem proj_eq : res_main_v33 (launchContents m c) = proj (rows (m ((c : Thread nD τ).loc main_arg0)) (m ((c : Thread nD τ).loc main_arg1)) (m ((c : Thread nD τ).loc main_arg2))) (m ((c : Thread nD τ).loc main_arg3)) := by
  unfold res_main_v33 proj rows mod0 mod1
  rfl

/-- The run's queries are `REFQ` of the arguments. -/
theorem resQ_eq : layQ (res_main_v67 (launchContents m c)) = REFQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  unfold REFQ
  rw [← proj_eq]
  unfold res_main_v67 res_main_v49 res_main_v50 res_main_v52 res_main_v54 res_main_v48 res_main_v35 rotQ normQ headsQ lo12 hi12 tab
  rfl

/-- The keys' heads rotated, as the run leaves them. -/
def runK : FVec Ideal S16x4352x4x64 .f32 := concatenate S16x4352x4x64 3 [⟨S16x4352x4x32, (subf (mulf (res_main_v83 (launchContents m c)) (broadcastInDim S16x4352x4x32 ![0, 1, 2, 3] bcast_S1x4352x1x32_S16x4352x4x32_0_1_2_3 (res_main_v86 (launchContents m c)))) (mulf (res_main_v84 (launchContents m c)) (broadcastInDim S16x4352x4x32 ![0, 1, 2, 3] bcast_S1x4352x1x32_S16x4352x4x32_0_1_2_3 (res_main_v88 (launchContents m c)))))⟩, ⟨S16x4352x4x32, (addf (mulf (res_main_v83 (launchContents m c)) (broadcastInDim S16x4352x4x32 ![0, 1, 2, 3] bcast_S1x4352x1x32_S16x4352x4x32_0_1_2_3 (res_main_v88 (launchContents m c)))) (mulf (res_main_v84 (launchContents m c)) (broadcastInDim S16x4352x4x32 ![0, 1, 2, 3] bcast_S1x4352x1x32_S16x4352x4x32_0_1_2_3 (res_main_v86 (launchContents m c)))))⟩] concatenates_S16x4352x4x32_S16x4352x4x32_S16x4352x4x64_d3

/-- The run's keys are `REFK` of the arguments. -/
theorem resK_eq : layK (runK m c) = REFK (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  unfold REFK runK
  rw [← proj_eq]
  unfold res_main_v83 res_main_v84 res_main_v86 res_main_v88 res_main_v82 res_main_v69 rotK normK headsK lo4 hi4 tab
  rfl

/-- The run's values are `REFV` of the arguments. -/
theorem resV_eq : layV (res_main_v33 (launchContents m c)) = REFV (m ((c : Thread nD τ).loc main_arg0)) (m ((c : Thread nD τ).loc main_arg1)) (m ((c : Thread nD τ).loc main_arg2)) (m ((c : Thread nD τ).loc main_arg3)) := by
  unfold REFV
  rw [← proj_eq]

/-- The run's columns for the pooling are `REFP` of the arguments. -/
theorem resP_eq : layP (res_main_v33 (launchContents m c)) = REFP (m ((c : Thread nD τ).loc main_arg0)) (m ((c : Thread nD τ).loc main_arg1)) (m ((c : Thread nD τ).loc main_arg2)) (m ((c : Thread nD τ).loc main_arg3)) := by
  unfold REFP
  rw [← proj_eq]
end

open Cert.Layer (modRow normed invRms oddRow projAt queryAt keyAt queryLane keyLane valueLane poolAt headNorm rotated inFirst inSecond sideBySide)

section
variable (x : FVec Ideal S16x4352x1024 .f32) (m : FVec Ideal S24x6x1024 .f32) (g : FVec Ideal S1024 .f32) (w : FVec Ideal S1024x1536 .f32)
  (qg kg γ : FVec Ideal S64 .f32) (cs sn : FVec Ideal S32x4352 .f32) (b : Fin 16) (i : Fin 4352)

/-- The shift of a token. -/
theorem mod0_at (d : Fin 1024) : mod0 m (ix3 b i d) = m (ix3 (modRow b i) 0 d) := by
  unfold modRow
  by_cases h : i.val < 4096
  · rw [if_pos h]
    pointwise [mod0]
    rw [dif_pos h]
  · rw [if_neg h]
    pointwise [mod0]
    rw [dif_neg h]

/-- The scale of a token. -/
theorem mod1_at (d : Fin 1024) : mod1 m (ix3 b i d) = m (ix3 (modRow b i) 1 d) := by
  unfold modRow
  by_cases h : i.val < 4096
  · rw [if_pos h]
    pointwise [mod1]
    rw [dif_pos h]
  · rw [if_neg h]
    pointwise [mod1]
    rw [dif_neg h]

/-- The modulated rows, entry by entry. -/
theorem rows_at (d : Fin 1024) : rows x m g (ix3 b i d) = oddRow x m g b i d := by
  unfold oddRow normed invRms
  pointwise [rows]
  rw [mod0_at, mod1_at]

/-- The projection, entry by entry. -/
theorem proj_at (f : Fin 1536) : proj (rows x m g) w (ix3 b i f) = projAt x m g w b i f := by
  unfold projAt
  simp only [← rows_at]
  pointwise [proj]

/-- The queries' columns, head by head. -/
theorem headsQ_at (Y : FVec Ideal S16x4352x1536 .f32) (h : Fin 12) (e : Fin 64) :
    headsQ Y (ix4 b i h e) = Y (ix3 b i ⟨64 * h.val + e.val, by omega⟩) := by
  pointwise [headsQ]
  exact congrArg (fun k => Y (ix3 b i k)) (Fin.ext (by show h.val * 64 + e.val = 64 * h.val + e.val; omega))

/-- The keys' columns, head by head. -/
theorem headsK_at (Y : FVec Ideal S16x4352x1536 .f32) (h : Fin 4) (e : Fin 64) :
    headsK Y (ix4 b i h e) = Y (ix3 b i ⟨768 + (64 * h.val + e.val), by omega⟩) := by
  pointwise [headsK]
  exact congrArg (fun k => Y (ix3 b i k)) (Fin.ext (by show 768 + (h.val * 64 + e.val) = 768 + (64 * h.val + e.val); omega))

/-- The queries' heads normed. -/
theorem normQ_at (P : FVec Ideal S16x4352x12x64 .f32) (h : Fin 12) (e : Fin 64) :
    normQ P γ (ix4 b i h e) = headNorm (fun k => P (ix4 b i h k)) (fun k => γ (ix1 k)) e := by
  unfold headNorm
  pointwise [normQ]

/-- The keys' heads normed. -/
theorem normK_at (P : FVec Ideal S16x4352x4x64 .f32) (h : Fin 4) (e : Fin 64) :
    normK P γ (ix4 b i h e) = headNorm (fun k => P (ix4 b i h k)) (fun k => γ (ix1 k)) e := by
  unfold headNorm
  pointwise [normK]

/-- The queries' heads rotated and scaled. -/
theorem rotQ_at (N : FVec Ideal S16x4352x12x64 .f32) (h : Fin 12) (e : Fin 64) :
    rotQ N cs sn (ix4 b i h e) = rotated (fun k => N (ix4 b i h k)) (fun k => cs (ix2 k i)) (fun k => sn (ix2 k i)) e * Ideal.ofBits .f32 0x3E000000#32 := by
  unfold rotated
  pointwise [rotQ, lo12, hi12, tab]
  refine congrArg (· * _) (dite_congr rfl (fun _ => rfl) (fun he => congrArg₂ (· + ·) rfl (congrArg (fun k => N (ix4 b i h k) * _) (Fin.ext ?_))))
  show 32 + (e.val - 32) = e.val
  omega

/-- The keys' heads rotated. -/
theorem rotK_at (N : FVec Ideal S16x4352x4x64 .f32) (h : Fin 4) (e : Fin 64) :
    rotK N cs sn (ix4 b i h e) = rotated (fun k => N (ix4 b i h k)) (fun k => cs (ix2 k i)) (fun k => sn (ix2 k i)) e := by
  unfold rotated
  pointwise [rotK, lo4, hi4, tab]
  refine dite_congr rfl (fun _ => rfl) (fun he => congrArg₂ (· + ·) rfl (congrArg (fun k => N (ix4 b i h k) * _) (Fin.ext ?_)))
  show 32 + (e.val - 32) = e.val
  omega

/-- The zero an integer zero converts to. -/
theorem zero_of_int : (FloatOps.sitofp (F := Ideal) FTy.f32 (0#32 : BitVec 32) : EReal) = 0 := by
  show ((((0#32 : BitVec 32).toInt : ℝ)) : EReal) = 0
  norm_num

/-- Four groups of three heads, padded after and before by turns and laid one after the other. -/
theorem groups (q : Fin 12 → Fin 64 → EReal) (z : EReal) (hz : z = 0) (h : Fin 12) (l : Fin 128) :
    (if _ : h.val < 3 then if a : h.val < 3 ∧ l.val < 64 then q h ⟨l.val, a.2⟩ else z
      else
        if _ : h.val - 3 < 3 then
          if a : h.val - 3 < 3 ∧ 64 ≤ l.val ∧ l.val - 64 < 64 then q ⟨3 + (h.val - 3), by omega⟩ ⟨l.val - 64, a.2.2⟩ else z
        else
          if _ : h.val - 3 - 3 < 3 then
            if a : h.val - 3 - 3 < 3 ∧ l.val < 64 then q ⟨6 + (h.val - 3 - 3), by omega⟩ ⟨l.val, a.2⟩ else z
          else
            if a : h.val - 3 - 3 - 3 < 3 ∧ 64 ≤ l.val ∧ l.val - 64 < 64 then q ⟨9 + (h.val - 3 - 3 - 3), by omega⟩ ⟨l.val - 64, a.2.2⟩ else z)
      = if h.val / 3 % 2 = 0 then inFirst (q h) l else inSecond (q h) l := by
  subst hz
  have hq : ∀ (k : Fin 12) (e : Fin 64), k.val = h.val → q k e = q h e := fun k e hk => by rw [Fin.ext hk]
  unfold inFirst inSecond
  by_cases h3 : h.val < 3
  · rw [dif_pos h3, if_pos (by omega)]
    exact dite_congr (propext ⟨fun a => a.2, fun a => ⟨h3, a⟩⟩) (fun _ => rfl) (fun _ => rfl)
  rw [dif_neg h3]
  by_cases h6 : h.val - 3 < 3
  · rw [dif_pos h6, if_neg (by omega)]
    by_cases hl : l.val < 64
    · rw [dif_pos hl, dif_neg (by omega)]
    · rw [dif_neg hl, dif_pos ⟨h6, by omega, by omega⟩]
      exact hq _ _ (by dsimp only; omega)
  rw [dif_neg h6]
  by_cases h9 : h.val - 3 - 3 < 3
  · rw [dif_pos h9, if_pos (by omega)]
    by_cases hl : l.val < 64
    · rw [dif_pos hl, dif_pos ⟨h9, hl⟩]
      exact hq _ _ (by dsimp only; omega)
    · rw [dif_neg hl, dif_neg (by omega)]
  rw [dif_neg h9, if_neg (by omega)]
  by_cases hl : l.val < 64
  · rw [dif_pos hl, dif_neg (by omega)]
  · rw [dif_neg hl, dif_pos ⟨by omega, by omega, by omega⟩]
    exact hq _ _ (by dsimp only; omega)

/-- The queries' heads as the attention reads them. -/
theorem layQ_at (Q : FVec Ideal S16x4352x12x64 .f32) (h : Fin 12) (l : Fin 128) :
    layQ Q (ix4 b h i l) = if h.val / 3 % 2 = 0 then inFirst (fun k => Q (ix4 b i h k)) l else inSecond (fun k => Q (ix4 b i h k)) l := by
  refine Eq.trans ?_ (groups (fun k e => Q (ix4 b i k e)) _ zero_of_int h l)
  pointwise [layQ]

/-- The keys' heads as the attention reads them. -/
theorem layK_at (Q : FVec Ideal S16x4352x4x64 .f32) (p : Fin 2) (l : Fin 128) :
    layK Q (ix4 b p i l) = sideBySide (fun k => Q (ix4 b i ⟨2 * p.val, by omega⟩ k)) (fun k => Q (ix4 b i ⟨2 * p.val + 1, by omega⟩ k)) l := by
  unfold sideBySide
  pointwise [layK]
  have hi : ∀ (k k' : Fin 4) (e e' : Fin 64), k.val = k'.val → e.val = e'.val → Q (ix4 b i k e) = Q (ix4 b i k' e') := fun k k' e e' hk he => by
    rw [Fin.ext hk, Fin.ext he]
  split_ifs
  all_goals exact hi _ _ _ _ (by dsimp only; omega) (by dsimp only; omega)

/-- The values as the attention reads them. -/
theorem layV_at (Y : FVec Ideal S16x4352x1536 .f32) (p : Fin 2) (l : Fin 128) :
    layV Y (ix4 b p i l) = Y (ix3 b i ⟨1024 + (128 * p.val + l.val), by omega⟩) := by
  pointwise [layV]
  exact congrArg (fun k => Y (ix3 b i k)) (Fin.ext (by show 1024 + (p.val * 128 + l.val) = 1024 + (128 * p.val + l.val); omega))

/-- The columns for the pooling. -/
theorem layP_at (Y : FVec Ideal S16x4352x1536 .f32) (f : Fin 256) :
    layP Y (ix3 b i f) = Y (ix3 b i ⟨1280 + f.val, by omega⟩) := by
  pointwise [layP]

/-- The reference's queries, entry by entry. -/
theorem REFQ_at (h : Fin 12) (l : Fin 128) : REFQ x m g w qg cs sn (ix4 b h i l) = queryLane x m g w qg cs sn b i h l := by
  have hq : (fun k => rotQ (normQ (headsQ (proj (rows x m g) w)) qg) cs sn (ix4 b i h k)) = queryAt x m g w qg cs sn b i h := by
    funext e
    unfold queryAt
    simp only [rotQ_at, normQ_at, headsQ_at, proj_at]
  unfold REFQ queryLane
  rw [layQ_at, hq]

/-- The reference's keys, entry by entry. -/
theorem REFK_at (p : Fin 2) (l : Fin 128) : REFK x m g w kg cs sn (ix4 b p i l) = keyLane x m g w kg cs sn b i p l := by
  have hk : ∀ h, (fun k => rotK (normK (headsK (proj (rows x m g) w)) kg) cs sn (ix4 b i h k)) = keyAt x m g w kg cs sn b i h := by
    intro h
    funext e
    unfold keyAt
    simp only [rotK_at, normK_at, headsK_at, proj_at]
  unfold REFK keyLane
  rw [layK_at, hk, hk]

/-- The reference's values, entry by entry. -/
theorem REFV_at (p : Fin 2) (l : Fin 128) : REFV x m g w (ix4 b p i l) = valueLane x m g w b i p l := by
  unfold REFV valueLane
  rw [layV_at, proj_at]

/-- The reference's columns for the pooling, entry by entry. -/
theorem REFP_at (f : Fin 256) : REFP x m g w (ix3 b i f) = poolAt x m g w b i f := by
  unfold REFP poolAt
  rw [layP_at, proj_at]
end

end Cert.OddRefIdeal.Value

end
-- ==== Proof.OddClaims.lean ====
module

public import proofs.«01_k».proof.Defs
public import proofs.«01_k».proof.Proof.Gen.Odd.Frame
public import proofs.«01_k».proof.Proof.OddArray
public import proofs.«01_k».proof.Proof.OddRefRead
public import Idealize.ShloMosaic.Lib.Claim

@[expose] public section

/-! The claims about the odd layers' input projection, each read off a run of its program. -/

set_option maxRecDepth 16384
noncomputable section
open Idealize.ShloMosaic Idealize.ShloMosaic.TcCoe Idealize.SL.Sem
namespace Cert.OddInput

instance : Cert.Odd.Facts := Cert.Odd.Gen.facts
instance : Cert.OddIdeal.Facts := Cert.OddIdeal.Gen.facts
instance : Cert.OddRefIdeal.Facts := Cert.OddRefIdeal.Gen.facts

section
variable (x : FVec Ideal Cert.OddIdeal.S16x4352x1024 .f32) (mo : FVec Ideal Cert.OddIdeal.S24x6x1024 .f32)
    (g : FVec Ideal Cert.OddIdeal.S1024 .f32) (w : FVec Ideal Cert.OddIdeal.S1024x1536 .f32)
    (qg kg : FVec Ideal Cert.OddIdeal.S64 .f32) (cs sn : FVec Ideal Cert.OddIdeal.S32x4352 .f32)

/-- From the same arguments, the queries the kernel leaves are those the reference computes. -/
theorem queries_eq : Cert.OddIdeal.Value.OUTQ x mo g w qg cs sn = Cert.OddRefIdeal.Value.REFQ x mo g w qg cs sn := by
  funext j
  obtain ⟨b, h, i, l, rfl⟩ : ∃ b h i l, j = ix4 b h i l := ⟨_, _, _, _, eq_ix4 j⟩
  exact (Cert.OddRefIdeal.Value.REFQ_at x mo g w qg cs sn b i h l).symm

/-- So are the keys. -/
theorem keys_eq : Cert.OddIdeal.Value.OUTK x mo g w kg cs sn = Cert.OddRefIdeal.Value.REFK x mo g w kg cs sn := by
  funext j
  obtain ⟨b, h, i, l, rfl⟩ : ∃ b h i l, j = ix4 b h i l := ⟨_, _, _, _, eq_ix4 j⟩
  exact (Cert.OddRefIdeal.Value.REFK_at x mo g w kg cs sn b i h l).symm

/-- So are the values. -/
theorem values_eq : Cert.OddIdeal.Value.OUTV x mo g w = Cert.OddRefIdeal.Value.REFV x mo g w := by
  funext j
  obtain ⟨b, h, i, l, rfl⟩ : ∃ b h i l, j = ix4 b h i l := ⟨_, _, _, _, eq_ix4 j⟩
  exact (Cert.OddRefIdeal.Value.REFV_at x mo g w b i h l).symm

/-- So are the columns for the pooling. -/
theorem pooled_eq : Cert.OddIdeal.Value.OUTP x mo g w = Cert.OddRefIdeal.Value.REFP x mo g w := by
  funext j
  obtain ⟨b, i, f, rfl⟩ : ∃ b i f, j = ix3 b i f := ⟨_, _, _, eq_ix3 j⟩
  exact (Cert.OddRefIdeal.Value.REFP_at x mo g w b i f).symm
end

/-- Kernel and reference, from equal arguments, end with equal results. -/
theorem algebraic : Cert.algebraic_OddIdeal_OddRefIdeal := by
  pair_intro
  · run_from Cert.OddIdeal.Value.run_blocks m g
  · run_from Cert.OddRefIdeal.Value.run m' g'
    all_goals obtain ⟨h0, h1, h2, h3, h4, h5, h6, h7⟩ := hagree c
    · refine (Cert.OddRefIdeal.Value.resQ_eq m' c).trans ?_
      refine Eq.trans ?_ (Cert.OddIdeal.Value.final8 m c).symm
      refine Eq.trans ?_ (queries_eq _ _ _ _ _ _ _).symm
      rw [h0, h1, h2, h3, h4, h6, h7]
    · refine (Cert.OddRefIdeal.Value.resK_eq m' c).trans ?_
      refine Eq.trans ?_ (Cert.OddIdeal.Value.final9 m c).symm
      refine Eq.trans ?_ (keys_eq _ _ _ _ _ _ _).symm
      rw [h0, h1, h2, h3, h5, h6, h7]
    · refine (Cert.OddRefIdeal.Value.resV_eq m' c).trans ?_
      refine Eq.trans ?_ (Cert.OddIdeal.Value.final10 m c).symm
      refine Eq.trans ?_ (values_eq _ _ _ _).symm
      rw [h0, h1, h2, h3]
    · refine (Cert.OddRefIdeal.Value.resP_eq m' c).trans ?_
      refine Eq.trans ?_ (Cert.OddIdeal.Value.final11 m c).symm
      refine Eq.trans ?_ (pooled_eq _ _ _ _).symm
      rw [h0, h1, h2, h3]

/-- The kernel terminates and leaves its arguments and its counters as they were. -/
theorem frame : Cert.quiescent_Odd := fun m g _ => Cert.Odd.Gen.frame m g

/-- So does the kernel over the extended reals. -/
theorem frameIdeal : Cert.quiescent_OddIdeal := fun m g _ => Cert.OddIdeal.Gen.frame m g

/-- So does the reference. -/
theorem frameRef : Cert.quiescent_OddRefIdeal := fun m g _ =>
  (θ_run Cert.OddRefIdeal.defs _ _).mono
    (fun r h => ⟨fun c => (h c).2.2.2.2, sem_eq_zero_of_no_sems (by decide) r.2⟩) (Cert.OddRefIdeal.Value.run m g)

end Cert.OddInput
end
-- ==== Proof.EvenSpec.lean ====
module

public import proofs.«01_k».proof.Proof.OddSpec

@[expose] public section

/-! The input projection of the even layers, with its queries, keys and values out of latent columns, as one formula per entry of its
results. -/

noncomputable section
open Idealize.ShloMosaic
namespace Cert.Layer

/-- Entry `e` of `n` numbers normalised by their root mean square and multiplied by their gain; `N` is the count as the program has it. -/
def rowNorm {n : ℕ} (N : EReal) (p γ : Fin n → EReal) (e : Fin n) : EReal :=
  p e * Ideal.rsqrt (Ideal.div (∑ k : Fin n, p k * p k) N + Ideal.ofBits .f32 0x358637BD#32) * γ e

/-- A head in 128 lanes: 64 lanes as they are, then 16 planes turned, their first coordinates before their second ones, then zeros. -/
def lanes (a : Fin 64 → EReal) (u v C S : Fin 16 → EReal) (l : Fin 128) : EReal :=
  if h : l.val < 64 then a ⟨l.val, h⟩
  else if h : l.val - 64 < 16 then u ⟨l.val - 64, h⟩ * C ⟨l.val - 64, h⟩ - v ⟨l.val - 64, h⟩ * S ⟨l.val - 64, h⟩
  else if h : l.val - 64 - 16 < 16 then u ⟨l.val - 64 - 16, h⟩ * S ⟨l.val - 64 - 16, h⟩ + v ⟨l.val - 64 - 16, h⟩ * C ⟨l.val - 64 - 16, h⟩
  else 0

/-- The head `p` of 96 entries in 128 lanes, its last 32 entries turned. -/
def headLanes (p : Fin 96 → EReal) (C S : Fin 16 → EReal) (l : Fin 128) : EReal :=
  lanes (fun k => p ⟨k.val, by omega⟩) (fun k => p ⟨64 + k.val, by omega⟩) (fun k => p ⟨80 + k.val, by omega⟩) C S l

/-- The queries' scale is a real number and not negative. -/
theorem scale96_real : ∃ r : ℝ, 0 ≤ r ∧ Ideal.ofBits .f32 0x3DD105EC#32 = (r : EReal) := by
  refine ⟨13698540 / 134217728, by norm_num, ?_⟩
  simp [Ideal.ofBits, Ideal.ieee, -EReal.coe_mul]
  norm_num

/-- The count of a head's entries. -/
theorem ofBits_96 : Ideal.ofBits .f32 0x42C00000#32 = ((96 : ℝ) : EReal) := by
  simp [Ideal.ofBits, Ideal.ieee, -EReal.coe_mul]
  norm_num

/-- The scale may be put into the gain or multiplied after the rotation. -/
theorem headLanes_scaled (N : EReal) (p γ : Fin 96 → EReal) (C S : Fin 16 → EReal) (l : Fin 128) :
    headLanes (rowNorm N p fun k => γ k * Ideal.ofBits .f32 0x3DD105EC#32) C S l
      = headLanes (rowNorm N p γ) C S l * Ideal.ofBits .f32 0x3DD105EC#32 := by
  obtain ⟨r, hr, e⟩ := scale96_real
  have h0 : (0 : EReal) ≤ Ideal.ofBits .f32 0x3DD105EC#32 := by rw [e]; exact_mod_cast hr
  have h1 : Ideal.ofBits .f32 0x3DD105EC#32 ≠ ⊤ := by rw [e]; exact EReal.coe_ne_top _
  generalize Ideal.ofBits .f32 0x3DD105EC#32 = s at h0 h1 ⊢
  have hn : ∀ k, rowNorm N p (fun k => γ k * s) k = rowNorm N p γ k * s := fun k => (mul_assoc _ _ _).symm
  unfold headLanes lanes
  by_cases a : l.val < 64
  · rw [dif_pos a, dif_pos a]
    simp only [hn]
  rw [dif_neg a, dif_neg a]
  by_cases b : l.val - 64 < 16
  · rw [dif_pos b, dif_pos b]
    simp only [hn]
    rw [sub_eq_add_neg, sub_eq_add_neg, EReal.right_distrib_of_nonneg_of_ne_top h0 h1, ← EReal.neg_mul]
    refine congrArg₂ (· + ·) (mul_right_comm _ _ _) ?_
    rw [EReal.neg_mul, EReal.neg_mul]
    exact congrArg _ (mul_right_comm _ _ _)
  rw [dif_neg b, dif_neg b]
  by_cases d : l.val - 64 - 16 < 16
  · rw [dif_pos d, dif_pos d]
    simp only [hn]
    rw [EReal.right_distrib_of_nonneg_of_ne_top h0 h1]
    exact congrArg₂ (· + ·) (mul_right_comm _ _ _) (mul_right_comm _ _ _)
  · rw [dif_neg d, dif_neg d, zero_mul]

/-- A sum over 96 entries is the sum over the first 64 and that over the last 32. -/
theorem sum_96 (f : Fin 96 → EReal) : ∑ k : Fin 96, f k = (∑ k : Fin 64, f ⟨k.val, by omega⟩) + ∑ k : Fin 32, f ⟨64 + k.val, by omega⟩ :=
  Fin.sum_univ_add (a := 64) (b := 32) f

section
variable (x : FVec Ideal ⟨3, ![16, 4352, 1024]⟩ .f32) (m : FVec Ideal ⟨3, ![24, 6, 1024]⟩ .f32)
  (g : FVec Ideal ⟨1, ![1024]⟩ .f32) (w : FVec Ideal ⟨2, ![1024, 672]⟩ .f32) (cqg : FVec Ideal ⟨1, ![256]⟩ .f32)
  (wuq : FVec Ideal ⟨2, ![256, 1152]⟩ .f32) (qg : FVec Ideal ⟨1, ![96]⟩ .f32) (ckvg : FVec Ideal ⟨1, ![128]⟩ .f32)
  (wukv : FVec Ideal ⟨2, ![128, 1536]⟩ .f32) (kg : FVec Ideal ⟨1, ![96]⟩ .f32)
  (cs sn : FVec Ideal ⟨2, ![16, 4352]⟩ .f32) (b : Fin 16) (i : Fin 4352)

/-- The projection of row `i`, column `f`. -/
def latentAt (f : Fin 672) : EReal := ∑ d : Fin 1024, oddRow x m g b i d * w (ix2 d f)

/-- The queries before their norm, column `f`: the first 256 latent columns, normed and projected. -/
def upQueryAt (f : Fin 1152) : EReal :=
  ∑ k : Fin 256, rowNorm (Ideal.ofBits .f32 0x43800000#32) (fun k => latentAt x m g w b i ⟨k.val, by omega⟩) (fun k => cqg (ix1 k)) k * wuq (ix2 k f)

/-- The keys and values before the keys' norm, column `f`: the next 128 latent columns, normed and projected. -/
def upKeyAt (f : Fin 1536) : EReal :=
  ∑ k : Fin 128, rowNorm (Ideal.ofBits .f32 0x43000000#32) (fun k => latentAt x m g w b i ⟨256 + k.val, by omega⟩) (fun k => ckvg (ix1 k)) k * wukv (ix2 k f)

/-- Head `h` of the queries, normed. -/
def queryHead (h : Fin 12) : Fin 96 → EReal :=
  rowNorm (Ideal.ofBits .f32 0x42C00000#32) (fun k => upQueryAt x m g w cqg wuq b i ⟨96 * h.val + k.val, by omega⟩) (fun k => qg (ix1 k))

/-- Head `h` of the keys before its norm: 64 columns of its own and the 32 columns that all heads share. -/
def keyColumns (h : Fin 12) (k : Fin 96) : EReal :=
  if a : k.val < 64 then upKeyAt x m g w ckvg wukv b i ⟨128 * h.val + k.val, by omega⟩ else latentAt x m g w b i ⟨384 + (k.val - 64), by omega⟩

/-- Head `h` of the keys, normed. -/
def keyHead (h : Fin 12) : Fin 96 → EReal :=
  rowNorm (Ideal.ofBits .f32 0x42C00000#32) (keyColumns x m g w ckvg wukv b i h) (fun k => kg (ix1 k))

/-- The queries as they lie, rotated and scaled. -/
def evenQueryLane (h : Fin 12) (l : Fin 128) : EReal :=
  headLanes (queryHead x m g w cqg wuq qg b i h) (fun k => cs (ix2 k i)) (fun k => sn (ix2 k i)) l * Ideal.ofBits .f32 0x3DD105EC#32

/-- The keys as they lie, rotated. -/
def evenKeyLane (h : Fin 12) (l : Fin 128) : EReal :=
  headLanes (keyHead x m g w ckvg wukv kg b i h) (fun k => cs (ix2 k i)) (fun k => sn (ix2 k i)) l

/-- The values as they lie: the last 64 of each head's 128 columns. -/
def evenValueAt (f : Fin 768) : EReal := upKeyAt x m g w ckvg wukv b i ⟨128 * (f.val / 64) + (64 + f.val % 64), by omega⟩

/-- The columns for the Fourier mixing. -/
def mixAt (f : Fin 256) : EReal := latentAt x m g w b i ⟨416 + f.val, by omega⟩
end

end Cert.Layer
end
-- ==== Proof.EvenTile.lean ====
module

public import proofs.«01_k».proof.Proof.Gen.EvenIdeal.Value
public import proofs.«01_k».proof.Proof.EvenSpec
public import Idealize.ShloMosaic.Lib.Pipeline.ValueKit
public import Idealize.ShloMosaic.Lib.Pointwise

@[expose] public section

/-! What one block of the even layers' input projection computes, from the contents of its windows. -/

set_option maxRecDepth 16384
noncomputable section
open Idealize.ShloMosaic Idealize.ShloMosaic.TcCoe Idealize.SL.Sem
open Idealize.ShloMosaic.Pipeline (Dat)
namespace Cert.EvenIdeal.Value
open Cert.EvenIdeal Cert.EvenIdeal.Gen
open Cert.Layer (normed invRms rowNorm lanes headLanes)

/-- The named constant is exactly 1/96. -/
theorem inv96 : Named.named (F := Ideal) Cert.EvenIdeal.κ "one_96th" (φ := .f32) 0x3C2AAAAB#32 = ((1 / 96 : ℝ) : EReal) :=
  IdealRules.named_const.ideal_named_scalar _ _ _ _ rfl

/-- Multiplying by it is dividing by the count. -/
theorem mul_inv96 (a : EReal) : a * ((1 / 96 : ℝ) : EReal) = Ideal.div a (Ideal.ofBits .f32 0x42C00000#32) := by
  rw [Cert.Layer.ofBits_96, Ideal.div_coe (by norm_num : (96 : ℝ) ≠ 0), one_div]

/-- The projection's block at an entry, over the blocks it is computed of. -/
theorem proj_at (M : FVec Ideal S1x6x1024 .f32) (X : FVec Ideal S1x256x1024 .f32) (G : FVec Ideal S1x1024 .f32) (W : FVec Ideal S672x1024 .bf16)
    (f : Fin 672) (y : Fin 256) : k0_pay3 (F := Ideal) M X G W (ix2 f y)
      = ∑ d : Fin 1024, normed (fun d => X (ix3 0 y d)) (G (ix2 0 d)) (M (ix3 0 1 d)) (M (ix3 0 0 d)) d * W (ix2 f d) := by
  unfold normed invRms
  pointwise [k0_pay3]
  exact Finset.sum_congr rfl fun d _ => mul_comm _ _

/-- The queries' block before their norm. -/
theorem upQuery_at (H : FVec Ideal S672x256 .f32) (g : FVec Ideal S256x1 .f32) (W : FVec Ideal S1152x256 .bf16) (f : Fin 1152) (y : Fin 256) :
    k0_pay7 (F := Ideal) H g W (ix2 f y)
      = ∑ k : Fin 256, rowNorm (Ideal.ofBits .f32 0x43800000#32) (fun k : Fin 256 => H (ix2 (⟨k.val, by omega⟩ : Fin 672) y)) (fun k => g (ix2 k 0)) k * W (ix2 f k) := by
  unfold rowNorm
  pointwise [k0_pay7]
  exact Finset.sum_congr rfl fun d _ => mul_comm _ _

/-- The keys' and values' block before the keys' norm. -/
theorem upKey_at (H : FVec Ideal S672x256 .f32) (g : FVec Ideal S128x1 .f32) (W : FVec Ideal S1536x128 .bf16) (f : Fin 1536) (y : Fin 256) :
    k0_pay42 (F := Ideal) (k0_pay39 H) (k0_pay40 g) (k0_pay41 H) W (ix2 f y)
      = ∑ k : Fin 128, rowNorm (Ideal.ofBits .f32 0x43000000#32) (fun k : Fin 128 => H (ix2 (⟨256 + k.val, by omega⟩ : Fin 672) y)) (fun k => g (ix2 k 0)) k * W (ix2 f k) := by
  unfold rowNorm
  pointwise [k0_pay42, k0_pay39, k0_pay40, k0_pay41]
  exact Finset.sum_congr rfl fun d _ => mul_comm _ _

section
variable (o : ℕ) (hs : S1152x256.Slices ![o, 0] S96x256) (Q : FVec Ideal S1152x256 .f32) (C S : FVec Ideal S16x256 .f32)
  (G : FVec Ideal S96x1 .f32)

/-- Rows `o` to `o + 95` of the queries as a head, normed column by column. -/
def normRows : FVec Ideal S96x256 .f32 :=
  mulf (mulf (extractStridedSlice S96x256 ![o, 0] Q hs) (broadcastTo S96x256 (rsqrt (addf (divf (shapeCast S1x256
    (multiReduction .add [0] S256 (mulf (extractStridedSlice S96x256 ![o, 0] Q hs) (extractStridedSlice S96x256 ![o, 0] Q hs)) 0x00000000#32
      reduces_S96x256_S256 (.inl rfl) rfl) shapeCasts_S256_S1x256) (broadcast S1x256 (Scalar.ofBits .f32 0x42C00000#32)))
    (broadcast S1x256 (Scalar.ofBits .f32 0x358637BD#32)))) broadcasts_S1x256_S96x256)) (broadcastTo S96x256 G broadcasts_S96x1_S96x256)

/-- A head's rows in 128 lanes, the last 32 turned, then zeros. -/
def spread (N : FVec Ideal S96x256 .f32) : FVec Ideal S128x256 .f32 :=
  concatenate S128x256 0
    [⟨S64x256, extractStridedSlice S64x256 ![0, 0] N slices_S96x256_o0_0_S64x256⟩,
     ⟨S16x256, subf (mulf (extractStridedSlice S16x256 ![64, 0] N slices_S96x256_o64_0_S16x256) C) (mulf (extractStridedSlice S16x256 ![80, 0] N slices_S96x256_o80_0_S16x256) S)⟩,
     ⟨S16x256, addf (mulf (extractStridedSlice S16x256 ![64, 0] N slices_S96x256_o64_0_S16x256) S) (mulf (extractStridedSlice S16x256 ![80, 0] N slices_S96x256_o80_0_S16x256) C)⟩,
     ⟨S32x256, k0_pay4 (F := Ideal)⟩]
    concatenates_S64x256_S16x256_S16x256_S32x256_S128x256_d0

/-- The lanes laid as one block of 256 tokens. -/
def layTokens (L : FVec Ideal S128x256 .f32) : FVec Ideal S1x1x256x128 .bf16 :=
  shapeCast S1x1x256x128 (truncf .bf16 (transpose S256x128 [1, 0] L transposes_S128x256_p1_0_S256x128) bitsLt_bf16_f32) shapeCasts_S256x128_S1x1x256x128

/-- The stored zeros. -/
theorem zeros_at (e : Fin 32) (y : Fin 256) : k0_pay4 (F := Ideal) (ix2 e y) = 0 := by
  pointwise [k0_pay4]

/-- An entry of a normed head. -/
theorem normRows_at (e : Fin 96) (y : Fin 256) (f : Fin 96 → Fin 1152) (hf : ∀ k, (f k).val = o + k.val) :
    normRows o hs Q G (ix2 e y) = rowNorm (Ideal.ofBits .f32 0x42C00000#32) (fun k => Q (ix2 (f k) y)) (fun k => G (ix2 k 0)) e := by
  unfold rowNorm
  have hF : ∀ k, f k = ⟨o + k.val, (hf k) ▸ (f k).isLt⟩ := fun k => Fin.ext (hf k)
  pointwise [normRows]
  simp only [hF]

/-- A lane of a spread head. -/
theorem spread_at (N : FVec Ideal S96x256 .f32) (l : Fin 128) (y : Fin 256) :
    spread C S N (ix2 l y) = headLanes (fun k => N (ix2 k y)) (fun k => C (ix2 k y)) (fun k => S (ix2 k y)) l := by
  unfold headLanes lanes
  pointwise [spread, k0_pay4]

/-- An entry of the block that lanes are laid as. -/
theorem layTokens_at (L : FVec Ideal S128x256 .f32) (y : Fin 256) (l : Fin 128) : layTokens L (ix4 0 0 y l) = L (ix2 l y) := by
  pointwise [layTokens]

/-- The rows of head `h` of the queries. -/
def qRow (h : Fin 12) (k : Fin 96) : Fin 1152 := ⟨96 * h.val + k.val, by omega⟩

/-- The block of queries, entry by entry. -/
def tileQ (h : Fin 12) (y : Fin 256) (l : Fin 128) : EReal :=
  headLanes (rowNorm (Ideal.ofBits .f32 0x42C00000#32) (fun k => Q (ix2 (qRow h k) y)) (fun k => G (ix2 k 0))) (fun k => C (ix2 k y)) (fun k => S (ix2 k y)) l

/-- The block of queries as a whole. -/
def blockQ : Vec Ideal S1x12x256x128 .bf16 := fun j => tileQ Q C S G (j 1) (j 2) (j 3)

/-- A head of queries, as the piece of the block that it is. -/
theorem pieceQ (h : Fin 12) (ho : o = 96 * h.val) (inb) (x : S1x1x256x128.Idx) :
    layTokens (spread C S (normRows o hs Q G)) x
      = (blockQ Q C S G) ((Rect.unit (s := S1x12x256x128) ![0, h.val, 0, 0] S1x1x256x128.size inb).idx x) := by
  idx_vars x
  obtain rfl : x0 = 0 := Subsingleton.elim _ _
  obtain rfl : x1 = 0 := Subsingleton.elim _ _
  rw [layTokens_at, spread_at]
  have e2 : ∀ (a : Fin 12) (b : Fin 256) (d : Fin 128), a = h → b = x2 → d = x3 → tileQ Q C S G a b d = tileQ Q C S G h x2 x3 := by
    rintro a b d rfl rfl rfl
    rfl
  refine Eq.trans ?_ (e2 _ _ _ (Fin.ext (by show h.val + 1 * 0 = h.val; omega)) (Fin.ext (by show 0 + 1 * x2.val = x2.val; omega)) (Fin.ext (by show 0 + 1 * x3.val = x3.val; omega))).symm
  exact congrArg (fun p => headLanes p _ _ x3) (funext fun k => normRows_at o hs Q G k x2 (qRow h) (fun k => by rw [ho]; rfl))
end

section
variable (o : ℕ) (hs : S1536x256.Slices ![o, 0] S64x256) (K : FVec Ideal S1536x256 .f32) (R : FVec Ideal S32x256 .f32)
  (C S : FVec Ideal S16x256 .f32) (G : FVec Ideal S96x1 .f32)

/-- The keys' norm: rows `o` to `o + 63` and the 32 shared rows together. -/
def keyNorm : FVec Ideal S1x256 .f32 :=
  rsqrt (addf (mulf (addf (shapeCast S1x256
      (multiReduction .add [0] S256 (mulf (extractStridedSlice S64x256 ![o, 0] K hs) (extractStridedSlice S64x256 ![o, 0] K hs)) 0x00000000#32
        reduces_S64x256_S256 (.inl rfl) rfl) shapeCasts_S256_S1x256)
      (shapeCast S1x256 (multiReduction .add [0] S256 (mulf R R) 0x00000000#32 reduces_S32x256_S256 (.inl rfl) rfl) shapeCasts_S256_S1x256))
    (broadcast S1x256 (Named.named (F := Ideal) κ "one_96th" (φ := .f32) 0x3C2AAAAB#32))) (broadcast S1x256 (Scalar.ofBits .f32 0x358637BD#32)))

/-- A head's own 64 rows, normed. -/
def ownRows : FVec Ideal S64x256 .f32 :=
  mulf (mulf (extractStridedSlice S64x256 ![o, 0] K hs) (broadcastTo S64x256 (keyNorm o hs K R) broadcasts_S1x256_S64x256))
    (broadcastTo S64x256 (extractStridedSlice S64x1 ![0, 0] G slices_S96x1_o0_0_S64x1) broadcasts_S64x1_S64x256)

/-- The 32 shared rows, normed. -/
def sharedRows : FVec Ideal S32x256 .f32 :=
  mulf (mulf R (broadcastTo S32x256 (keyNorm o hs K R) broadcasts_S1x256_S32x256))
    (broadcastTo S32x256 (extractStridedSlice S32x1 ![64, 0] G slices_S96x1_o64_0_S32x1) broadcasts_S32x1_S32x256)

/-- Both in 128 lanes, the shared ones turned, then zeros. -/
def joinRows (A : FVec Ideal S64x256 .f32) (B : FVec Ideal S32x256 .f32) : FVec Ideal S128x256 .f32 :=
  concatenate S128x256 0
    [⟨S64x256, A⟩,
     ⟨S16x256, subf (mulf (extractStridedSlice S16x256 ![0, 0] B slices_S32x256_o0_0_S16x256) C) (mulf (extractStridedSlice S16x256 ![16, 0] B slices_S32x256_o16_0_S16x256) S)⟩,
     ⟨S16x256, addf (mulf (extractStridedSlice S16x256 ![0, 0] B slices_S32x256_o0_0_S16x256) S) (mulf (extractStridedSlice S16x256 ![16, 0] B slices_S32x256_o16_0_S16x256) C)⟩,
     ⟨S32x256, k0_pay4 (F := Ideal)⟩]
    concatenates_S64x256_S16x256_S16x256_S32x256_S128x256_d0

/-- The lanes laid as one block of 128 rows. -/
def layRows (L : FVec Ideal S128x256 .f32) : FVec Ideal S1x1x128x256 .bf16 :=
  shapeCast S1x1x128x256 (truncf .bf16 L bitsLt_bf16_f32) shapeCasts_S128x256_S1x1x128x256

/-- The rows of head `h` of the keys. -/
def kRow (h : Fin 12) (k : Fin 64) : Fin 1536 := ⟨128 * h.val + k.val, by omega⟩

/-- The 96 entries of head `h` of the keys before their norm. -/
def column (h : Fin 12) (y : Fin 256) (k : Fin 96) : EReal :=
  if a : k.val < 64 then K (ix2 (kRow h ⟨k.val, a⟩) y) else R (ix2 (⟨k.val - 64, by omega⟩ : Fin 32) y)

/-- The norm over the two parts is that over the 96 entries. -/
theorem keyNorm_at (h : Fin 12) (ho : o = 128 * h.val) (y : Fin 256) :
    keyNorm o hs K R (ix2 0 y) = Ideal.rsqrt (Ideal.div (∑ k : Fin 96, column K R h y k * column K R h y k) (Ideal.ofBits .f32 0x42C00000#32) + Ideal.ofBits .f32 0x358637BD#32) := by
  rw [← mul_inv96, Cert.Layer.sum_96]
  have e1 : ∀ k : Fin 64, column K R h y ⟨k.val, by omega⟩ = K (ix2 (⟨o + k.val, by omega⟩ : Fin 1536) y) := fun k => by
    unfold column
    rw [dif_pos k.isLt]
    exact congrArg (fun r => K (ix2 r y)) (Fin.ext (by show 128 * h.val + k.val = o + k.val; omega))
  have e2 : ∀ k : Fin 32, column K R h y ⟨64 + k.val, by omega⟩ = R (ix2 k y) := fun k => by
    unfold column
    rw [dif_neg (by show ¬ 64 + k.val < 64; omega)]
    exact congrArg (fun r => R (ix2 r y)) (Fin.ext (by show 64 + k.val - 64 = k.val; omega))
  simp only [e1, e2]
  rw [← inv96]
  pointwise [keyNorm]

/-- An entry of a head's own rows. -/
theorem ownRows_at (h : Fin 12) (ho : o = 128 * h.val) (e : Fin 64) (y : Fin 256) :
    ownRows o hs K R G (ix2 e y) = rowNorm (Ideal.ofBits .f32 0x42C00000#32) (column K R h y) (fun k => G (ix2 k 0)) ⟨e.val, by omega⟩ := by
  unfold rowNorm
  rw [← keyNorm_at o hs K R h ho y]
  have e1 : column K R h y ⟨e.val, by omega⟩ = K (ix2 (⟨o + e.val, by omega⟩ : Fin 1536) y) := by
    unfold column
    rw [dif_pos e.isLt]
    exact congrArg (fun r => K (ix2 r y)) (Fin.ext (by show 128 * h.val + e.val = o + e.val; omega))
  rw [e1]
  pointwise [ownRows]

/-- An entry of the shared rows. -/
theorem sharedRows_at (h : Fin 12) (ho : o = 128 * h.val) (e : Fin 32) (y : Fin 256) :
    sharedRows o hs K R G (ix2 e y) = rowNorm (Ideal.ofBits .f32 0x42C00000#32) (column K R h y) (fun k => G (ix2 k 0)) ⟨64 + e.val, by omega⟩ := by
  unfold rowNorm
  rw [← keyNorm_at o hs K R h ho y]
  have e2 : column K R h y ⟨64 + e.val, by omega⟩ = R (ix2 e y) := by
    unfold column
    rw [dif_neg (by show ¬ 64 + e.val < 64; omega)]
    exact congrArg (fun r => R (ix2 r y)) (Fin.ext (by show 64 + e.val - 64 = e.val; omega))
  rw [e2]
  pointwise [sharedRows]

/-- A lane of the joined rows. -/
theorem joinRows_at (A : FVec Ideal S64x256 .f32) (B : FVec Ideal S32x256 .f32) (l : Fin 128) (y : Fin 256) :
    joinRows C S A B (ix2 l y) = lanes (fun k => A (ix2 k y)) (fun k => B (ix2 (⟨k.val, by omega⟩ : Fin 32) y)) (fun k => B (ix2 (⟨16 + k.val, by omega⟩ : Fin 32) y))
      (fun k => C (ix2 k y)) (fun k => S (ix2 k y)) l := by
  unfold lanes
  pointwise [joinRows, k0_pay4]

/-- An entry of the block that lanes are laid as. -/
theorem layRows_at (L : FVec Ideal S128x256 .f32) (l : Fin 128) (y : Fin 256) : layRows L (ix4 0 0 l y) = L (ix2 l y) := by
  pointwise [layRows]

/-- The block of keys, entry by entry. -/
def tileK (h : Fin 12) (l : Fin 128) (y : Fin 256) : EReal :=
  headLanes (rowNorm (Ideal.ofBits .f32 0x42C00000#32) (column K R h y) (fun k => G (ix2 k 0))) (fun k => C (ix2 k y)) (fun k => S (ix2 k y)) l

/-- The block of keys as a whole. -/
def blockK : Vec Ideal S1x12x128x256 .bf16 := fun j => tileK K R C S G (j 1) (j 2) (j 3)

/-- A head of keys, as the piece of the block that it is. -/
theorem pieceK (h : Fin 12) (ho : o = 128 * h.val) (inb) (x : S1x1x128x256.Idx) :
    layRows (joinRows C S (ownRows o hs K R G) (sharedRows o hs K R G)) x
      = (blockK K R C S G) ((Rect.unit (s := S1x12x128x256) ![0, h.val, 0, 0] S1x1x128x256.size inb).idx x) := by
  idx_vars x
  obtain rfl : x0 = 0 := Subsingleton.elim _ _
  obtain rfl : x1 = 0 := Subsingleton.elim _ _
  rw [layRows_at, joinRows_at]
  have e2 : ∀ (a : Fin 12) (b : Fin 128) (d : Fin 256), a = h → b = x2 → d = x3 → tileK K R C S G a b d = tileK K R C S G h x2 x3 := by
    rintro a b d rfl rfl rfl
    rfl
  refine Eq.trans ?_ (e2 _ _ _ (Fin.ext (by show h.val + 1 * 0 = h.val; omega)) (Fin.ext (by show 0 + 1 * x2.val = x2.val; omega)) (Fin.ext (by show 0 + 1 * x3.val = x3.val; omega))).symm
  unfold tileK headLanes
  simp only [ownRows_at o hs K R G h ho, sharedRows_at o hs K R G h ho]
  refine congrArg (fun v => lanes _ _ v _ _ x2) (funext fun k => congrArg _ (Fin.ext ?_))
  show 64 + (16 + k.val) = 80 + k.val
  omega

/-- The block of values as a whole. -/
def blockV : Vec Ideal S1x768x256 .bf16 := fun j =>
  K (ix2 (⟨128 * ((j 1).val / 64) + (64 + (j 1).val % 64), by have : (j 1).val < 768 := (j 1).isLt; omega⟩ : Fin 1536) (j 2))

/-- A head of values, as the piece of the block that it is. -/
theorem pieceV (h : Fin 12) (ho : o = 128 * h.val + 64) (p : ℕ) (hp : p = 64 * h.val) (inb) (x : S1x64x256.Idx) :
    shapeCast S1x64x256 (truncf .bf16 (extractStridedSlice S64x256 ![o, 0] K hs) bitsLt_bf16_f32 : FVec Ideal S64x256 .bf16) shapeCasts_S64x256_S1x64x256 x
      = (blockV K) ((Rect.unit (s := S1x768x256) ![0, p, 0] S1x64x256.size inb).idx x) := by
  idx_vars x
  obtain rfl : x0 = 0 := Subsingleton.elim _ _
  pointwise
  unfold blockV
  have e2 : ∀ (a : Fin 1536) (b : Fin 256) (a' : Fin 1536) (b' : Fin 256), a.val = a'.val → b.val = b'.val → K (ix2 a b) = K (ix2 a' b') := by
    intro a b a' b' ha hb
    rw [Fin.ext ha, Fin.ext hb]
  refine e2 _ _ _ _ ?_ ?_
  · show o + x1.val = 128 * ((p + x1.val) / 64) + (64 + (p + x1.val) % 64)
    omega
  · rfl
end

section
variable (x0 : Vec Ideal S1x256x1024 .f32) (x1 : Vec Ideal S1x6x1024 .f32) (x2 : Vec Ideal S1x1024 .f32) (x3 : Vec Ideal S672x1024 .bf16)
  (x4 : Vec Ideal S256x1 .f32) (x5 : Vec Ideal S1152x256 .bf16) (x6 : Vec Ideal S96x1 .f32) (x7 : Vec Ideal S128x1 .f32)
  (x8 : Vec Ideal S1536x128 .bf16) (x9 : Vec Ideal S96x1 .f32) (x10 x11 : Vec Ideal S16x256 .f32)

/-- A rotation table's block. -/
def table (x : Vec Ideal S16x256 .f32) : FVec Ideal S16x256 .f32 := View.ld x r0_4

/-- The twelve stores of the queries leave `tileQ` in the block. -/
theorem queries_at (y : S1x12x256x128.Idx) :
    (out0_12 x0 x1 x2 x3 x4 x5 x6 x7 x8 x9 x10 x11 : Vec Ideal S1x12x256x128 .bf16) y = tileQ (k0_pay90 (F := Ideal) x0 x1 x2 x3 x4 x5 x6 x7 x8 x9 x10 x11)
      (table x10) (table x11) (k0_pay91 (F := Ideal) x0 x1 x2 x3 x4 x5 x6 x7 x8 x9 x10 x11) (y 1) (y 2) (y 3) := by
  unfold out0_12
  refine View.canon_apply_of_pieces (blockQ (k0_pay90 (F := Ideal) x0 x1 x2 x3 x4 x5 x6 x7 x8 x9 x10 x11)
    (table x10) (table x11) (k0_pay91 (F := Ideal) x0 x1 x2 x3 x4 x5 x6 x7 x8 x9 x10 x11)) _ ?_ y (cover0_12 _ _ _ _ _ _ _ _ _ _ _ _ y)
  intro pc hpc
  rcases List.mem_cons.mp hpc with rfl | hpc
  · exact fun x => pieceQ 1056 slices_S1152x256_o1056_0_S96x256 (k0_pay90 x0 x1 x2 x3 x4 x5 x6 x7 x8 x9 x10 x11) (table x10) (table x11) (k0_pay91 x0 x1 x2 x3 x4 x5 x6 x7 x8 x9 x10 x11) 11 rfl (by decide) x
  rcases List.mem_cons.mp hpc with rfl | hpc
  · exact fun x => pieceQ 960 slices_S1152x256_o960_0_S96x256 (k0_pay90 x0 x1 x2 x3 x4 x5 x6 x7 x8 x9 x10 x11) (table x10) (table x11) (k0_pay91 x0 x1 x2 x3 x4 x5 x6 x7 x8 x9 x10 x11) 10 rfl (by decide) x
  rcases List.mem_cons.mp hpc with rfl | hpc
  · exact fun x => pieceQ 864 slices_S1152x256_o864_0_S96x256 (k0_pay90 x0 x1 x2 x3 x4 x5 x6 x7 x8 x9 x10 x11) (table x10) (table x11) (k0_pay91 x0 x1 x2 x3 x4 x5 x6 x7 x8 x9 x10 x11) 9 rfl (by decide) x
  rcases List.mem_cons.mp hpc with rfl | hpc
  · exact fun x => pieceQ 768 slices_S1152x256_o768_0_S96x256 (k0_pay90 x0 x1 x2 x3 x4 x5 x6 x7 x8 x9 x10 x11) (table x10) (table x11) (k0_pay91 x0 x1 x2 x3 x4 x5 x6 x7 x8 x9 x10 x11) 8 rfl (by decide) x
  rcases List.mem_cons.mp hpc with rfl | hpc
  · exact fun x => pieceQ 672 slices_S1152x256_o672_0_S96x256 (k0_pay90 x0 x1 x2 x3 x4 x5 x6 x7 x8 x9 x10 x11) (table x10) (table x11) (k0_pay91 x0 x1 x2 x3 x4 x5 x6 x7 x8 x9 x10 x11) 7 rfl (by decide) x
  rcases List.mem_cons.mp hpc with rfl | hpc
  · exact fun x => pieceQ 576 slices_S1152x256_o576_0_S96x256 (k0_pay90 x0 x1 x2 x3 x4 x5 x6 x7 x8 x9 x10 x11) (table x10) (table x11) (k0_pay91 x0 x1 x2 x3 x4 x5 x6 x7 x8 x9 x10 x11) 6 rfl (by decide) x
  rcases List.mem_cons.mp hpc with rfl | hpc
  · exact fun x => pieceQ 480 slices_S1152x256_o480_0_S96x256 (k0_pay90 x0 x1 x2 x3 x4 x5 x6 x7 x8 x9 x10 x11) (table x10) (table x11) (k0_pay91 x0 x1 x2 x3 x4 x5 x6 x7 x8 x9 x10 x11) 5 rfl (by decide) x
  rcases List.mem_cons.mp hpc with rfl | hpc
  · exact fun x => pieceQ 384 slices_S1152x256_o384_0_S96x256 (k0_pay90 x0 x1 x2 x3 x4 x5 x6 x7 x8 x9 x10 x11) (table x10) (table x11) (k0_pay91 x0 x1 x2 x3 x4 x5 x6 x7 x8 x9 x10 x11) 4 rfl (by decide) x
  rcases List.mem_cons.mp hpc with rfl | hpc
  · exact fun x => pieceQ 288 slices_S1152x256_o288_0_S96x256 (k0_pay90 x0 x1 x2 x3 x4 x5 x6 x7 x8 x9 x10 x11) (table x10) (table x11) (k0_pay91 x0 x1 x2 x3 x4 x5 x6 x7 x8 x9 x10 x11) 3 rfl (by decide) x
  rcases List.mem_cons.mp hpc with rfl | hpc
  · exact fun x => pieceQ 192 slices_S1152x256_o192_0_S96x256 (k0_pay90 x0 x1 x2 x3 x4 x5 x6 x7 x8 x9 x10 x11) (table x10) (table x11) (k0_pay91 x0 x1 x2 x3 x4 x5 x6 x7 x8 x9 x10 x11) 2 rfl (by decide) x
  rcases List.mem_cons.mp hpc with rfl | hpc
  · exact fun x => pieceQ 96 slices_S1152x256_o96_0_S96x256 (k0_pay90 x0 x1 x2 x3 x4 x5 x6 x7 x8 x9 x10 x11) (table x10) (table x11) (k0_pay91 x0 x1 x2 x3 x4 x5 x6 x7 x8 x9 x10 x11) 1 rfl (by decide) x
  rcases List.mem_cons.mp hpc with rfl | hpc
  · exact fun x => pieceQ 0 slices_S1152x256_o0_0_S96x256 (k0_pay90 x0 x1 x2 x3 x4 x5 x6 x7 x8 x9 x10 x11) (table x10) (table x11) (k0_pay91 x0 x1 x2 x3 x4 x5 x6 x7 x8 x9 x10 x11) 0 rfl (by decide) x
  · exact absurd hpc List.not_mem_nil

/-- The twelve stores of the keys leave `tileK` in the block. -/
theorem keys_at (y : S1x12x128x256.Idx) :
    (out0_13 x0 x1 x2 x3 x4 x5 x6 x7 x8 x9 x10 x11 : Vec Ideal S1x12x128x256 .bf16) y = tileK (k0_pay95 (F := Ideal) x0 x1 x2 x3 x4 x5 x6 x7 x8 x9 x10 x11)
      (k0_pay96 (F := Ideal) x0 x1 x2 x3 x4 x5 x6 x7 x8 x9 x10 x11)
      (table x10) (table x11) (k0_pay98 (F := Ideal) x0 x1 x2 x3 x4 x5 x6 x7 x8 x9 x10 x11) (y 1) (y 2) (y 3) := by
  unfold out0_13
  refine View.canon_apply_of_pieces (blockK (k0_pay95 (F := Ideal) x0 x1 x2 x3 x4 x5 x6 x7 x8 x9 x10 x11)
    (k0_pay96 (F := Ideal) x0 x1 x2 x3 x4 x5 x6 x7 x8 x9 x10 x11)
    (table x10) (table x11) (k0_pay98 (F := Ideal) x0 x1 x2 x3 x4 x5 x6 x7 x8 x9 x10 x11)) _ ?_ y (cover0_13 _ _ _ _ _ _ _ _ _ _ _ _ y)
  intro pc hpc
  rcases List.mem_cons.mp hpc with rfl | hpc
  · exact fun x => pieceK 1408 slices_S1536x256_o1408_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 11 rfl (by decide) x
  rcases List.mem_cons.mp hpc with rfl | hpc
  · exact fun x => pieceK 1280 slices_S1536x256_o1280_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 10 rfl (by decide) x
  rcases List.mem_cons.mp hpc with rfl | hpc
  · exact fun x => pieceK 1152 slices_S1536x256_o1152_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 9 rfl (by decide) x
  rcases List.mem_cons.mp hpc with rfl | hpc
  · exact fun x => pieceK 1024 slices_S1536x256_o1024_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 8 rfl (by decide) x
  rcases List.mem_cons.mp hpc with rfl | hpc
  · exact fun x => pieceK 896 slices_S1536x256_o896_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 7 rfl (by decide) x
  rcases List.mem_cons.mp hpc with rfl | hpc
  · exact fun x => pieceK 768 slices_S1536x256_o768_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 6 rfl (by decide) x
  rcases List.mem_cons.mp hpc with rfl | hpc
  · exact fun x => pieceK 640 slices_S1536x256_o640_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 5 rfl (by decide) x
  rcases List.mem_cons.mp hpc with rfl | hpc
  · exact fun x => pieceK 512 slices_S1536x256_o512_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 4 rfl (by decide) x
  rcases List.mem_cons.mp hpc with rfl | hpc
  · exact fun x => pieceK 384 slices_S1536x256_o384_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 3 rfl (by decide) x
  rcases List.mem_cons.mp hpc with rfl | hpc
  · exact fun x => pieceK 256 slices_S1536x256_o256_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 2 rfl (by decide) x
  rcases List.mem_cons.mp hpc with rfl | hpc
  · exact fun x => pieceK 128 slices_S1536x256_o128_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 1 rfl (by decide) x
  rcases List.mem_cons.mp hpc with rfl | hpc
  · exact fun x => pieceK 0 slices_S1536x256_o0_0_S64x256 (k0_pay95 x0 x1 x2 x3 x4 x5 x6 x7 x8 x9 x10 x11) (k0_pay96 x0 x1 x2 x3 x4 x5 x6 x7 x8 x9 x10 x11) (table x10) (table x11) (k0_pay98 x0 x1 x2 x3 x4 x5 x6 x7 x8 x9 x10 x11) 0 rfl (by decide) x
  · exact absurd hpc List.not_mem_nil

/-- The twelve stores of the values leave the last 64 rows of each head in the block. -/
theorem values_at (y : S1x768x256.Idx) :
    (out0_14 x0 x1 x2 x3 x4 x5 x6 x7 x8 x9 x10 x11 : Vec Ideal S1x768x256 .bf16) y = blockV (k0_pay95 (F := Ideal) x0 x1 x2 x3 x4 x5 x6 x7 x8 x9 x10 x11) y := by
  unfold out0_14
  refine View.canon_apply_of_pieces (blockV (k0_pay95 (F := Ideal) x0 x1 x2 x3 x4 x5 x6 x7 x8 x9 x10 x11)) _ ?_ y (cover0_14 _ _ _ _ _ _ _ _ _ _ _ _ y)
  intro pc hpc
  rcases List.mem_cons.mp hpc with rfl | hpc
  · exact fun x => pieceV 1472 slices_S1536x256_o1472_0_S64x256 (k0_pay95 x0 x1 x2 x3 x4 x5 x6 x7 x8 x9 x10 x11) 11 rfl 704 rfl (by decide) x
  rcases List.mem_cons.mp hpc with rfl | hpc
  · exact fun x => pieceV 1344 slices_S1536x256_o1344_0_S64x256 (k0_pay95 x0 x1 x2 x3 x4 x5 x6 x7 x8 x9 x10 x11) 10 rfl 640 rfl (by decide) x
  rcases List.mem_cons.mp hpc with rfl | hpc
  · exact fun x => pieceV 1216 slices_S1536x256_o1216_0_S64x256 (k0_pay95 x0 x1 x2 x3 x4 x5 x6 x7 x8 x9 x10 x11) 9 rfl 576 rfl (by decide) x
  rcases List.mem_cons.mp hpc with rfl | hpc
  · exact fun x => pieceV 1088 slices_S1536x256_o1088_0_S64x256 (k0_pay95 x0 x1 x2 x3 x4 x5 x6 x7 x8 x9 x10 x11) 8 rfl 512 rfl (by decide) x
  rcases List.mem_cons.mp hpc with rfl | hpc
  · exact fun x => pieceV 960 slices_S1536x256_o960_0_S64x256 (k0_pay95 x0 x1 x2 x3 x4 x5 x6 x7 x8 x9 x10 x11) 7 rfl 448 rfl (by decide) x
  rcases List.mem_cons.mp hpc with rfl | hpc
  · exact fun x => pieceV 832 slices_S1536x256_o832_0_S64x256 (k0_pay95 x0 x1 x2 x3 x4 x5 x6 x7 x8 x9 x10 x11) 6 rfl 384 rfl (by decide) x
  rcases List.mem_cons.mp hpc with rfl | hpc
  · exact fun x => pieceV 704 slices_S1536x256_o704_0_S64x256 (k0_pay95 x0 x1 x2 x3 x4 x5 x6 x7 x8 x9 x10 x11) 5 rfl 320 rfl (by decide) x
  rcases List.mem_cons.mp hpc with rfl | hpc
  · exact fun x => pieceV 576 slices_S1536x256_o576_0_S64x256 (k0_pay95 x0 x1 x2 x3 x4 x5 x6 x7 x8 x9 x10 x11) 4 rfl 256 rfl (by decide) x
  rcases List.mem_cons.mp hpc with rfl | hpc
  · exact fun x => pieceV 448 slices_S1536x256_o448_0_S64x256 (k0_pay95 x0 x1 x2 x3 x4 x5 x6 x7 x8 x9 x10 x11) 3 rfl 192 rfl (by decide) x
  rcases List.mem_cons.mp hpc with rfl | hpc
  · exact fun x => pieceV 320 slices_S1536x256_o320_0_S64x256 (k0_pay95 x0 x1 x2 x3 x4 x5 x6 x7 x8 x9 x10 x11) 2 rfl 128 rfl (by decide) x
  rcases List.mem_cons.mp hpc with rfl | hpc
  · exact fun x => pieceV 192 slices_S1536x256_o192_0_S64x256 (k0_pay95 x0 x1 x2 x3 x4 x5 x6 x7 x8 x9 x10 x11) 1 rfl 64 rfl (by decide) x
  rcases List.mem_cons.mp hpc with rfl | hpc
  · exact fun x => pieceV 64 slices_S1536x256_o64_0_S64x256 (k0_pay95 x0 x1 x2 x3 x4 x5 x6 x7 x8 x9 x10 x11) 0 rfl 0 rfl (by decide) x
  · exact absurd hpc List.not_mem_nil
end

end Cert.EvenIdeal.Value

end
-- ==== Proof.EvenArray.lean ====
module

public import proofs.«01_k».proof.Proof.EvenTile
public import Idealize.ShloMosaic.Lib.Pipeline.ValueKit

@[expose] public section

/-! What the even layers' input kernel leaves in its four result arrays, entry by entry. -/

set_option maxRecDepth 16384
noncomputable section
open Idealize.ShloMosaic Idealize.ShloMosaic.TcCoe Idealize.SL.Sem
open Idealize.ShloMosaic.Pipeline (Dat)
namespace Cert.EvenIdeal.Value
open Cert.EvenIdeal Cert.EvenIdeal.Gen
open Cert.Layer (modRow normed invRms oddRow rowNorm lanes headLanes latentAt upQueryAt upKeyAt queryHead keyColumns keyHead evenQueryLane evenKeyLane evenValueAt mixAt)
variable (m : (ℓ : Loc nD τ sig) → Buf (Elt Ideal) ℓ)

/-- Where each window's block lies at grid point `t`: batch `t / 17`, token tile `t % 17`; the last tile takes modulation row 16. -/
theorem idx : ∀ t : Fin cfg0.N, win0_0.index t = ![t.val / 17, t.val % 17, 0]
    ∧ win0_1.index t = ![if t.val % 17 < 16 then t.val / 17 else 16, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, t.val % 17]
    ∧ win0_11.index t = ![0, t.val % 17]
    ∧ win0_12.index t = ![t.val / 17, 0, t.val % 17, 0]
    ∧ win0_13.index t = ![t.val / 17, 0, 0, t.val % 17]
    ∧ win0_14.index t = ![t.val / 17, 0, t.val % 17]
    ∧ win0_15.index t = ![t.val / 17, t.val % 17, 0] :=
  (by decide +kernel : ∀ t : Fin grid0.N, _)

/-- The batch of grid point `t`. -/
def bOf (t : Fin cfg0.N) : Fin 16 := ⟨t.val / 17, by have := lt_of_lt_of_eq t.isLt Gen.N_0; omega⟩

/-- The token at row `y` of grid point `t`. -/
def iOf (t : Fin cfg0.N) (y : Fin 256) : Fin 4352 := ⟨t.val % 17 * 256 + y.val, by omega⟩

/-- The contents of the norm's gain operand: the gain as a row. -/
theorem V_v0 (c : Dev nD) (k : Fin 1) (d : Fin 1024) :
    (V m c main_v0 : FVec Ideal S1x1024 .f32) (ix2 k d) = (m ((c : Thread nD τ).loc main_arg2) : FVec Ideal S1024 .f32) (ix1 d) := by
  have : @Eq (FVec Ideal S1x1024 .f32) (V m c main_v0) (broadcastInDim S1x1024 ![1] bcast_S1024_S1x1024_1 (m ((c : Thread nD τ).loc main_arg2) : FVec Ideal S1024 .f32)) := by
    unfold V; after_results; try rfl
  rw [this]
  pointwise

/-- The contents of the input weight: transposed. -/
theorem V_v2 (c : Dev nD) (f : Fin 672) (d : Fin 1024) :
    (V m c main_v2 : FVec Ideal S672x1024 .bf16) (ix2 f d) = (m ((c : Thread nD τ).loc main_arg3) : FVec Ideal S1024x672 .f32) (ix2 d f) := by
  have : @Eq (FVec Ideal S672x1024 .bf16) (V m c main_v2) (truncf .bf16 (transpose S672x1024 [1, 0] (m ((c : Thread nD τ).loc main_arg3) : FVec Ideal S1024x672 .f32) transposes_S1024x672_S672x1024_1_0) bitsLt_bf16_f32) := by
    unfold V; after_results; try rfl
  rw [this]
  pointwise

/-- The contents of the latent queries' gain: the gain as a column. -/
theorem V_v3 (c : Dev nD) (e : Fin 256) (k : Fin 1) :
    (V m c main_v3 : FVec Ideal S256x1 .f32) (ix2 e k) = (m ((c : Thread nD τ).loc main_arg4) : FVec Ideal S256 .f32) (ix1 e) := by
  have : @Eq (FVec Ideal S256x1 .f32) (V m c main_v3) (shapeCast S256x1 (m ((c : Thread nD τ).loc main_arg4) : FVec Ideal S256 .f32) shapeCasts_S256_S256x1) := by
    unfold V; after_results; try rfl
  rw [this]
  pointwise

/-- The contents of the queries' weight: transposed. -/
theorem V_v5 (c : Dev nD) (f : Fin 1152) (d : Fin 256) :
    (V m c main_v5 : FVec Ideal S1152x256 .bf16) (ix2 f d) = (m ((c : Thread nD τ).loc main_arg5) : FVec Ideal S256x1152 .f32) (ix2 d f) := by
  have : @Eq (FVec Ideal S1152x256 .bf16) (V m c main_v5) (truncf .bf16 (transpose S1152x256 [1, 0] (m ((c : Thread nD τ).loc main_arg5) : FVec Ideal S256x1152 .f32) transposes_S256x1152_S1152x256_1_0) bitsLt_bf16_f32) := by
    unfold V; after_results; try rfl
  rw [this]
  pointwise

/-- The contents of the queries' gain: the gain as a column. -/
theorem V_v6 (c : Dev nD) (e : Fin 96) (k : Fin 1) :
    (V m c main_v6 : FVec Ideal S96x1 .f32) (ix2 e k) = (m ((c : Thread nD τ).loc main_arg6) : FVec Ideal S96 .f32) (ix1 e) := by
  have : @Eq (FVec Ideal S96x1 .f32) (V m c main_v6) (shapeCast S96x1 (m ((c : Thread nD τ).loc main_arg6) : FVec Ideal S96 .f32) shapeCasts_S96_S96x1) := by
    unfold V; after_results; try rfl
  rw [this]
  pointwise

/-- The contents of the latent keys' gain: the gain as a column. -/
theorem V_v7 (c : Dev nD) (e : Fin 128) (k : Fin 1) :
    (V m c main_v7 : FVec Ideal S128x1 .f32) (ix2 e k) = (m ((c : Thread nD τ).loc main_arg7) : FVec Ideal S128 .f32) (ix1 e) := by
  have : @Eq (FVec Ideal S128x1 .f32) (V m c main_v7) (shapeCast S128x1 (m ((c : Thread nD τ).loc main_arg7) : FVec Ideal S128 .f32) shapeCasts_S128_S128x1) := by
    unfold V; after_results; try rfl
  rw [this]
  pointwise

/-- The contents of the keys' and values' weight: transposed. -/
theorem V_v9 (c : Dev nD) (f : Fin 1536) (d : Fin 128) :
    (V m c main_v9 : FVec Ideal S1536x128 .bf16) (ix2 f d) = (m ((c : Thread nD τ).loc main_arg8) : FVec Ideal S128x1536 .f32) (ix2 d f) := by
  have : @Eq (FVec Ideal S1536x128 .bf16) (V m c main_v9) (truncf .bf16 (transpose S1536x128 [1, 0] (m ((c : Thread nD τ).loc main_arg8) : FVec Ideal S128x1536 .f32) transposes_S128x1536_S1536x128_1_0) bitsLt_bf16_f32) := by
    unfold V; after_results; try rfl
  rw [this]
  pointwise

/-- The contents of the keys' gain: the gain as a column. -/
theorem V_v10 (c : Dev nD) (e : Fin 96) (k : Fin 1) :
    (V m c main_v10 : FVec Ideal S96x1 .f32) (ix2 e k) = (m ((c : Thread nD τ).loc main_arg9) : FVec Ideal S96 .f32) (ix1 e) := by
  have : @Eq (FVec Ideal S96x1 .f32) (V m c main_v10) (shapeCast S96x1 (m ((c : Thread nD τ).loc main_arg9) : FVec Ideal S96 .f32) shapeCasts_S96_S96x1) := by
    unfold V; after_results; try rfl
  rw [this]
  pointwise

section
variable (c : Dev nD) (t : Fin cfg0.N)

theorem emb12 (y0 : Fin 1) (y1 : Fin 12) (y2 : Fin 256) (y3 : Fin 128) :
    (win0_12.blk t).view.emb (ix4 y0 y1 y2 y3) = (ix4 (bOf t) y1 (iOf t y2) y3 : S16x12x4352x128.Idx) := by
  blk_ext [idx t, bOf, iOf]

theorem emb13 (y0 : Fin 1) (y1 : Fin 12) (y2 : Fin 128) (y3 : Fin 256) :
    (win0_13.blk t).view.emb (ix4 y0 y1 y2 y3) = (ix4 (bOf t) y1 y2 (iOf t y3) : S16x12x128x4352.Idx) := by
  blk_ext [idx t, bOf, iOf]

theorem emb14 (y0 : Fin 1) (y1 : Fin 768) (y2 : Fin 256) :
    (win0_14.blk t).view.emb (ix3 y0 y1 y2) = (ix3 (bOf t) y1 (iOf t y2) : S16x768x4352.Idx) := by
  blk_ext [idx t, bOf, iOf]

theorem emb15 (y0 : Fin 1) (y1 : Fin 256) (y2 : Fin 256) :
    (win0_15.blk t).view.emb (ix3 y0 y1 y2) = (ix3 (bOf t) (iOf t y1) y2 : S16x4352x256.Idx) := by
  blk_ext [idx t, bOf, iOf]

theorem read0 (y : Fin 256) (d : Fin 1024) :
    (iblk m c 0 t : FVec Ideal S1x256x1024 .f32) (ix3 0 y d) = (m ((c : Thread nD τ).loc main_arg0) : FVec Ideal S16x4352x1024 .f32) (ix3 (bOf t) (iOf t y) d) := by
  blk_ext [iblk, V, idx t, bOf, iOf]

theorem read1 (y : Fin 256) (k : Fin 6) (d : Fin 1024) :
    (iblk m c 1 t : FVec Ideal S1x6x1024 .f32) (ix3 0 k d) = (m ((c : Thread nD τ).loc main_arg1) : FVec Ideal S24x6x1024 .f32) (ix3 (modRow (bOf t) (iOf t y)) k d) := by
  have hr : modRow (bOf t) (iOf t y) = ⟨if t.val % 17 < 16 then t.val / 17 else 16, by have := lt_of_lt_of_eq t.isLt Gen.N_0; split <;> omega⟩ := by
    apply Fin.ext
    unfold modRow iOf bOf
    by_cases h : t.val % 17 < 16
    · rw [if_pos (by show t.val % 17 * 256 + y.val < 4096; omega)]; simp [h]
    · rw [if_neg (by show ¬ t.val % 17 * 256 + y.val < 4096; omega)]; simp [h]
  rw [hr]
  blk_ext [iblk, V, idx t]

theorem read2 (d : Fin 1024) :
    (iblk m c 2 t : FVec Ideal S1x1024 .f32) (ix2 0 d) = (m ((c : Thread nD τ).loc main_arg2) : FVec Ideal S1024 .f32) (ix1 d) := by
  refine Eq.trans ?_ (V_v0 m c 0 d)
  blk_ext [iblk, idx t]

theorem read3 (f : Fin 672) (d : Fin 1024) :
    (iblk m c 3 t : FVec Ideal S672x1024 .bf16) (ix2 f d) = (m ((c : Thread nD τ).loc main_arg3) : FVec Ideal S1024x672 .f32) (ix2 d f) := by
  refine Eq.trans ?_ (V_v2 m c f d)
  blk_ext [iblk, idx t]

theorem read4 (e : Fin 256) :
    (iblk m c 4 t : FVec Ideal S256x1 .f32) (ix2 e 0) = (m ((c : Thread nD τ).loc main_arg4) : FVec Ideal S256 .f32) (ix1 e) := by
  refine Eq.trans ?_ (V_v3 m c e 0)
  blk_ext [iblk, idx t]

theorem read5 (f : Fin 1152) (d : Fin 256) :
    (iblk m c 5 t : FVec Ideal S1152x256 .bf16) (ix2 f d) = (m ((c : Thread nD τ).loc main_arg5) : FVec Ideal S256x1152 .f32) (ix2 d f) := by
  refine Eq.trans ?_ (V_v5 m c f d)
  blk_ext [iblk, idx t]

theorem read6 (e : Fin 96) :
    (iblk m c 6 t : FVec Ideal S96x1 .f32) (ix2 e 0) = (m ((c : Thread nD τ).loc main_arg6) : FVec Ideal S96 .f32) (ix1 e) := by
  refine Eq.trans ?_ (V_v6 m c e 0)
  blk_ext [iblk, idx t]

theorem read7 (e : Fin 128) :
    (iblk m c 7 t : FVec Ideal S128x1 .f32) (ix2 e 0) = (m ((c : Thread nD τ).loc main_arg7) : FVec Ideal S128 .f32) (ix1 e) := by
  refine Eq.trans ?_ (V_v7 m c e 0)
  blk_ext [iblk, idx t]

theorem read8 (f : Fin 1536) (d : Fin 128) :
    (iblk m c 8 t : FVec Ideal S1536x128 .bf16) (ix2 f d) = (m ((c : Thread nD τ).loc main_arg8) : FVec Ideal S128x1536 .f32) (ix2 d f) := by
  refine Eq.trans ?_ (V_v9 m c f d)
  blk_ext [iblk, idx t]

theorem read9 (e : Fin 96) :
    (iblk m c 9 t : FVec Ideal S96x1 .f32) (ix2 e 0) = (m ((c : Thread nD τ).loc main_arg9) : FVec Ideal S96 .f32) (ix1 e) := by
  refine Eq.trans ?_ (V_v10 m c e 0)
  blk_ext [iblk, idx t]

theorem read10 (e : Fin 16) (y : Fin 256) :
    (iblk m c 10 t : FVec Ideal S16x256 .f32) (ix2 e y) = (m ((c : Thread nD τ).loc main_arg10) : FVec Ideal S16x4352 .f32) (ix2 e (iOf t y)) := by
  blk_ext [iblk, V, idx t, iOf]

theorem read11 (e : Fin 16) (y : Fin 256) :
    (iblk m c 11 t : FVec Ideal S16x256 .f32) (ix2 e y) = (m ((c : Thread nD τ).loc main_arg11) : FVec Ideal S16x4352 .f32) (ix2 e (iOf t y)) := by
  blk_ext [iblk, V, idx t, iOf]

theorem ld0 : (View.ld (iblk m c 0 t) r0_1 : FVec Ideal S1x256x1024 .f32) = iblk m c 0 t :=
  View.ld_unit_lit (S := S1x256x1024) _ _ (by decide)

theorem ld1 : (View.ld (iblk m c 1 t) r0_0 : FVec Ideal S1x6x1024 .f32) = iblk m c 1 t :=
  View.ld_unit_lit (S := S1x6x1024) _ _ (by decide)

theorem ld2 : (View.ld (iblk m c 2 t) r0_2 : FVec Ideal S1x1024 .f32) = iblk m c 2 t :=
  View.ld_unit_lit (S := S1x1024) _ _ (by decide)

theorem ld3 : (View.ld (iblk m c 3 t) r0_3 : FVec Ideal S672x1024 .bf16) = iblk m c 3 t :=
  View.ld_unit_lit (S := S672x1024) _ _ (by decide)

theorem ld4 : (View.ld (iblk m c 4 t) r0_6 : FVec Ideal S256x1 .f32) = iblk m c 4 t :=
  View.ld_unit_lit (S := S256x1) _ _ (by decide)

theorem ld5 : (View.ld (iblk m c 5 t) r0_7 : FVec Ideal S1152x256 .bf16) = iblk m c 5 t :=
  View.ld_unit_lit (S := S1152x256) _ _ (by decide)

theorem ld6 : (View.ld (iblk m c 6 t) r0_8 : FVec Ideal S96x1 .f32) = iblk m c 6 t :=
  View.ld_unit_lit (S := S96x1) _ _ (by decide)

theorem ld7 : (View.ld (iblk m c 7 t) r0_21 : FVec Ideal S128x1 .f32) = iblk m c 7 t :=
  View.ld_unit_lit (S := S128x1) _ _ (by decide)

theorem ld8 : (View.ld (iblk m c 8 t) r0_22 : FVec Ideal S1536x128 .bf16) = iblk m c 8 t :=
  View.ld_unit_lit (S := S1536x128) _ _ (by decide)

theorem ld9 : (View.ld (iblk m c 9 t) r0_8 : FVec Ideal S96x1 .f32) = iblk m c 9 t :=
  View.ld_unit_lit (S := S96x1) _ _ (by decide)

theorem ld10 : (View.ld (iblk m c 10 t) r0_4 : FVec Ideal S16x256 .f32) = iblk m c 10 t :=
  View.ld_unit_lit (S := S16x256) _ _ (by decide)

theorem ld11 : (View.ld (iblk m c 11 t) r0_4 : FVec Ideal S16x256 .f32) = iblk m c 11 t :=
  View.ld_unit_lit (S := S16x256) _ _ (by decide)

/-- The block of the projection at grid point `t`. -/
def projTile : FVec Ideal S672x256 .f32 :=
  k0_pay3 (F := Ideal) (View.ld (iblk m c 1 t) r0_0) (View.ld (iblk m c 0 t) r0_1) (View.ld (iblk m c 2 t) r0_2) (View.ld (iblk m c 3 t) r0_3)

/-- The block of the queries before their norm. -/
def upQTile : FVec Ideal S1152x256 .f32 := k0_pay7 (F := Ideal) (projTile m c t) (View.ld (iblk m c 4 t) r0_6) (View.ld (iblk m c 5 t) r0_7)

/-- The block of the keys and values before the keys' norm. -/
def upKTile : FVec Ideal S1536x256 .f32 :=
  k0_pay42 (F := Ideal) (k0_pay39 (projTile m c t)) (k0_pay40 (View.ld (iblk m c 7 t) r0_21)) (k0_pay41 (projTile m c t)) (View.ld (iblk m c 8 t) r0_22)

/-- The rows that all heads share. -/
def sharedTile : FVec Ideal S32x256 .f32 := k0_pay43 (F := Ideal) (projTile m c t)

/-- The block of the queries' gain with the scale in it. -/
def qGain : FVec Ideal S96x1 .f32 := k0_pay8 (F := Ideal) (View.ld (iblk m c 6 t) r0_8)

/-- The block of the keys' gain. -/
def kGain : FVec Ideal S96x1 .f32 := k0_pay45 (F := Ideal) (View.ld (iblk m c 9 t) r0_8)

/-- The block of cosines. -/
def cosTile : FVec Ideal S16x256 .f32 := View.ld (iblk m c 10 t) r0_4

/-- The block of sines. -/
def sinTile : FVec Ideal S16x256 .f32 := View.ld (iblk m c 11 t) r0_4

theorem projTile_at (f : Fin 672) (y : Fin 256) :
    projTile m c t (ix2 f y) = latentAt (m ((c : Thread nD τ).loc main_arg0)) (m ((c : Thread nD τ).loc main_arg1)) (m ((c : Thread nD τ).loc main_arg2)) (m ((c : Thread nD τ).loc main_arg3)) (bOf t) (iOf t y) f := by
  unfold projTile
  rw [ld1 m c t, ld0 m c t, ld2 m c t, ld3 m c t]
  refine (proj_at _ _ _ _ f y).trans ?_
  unfold latentAt oddRow
  refine Finset.sum_congr rfl fun d _ => Ideal.mul_congr ?_ (read3 m c t f d)
  rw [read2, read1 m c t y, read1 m c t y]
  exact congrArg (fun r => normed r _ _ _ d) (funext fun k => read0 m c t y k)

theorem upQTile_at (f : Fin 1152) (y : Fin 256) :
    upQTile m c t (ix2 f y) = upQueryAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bOf t) (iOf t y) f := by
  unfold upQTile
  rw [ld4 m c t, ld5 m c t]
  refine (upQuery_at _ _ _ f y).trans ?_
  unfold upQueryAt
  refine Finset.sum_congr rfl fun d _ => Ideal.mul_congr ?_ (read5 m c t f d)
  exact congrArg₂ (fun p γ => rowNorm _ p γ d) (funext fun k => projTile_at m c t _ y) (funext fun k => read4 m c t k)

theorem upKTile_at (f : Fin 1536) (y : Fin 256) :
    upKTile m c t (ix2 f y) = upKeyAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (bOf t) (iOf t y) f := by
  unfold upKTile
  rw [ld7 m c t, ld8 m c t]
  refine (upKey_at _ _ _ f y).trans ?_
  unfold upKeyAt
  refine Finset.sum_congr rfl fun d _ => Ideal.mul_congr ?_ (read8 m c t f d)
  exact congrArg₂ (fun p γ => rowNorm _ p γ d) (funext fun k => projTile_at m c t _ y) (funext fun k => read7 m c t k)

theorem sharedTile_at (e : Fin 32) (y : Fin 256) :
    sharedTile m c t (ix2 e y) = latentAt (m ((c : Thread nD τ).loc main_arg0)) (m ((c : Thread nD τ).loc main_arg1)) (m ((c : Thread nD τ).loc main_arg2)) (m ((c : Thread nD τ).loc main_arg3)) (bOf t) (iOf t y) ⟨384 + e.val, by omega⟩ := by
  rw [← projTile_at]
  unfold sharedTile
  pointwise [k0_pay43]

theorem qGain_at (e : Fin 96) : qGain m c t (ix2 e 0) = (fun v : FVec Ideal S96 .f32 => v (ix1 e) * Ideal.ofBits .f32 0x3DD105EC#32) (m ((c : Thread nD τ).loc main_arg6)) := by
  unfold qGain
  rw [ld6 m c t]
  pointwise [k0_pay8]
  exact Ideal.mul_congr (read6 m c t e) rfl

theorem kGain_at (e : Fin 96) : kGain m c t (ix2 e 0) = (m ((c : Thread nD τ).loc main_arg9) : FVec Ideal S96 .f32) (ix1 e) := by
  unfold kGain
  rw [ld9 m c t]
  pointwise [k0_pay45]
  exact read9 m c t e

theorem cosTile_at (e : Fin 16) (y : Fin 256) : cosTile m c t (ix2 e y) = (m ((c : Thread nD τ).loc main_arg10) : FVec Ideal S16x4352 .f32) (ix2 e (iOf t y)) := by
  unfold cosTile
  rw [ld10 m c t]
  exact read10 m c t e y

theorem sinTile_at (e : Fin 16) (y : Fin 256) : sinTile m c t (ix2 e y) = (m ((c : Thread nD τ).loc main_arg11) : FVec Ideal S16x4352 .f32) (ix2 e (iOf t y)) := by
  unfold sinTile
  rw [ld11 m c t]
  exact read11 m c t e y

/-- A head of queries, normed with the scaled gain and turned, is the head normed, turned and then scaled. -/
theorem query_lane (h : Fin 12) (y : Fin 256) (l : Fin 128) :
    tileQ (upQTile m c t) (cosTile m c t) (sinTile m c t) (qGain m c t) h y l = evenQueryLane (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (bOf t) (iOf t y) h l := by
  unfold tileQ evenQueryLane queryHead
  simp only [upQTile_at, qGain_at, cosTile_at, sinTile_at]
  exact Cert.Layer.headLanes_scaled _ _ _ _ _ l

/-- A head of keys, normed and turned. -/
theorem key_lane (h : Fin 12) (y : Fin 256) (l : Fin 128) :
    tileK (upKTile m c t) (sharedTile m c t) (cosTile m c t) (sinTile m c t) (kGain m c t) h l y = evenKeyLane (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (bOf t) (iOf t y) h l := by
  have hk : column (upKTile m c t) (sharedTile m c t) h y = keyColumns (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (bOf t) (iOf t y) h := by
    funext k
    unfold column keyColumns
    simp only [upKTile_at, sharedTile_at]
    rfl
  unfold tileK evenKeyLane keyHead
  rw [hk]
  simp only [kGain_at, cosTile_at, sinTile_at]
end

section
variable (x : FVec Ideal S16x4352x1024 .f32) (mo : FVec Ideal S24x6x1024 .f32) (g : FVec Ideal S1024 .f32) (w : FVec Ideal S1024x672 .f32)
  (cqg : FVec Ideal S256 .f32) (wuq : FVec Ideal S256x1152 .f32) (qg : FVec Ideal S96 .f32) (ckvg : FVec Ideal S128 .f32)
  (wukv : FVec Ideal S128x1536 .f32) (kg : FVec Ideal S96 .f32) (cs sn : FVec Ideal S16x4352 .f32)

/-- The whole array of queries. -/
def OUTQ : FVec Ideal S16x12x4352x128 .bf16 := fun j => evenQueryLane x mo g w cqg wuq qg cs sn (j 0) (j 2) (j 1) (j 3)

/-- The whole array of keys. -/
def OUTK : FVec Ideal S16x12x128x4352 .bf16 := fun j => evenKeyLane x mo g w ckvg wukv kg cs sn (j 0) (j 3) (j 1) (j 2)

/-- The whole array of values. -/
def OUTV : FVec Ideal S16x768x4352 .bf16 := fun j => evenValueAt x mo g w ckvg wukv (j 0) (j 2) (j 1)

/-- The whole array of columns for the Fourier mixing. -/
def OUTZ : FVec Ideal S16x4352x256 .bf16 := fun j => mixAt x mo g w (j 0) (j 1) (j 2)
end

section
variable (c : Dev nD) (t : Fin cfg0.N)

/-- What the body stores of the queries at `y` is the array's value where `y` lies. -/
theorem point12 (y : S1x12x256x128.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = OUTQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) ((win0_12.blk t).view.emb y) := by
  refine (queries_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y).trans ?_
  idx_vars y
  rw [emb12]
  show _ = evenQueryLane _ _ _ _ _ _ _ _ _ (bOf t) (iOf t y2) y1 y3
  exact query_lane m c t y1 y2 y3

/-- What the body stores of the keys. -/
theorem point13 (y : S1x12x128x256.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = OUTK (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) ((win0_13.blk t).view.emb y) := by
  refine (keys_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y).trans ?_
  idx_vars y
  rw [emb13]
  show _ = evenKeyLane _ _ _ _ _ _ _ _ _ (bOf t) (iOf t y3) y1 y2
  exact key_lane m c t y1 y3 y2

/-- What the body stores of the values. -/
theorem point14 (y : S1x768x256.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = OUTV (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) ((win0_14.blk t).view.emb y) := by
  refine (values_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y).trans ?_
  idx_vars y
  rw [emb14]
  show _ = evenValueAt _ _ _ _ _ _ (bOf t) (iOf t y2) y1
  exact upKTile_at m c t (⟨128 * (y1.val / 64) + (64 + y1.val % 64), by omega⟩ : Fin 1536) y2

/-- What the body stores of the columns for the Fourier mixing. -/
theorem point15 (y : S1x256x256.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = OUTZ (m ((c : Thread nD τ).loc main_arg0)) (m ((c : Thread nD τ).loc main_arg1)) (m ((c : Thread nD τ).loc main_arg2)) (m ((c : Thread nD τ).loc main_arg3)) ((win0_15.blk t).view.emb y) := by
  refine (canon15_eq (View.ld (iblk m c 1 t) r0_0) (View.ld (iblk m c 0 t) r0_1) (View.ld (iblk m c 2 t) r0_2) (View.ld (iblk m c 3 t) r0_3) y).trans ?_
  idx_vars y
  rw [emb15]
  show _ = mixAt _ _ _ _ (bOf t) (iOf t y1) y2
  have e : ix15_0 (ix3 y0 y1 y2) = ix2 (⟨416 + y2.val, by omega⟩ : Fin 672) y1 := by
    funext a
    refine Fin.ext ?_
    match a with
    | ⟨0, _⟩ => show y2.val + 416 = 416 + y2.val; omega
    | ⟨1, _⟩ => rfl
  show projTile m c t (ix15_0 (ix3 y0 y1 y2)) = _
  rw [e, projTile_at]
  rfl
end

section
variable (c : Dev nD)

/-- The array of queries after the run. -/
theorem final12 : (dats m 0 c).arrAt 12 cfg0.N = OUTQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) := by
  refine (dats m 0 c).arrAt_eq_of_covers 12 _ (by decide +kernel) fun t _ y => ?_
  blk_simp
  rw [after0_12]
  exact point12 m c t y

/-- The array of keys after the run. -/
theorem final13 : (dats m 0 c).arrAt 13 cfg0.N = OUTK (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 13 _ (by decide +kernel) fun t _ y => ?_
  blk_simp
  rw [after0_13]
  exact point13 m c t y

/-- The array of values after the run. -/
theorem final14 : (dats m 0 c).arrAt 14 cfg0.N = OUTV (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  refine (dats m 0 c).arrAt_eq_of_covers 14 _ (by decide +kernel) fun t _ y => ?_
  blk_simp
  rw [after0_14]
  exact point14 m c t y

/-- The array of columns for the Fourier mixing after the run. -/
theorem final15 : (dats m 0 c).arrAt 15 cfg0.N = OUTZ (m ((c : Thread nD τ).loc main_arg0)) (m ((c : Thread nD τ).loc main_arg1)) (m ((c : Thread nD τ).loc main_arg2)) (m ((c : Thread nD τ).loc main_arg3)) := by
  refine (dats m 0 c).arrAt_eq_of_covers 15 _ (by decide +kernel) fun t _ y => ?_
  blk_simp
  rw [after0_15]
  exact point15 m c t y

end

end Cert.EvenIdeal.Value

end
-- ==== Proof.EvenRefRead.lean ====
module

public import proofs.«01_k».proof.Proof.Gen.EvenRefIdeal.Run
public import proofs.«01_k».proof.Proof.EvenSpec
public import Idealize.ShloMosaic.Lib.Pointwise

@[expose] public section

/-! What the reference of the even layers' input computes: the formulas of `EvenSpec` at every index of its four results. -/

set_option maxRecDepth 16384
noncomputable section
open Idealize.ShloMosaic Idealize.ShloMosaic.TcCoe Idealize.SL.Sem
open Idealize.ShloMosaic.StableHlo (launchContents)
namespace Cert.EvenRefIdeal.Value
open Cert.EvenRefIdeal Cert.EvenRefIdeal.Gen

/-- The shift of every token: its batch entry's for a latent token, the context's for a context token. -/
def mod0 (m : FVec Ideal S24x6x1024 .f32) : FVec Ideal S16x4352x1024 .f32 :=
  concatenate S16x4352x1024 1 [⟨S16x4096x1024, (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 0, 0] m slices_S24x6x1024_S16x1x1024_0_0_0) shapeCasts_S16x1x1024_S16x1024)))⟩, ⟨S16x256x1024, (broadcastInDim S16x256x1024 ![2] bcast_S1024_S16x256x1024_2 (shapeCast _ (extractStridedSlice S1x1x1024 ![16, 0, 0] m slices_S24x6x1024_S1x1x1024_16_0_0) shapeCasts_S1x1x1024_S1024))⟩] concatenates_S16x4096x1024_S16x256x1024_S16x4352x1024_d1

/-- The scale of every token. -/
def mod1 (m : FVec Ideal S24x6x1024 .f32) : FVec Ideal S16x4352x1024 .f32 :=
  concatenate S16x4352x1024 1 [⟨S16x4096x1024, (broadcastInDim S16x4096x1024 ![0, 1, 2] bcast_S16x1x1024_S16x4096x1024_0_1_2 (broadcastInDim S16x1x1024 ![0, 2] bcast_S16x1024_S16x1x1024_0_2 (shapeCast _ (extractStridedSlice S16x1x1024 ![0, 1, 0] m slices_S24x6x1024_S16x1x1024_0_1_0) shapeCasts_S16x1x1024_S16x1024)))⟩, ⟨S16x256x1024, (broadcastInDim S16x256x1024 ![2] bcast_S1024_S16x256x1024_2 (shapeCast _ (extractStridedSlice S1x1x1024 ![16, 1, 0] m slices_S24x6x1024_S1x1x1024_16_1_0) shapeCasts_S1x1x1024_S1024))⟩] concatenates_S16x4096x1024_S16x256x1024_S16x4352x1024_d1

/-- The modulated rows. -/
def rows (x : FVec Ideal S16x4352x1024 .f32) (m : FVec Ideal S24x6x1024 .f32) (g : FVec Ideal S1024 .f32) : FVec Ideal S16x4352x1024 .f32 :=
  addf (mulf (mulf (mulf x (broadcastInDim S16x4352x1024 ![0, 1, 2] bcast_S16x4352x1_S16x4352x1024_0_1_2 (Host.rsqrt (addf (Host.divf (broadcastInDim S16x4352x1 ![0, 1] bcast_S16x4352_S16x4352x1_0_1 (Host.reduceAdd (mulf x x) (constant S_ .f32 0x00000000#32) reducesTo_S16x4352x1024_S16x4352_d2 h_S_)) (broadcastInDim S16x4352x1 ![] bcast_S_S16x4352x1 (constant S_ .f32 0x44800000#32))) (broadcastInDim S16x4352x1 ![] bcast_S_S16x4352x1 (constant S_ .f32 0x358637BD#32)))))) (broadcastInDim S16x4352x1024 ![0, 1, 2] bcast_S1x1x1024_S16x4352x1024_0_1_2 (broadcastInDim S1x1x1024 ![2] bcast_S1024_S1x1x1024_2 g))) (addf (broadcastInDim S16x4352x1024 ![] bcast_S_S16x4352x1024 (constant S_ .f32 0x3F800000#32)) (mod1 m))) (mod0 m)

/-- The projection of the rows. -/
def proj (U : FVec Ideal S16x4352x1024 .f32) (w : FVec Ideal S1024x672 .f32) : FVec Ideal S16x4352x672 .f32 :=
  Host.dotGeneral dot_S16x4352x1024_S1024x672_S16x4352x672_2_0_01_1_n_n none U w

/-- The 256 columns normed. -/
def norm256 (P : FVec Ideal S16x4352x256 .f32) (γ : FVec Ideal S256 .f32) : FVec Ideal S16x4352x256 .f32 :=
  mulf (mulf P (broadcastInDim S16x4352x256 ![0, 1, 2] bcast_S16x4352x1_S16x4352x256_0_1_2 (Host.rsqrt (addf (Host.divf (broadcastInDim S16x4352x1 ![0, 1] bcast_S16x4352_S16x4352x1_0_1 (Host.reduceAdd (mulf P P) (constant S_ .f32 0x00000000#32) reducesTo_S16x4352x256_S16x4352_d2 h_S_)) (broadcastInDim S16x4352x1 ![] bcast_S_S16x4352x1 (constant S_ .f32 0x43800000#32))) (broadcastInDim S16x4352x1 ![] bcast_S_S16x4352x1 (constant S_ .f32 0x358637BD#32)))))) (broadcastInDim S16x4352x256 ![0, 1, 2] bcast_S1x1x256_S16x4352x256_0_1_2 (broadcastInDim S1x1x256 ![2] bcast_S256_S1x1x256_2 γ))

/-- The 128 columns normed. -/
def norm128 (P : FVec Ideal S16x4352x128 .f32) (γ : FVec Ideal S128 .f32) : FVec Ideal S16x4352x128 .f32 :=
  mulf (mulf P (broadcastInDim S16x4352x128 ![0, 1, 2] bcast_S16x4352x1_S16x4352x128_0_1_2 (Host.rsqrt (addf (Host.divf (broadcastInDim S16x4352x1 ![0, 1] bcast_S16x4352_S16x4352x1_0_1 (Host.reduceAdd (mulf P P) (constant S_ .f32 0x00000000#32) reducesTo_S16x4352x128_S16x4352_d2 h_S_)) (broadcastInDim S16x4352x1 ![] bcast_S_S16x4352x1 (constant S_ .f32 0x43000000#32))) (broadcastInDim S16x4352x1 ![] bcast_S_S16x4352x1 (constant S_ .f32 0x358637BD#32)))))) (broadcastInDim S16x4352x128 ![0, 1, 2] bcast_S1x1x128_S16x4352x128_0_1_2 (broadcastInDim S1x1x128 ![2] bcast_S128_S1x1x128_2 γ))

/-- The queries before their norm, head by head. -/
def upQ (Y : FVec Ideal S16x4352x672 .f32) (γ : FVec Ideal S256 .f32) (w : FVec Ideal S256x1152 .f32) : FVec Ideal S16x4352x12x96 .f32 :=
  shapeCast _ (Host.dotGeneral dot_S16x4352x256_S256x1152_S16x4352x1152_2_0_01_1_n_n none (norm256 (extractStridedSlice S16x4352x256 ![0, 0, 0] Y slices_S16x4352x672_S16x4352x256_0_0_0) γ) w) shapeCasts_S16x4352x1152_S16x4352x12x96

/-- The keys and values before the keys' norm, head by head. -/
def upK (Y : FVec Ideal S16x4352x672 .f32) (γ : FVec Ideal S128 .f32) (w : FVec Ideal S128x1536 .f32) : FVec Ideal S16x4352x12x128 .f32 :=
  shapeCast _ (Host.dotGeneral dot_S16x4352x128_S128x1536_S16x4352x1536_2_0_01_1_n_n none (norm128 (extractStridedSlice S16x4352x128 ![0, 0, 256] Y slices_S16x4352x672_S16x4352x128_0_0_256) γ) w) shapeCasts_S16x4352x1536_S16x4352x12x128

/-- The keys before their norm: a head's own 64 columns and the 32 that all heads share. -/
def joined (Y : FVec Ideal S16x4352x672 .f32) (K : FVec Ideal S16x4352x12x128 .f32) : FVec Ideal S16x4352x12x96 .f32 :=
  concatenate S16x4352x12x96 3 [⟨S16x4352x12x64, (extractStridedSlice S16x4352x12x64 ![0, 0, 0, 0] K slices_S16x4352x12x128_S16x4352x12x64_0_0_0_0)⟩, ⟨S16x4352x12x32, (broadcastInDim S16x4352x12x32 ![0, 1, 2, 3] bcast_S16x4352x1x32_S16x4352x12x32_0_1_2_3 (broadcastInDim S16x4352x1x32 ![0, 1, 3] bcast_S16x4352x32_S16x4352x1x32_0_1_3 (extractStridedSlice S16x4352x32 ![0, 0, 384] Y slices_S16x4352x672_S16x4352x32_0_0_384)))⟩] concatenates_S16x4352x12x64_S16x4352x12x32_S16x4352x12x96_d3

/-- Heads normed. -/
def normHeads (P : FVec Ideal S16x4352x12x96 .f32) (γ : FVec Ideal S96 .f32) : FVec Ideal S16x4352x12x96 .f32 :=
  mulf (mulf P (broadcastInDim S16x4352x12x96 ![0, 1, 2, 3] bcast_S16x4352x12x1_S16x4352x12x96_0_1_2_3 (Host.rsqrt (addf (Host.divf (broadcastInDim S16x4352x12x1 ![0, 1, 2] bcast_S16x4352x12_S16x4352x12x1_0_1_2 (Host.reduceAdd (mulf P P) (constant S_ .f32 0x00000000#32) reducesTo_S16x4352x12x96_S16x4352x12_d3 h_S_)) (broadcastInDim S16x4352x12x1 ![] bcast_S_S16x4352x12x1 (constant S_ .f32 0x42C00000#32))) (broadcastInDim S16x4352x12x1 ![] bcast_S_S16x4352x12x1 (constant S_ .f32 0x358637BD#32)))))) (broadcastInDim S16x4352x12x96 ![0, 1, 2, 3] bcast_S1x1x1x96_S16x4352x12x96_0_1_2_3 (broadcastInDim S1x1x1x96 ![3] bcast_S96_S1x1x1x96_3 γ))

/-- A rotation table laid over batches and heads. -/
def tab (cs : FVec Ideal S16x4352 .f32) : FVec Ideal S1x4352x1x16 .f32 :=
  broadcastInDim S1x4352x1x16 ![1, 3] bcast_S4352x16_S1x4352x1x16_1_3 (transpose S4352x16 [1, 0] cs transposes_S16x4352_S4352x16_1_0)

/-- The first coordinates of the turned planes. -/
def lo (N : FVec Ideal S16x4352x12x96 .f32) : FVec Ideal S16x4352x12x16 .f32 :=
  extractStridedSlice S16x4352x12x16 ![0, 0, 0, 64] N slices_S16x4352x12x96_S16x4352x12x16_0_0_0_64

/-- The second coordinates of the turned planes. -/
def hi (N : FVec Ideal S16x4352x12x96 .f32) : FVec Ideal S16x4352x12x16 .f32 :=
  extractStridedSlice S16x4352x12x16 ![0, 0, 0, 80] N slices_S16x4352x12x96_S16x4352x12x16_0_0_0_80

/-- Heads rotated. -/
def rot (N : FVec Ideal S16x4352x12x96 .f32) (cs sn : FVec Ideal S16x4352 .f32) : FVec Ideal S16x4352x12x96 .f32 :=
  concatenate S16x4352x12x96 3 [⟨S16x4352x12x64, (extractStridedSlice S16x4352x12x64 ![0, 0, 0, 0] N slices_S16x4352x12x96_S16x4352x12x64_0_0_0_0)⟩, ⟨S16x4352x12x16, (subf (mulf (lo N) (broadcastInDim S16x4352x12x16 ![0, 1, 2, 3] bcast_S1x4352x1x16_S16x4352x12x16_0_1_2_3 (tab cs))) (mulf (hi N) (broadcastInDim S16x4352x12x16 ![0, 1, 2, 3] bcast_S1x4352x1x16_S16x4352x12x16_0_1_2_3 (tab sn))))⟩, ⟨S16x4352x12x16, (addf (mulf (lo N) (broadcastInDim S16x4352x12x16 ![0, 1, 2, 3] bcast_S1x4352x1x16_S16x4352x12x16_0_1_2_3 (tab sn))) (mulf (hi N) (broadcastInDim S16x4352x12x16 ![0, 1, 2, 3] bcast_S1x4352x1x16_S16x4352x12x16_0_1_2_3 (tab cs))))⟩] concatenates_S16x4352x12x64_S16x4352x12x16_S16x4352x12x16_S16x4352x12x96_d3

/-- Heads scaled. -/
def scaled (N : FVec Ideal S16x4352x12x96 .f32) : FVec Ideal S16x4352x12x96 .f32 :=
  mulf N (broadcastInDim S16x4352x12x96 ![] bcast_S_S16x4352x12x96 (constant S_ .f32 0x3DD105EC#32))

/-- Heads in 128 lanes. -/
def padded (N : FVec Ideal S16x4352x12x96 .f32) : FVec Ideal S16x4352x12x128 .f32 :=
  pad S16x4352x12x128 ![0, 0, 0, 0] ![0, 0, 0, 32] ![0, 0, 0, 0] N (sitofp .f32 (constantI S_ 32 0#32)) pads_S16x4352x12x96_S16x4352x12x128_000_000_000_0320 h_S_

/-- The queries as they lie. -/
def layQ (N : FVec Ideal S16x4352x12x96 .f32) : FVec Ideal S16x12x4352x128 .bf16 :=
  transpose S16x12x4352x128 [0, 2, 1, 3] (truncf .bf16 (padded N) bitsLt_bf16_f32) transposes_S16x4352x12x128_S16x12x4352x128_0_2_1_3

/-- The keys as they lie. -/
def layK (N : FVec Ideal S16x4352x12x96 .f32) : FVec Ideal S16x12x128x4352 .bf16 :=
  transpose S16x12x128x4352 [0, 2, 3, 1] (truncf .bf16 (padded N) bitsLt_bf16_f32) transposes_S16x4352x12x128_S16x12x128x4352_0_2_3_1

/-- The values as they lie. -/
def layV (K : FVec Ideal S16x4352x12x128 .f32) : FVec Ideal S16x768x4352 .bf16 :=
  truncf .bf16 (transpose S16x768x4352 [0, 2, 1] (shapeCast _ (extractStridedSlice S16x4352x12x64 ![0, 0, 0, 64] K slices_S16x4352x12x128_S16x4352x12x64_0_0_0_64) shapeCasts_S16x4352x12x64_S16x4352x768) transposes_S16x4352x768_S16x768x4352_0_2_1) bitsLt_bf16_f32

/-- The columns for the Fourier mixing. -/
def layZ (Y : FVec Ideal S16x4352x672 .f32) : FVec Ideal S16x4352x256 .bf16 :=
  truncf .bf16 (extractStridedSlice S16x4352x256 ![0, 0, 416] Y slices_S16x4352x672_S16x4352x256_0_0_416) bitsLt_bf16_f32

section
variable (x : FVec Ideal S16x4352x1024 .f32) (m : FVec Ideal S24x6x1024 .f32) (g : FVec Ideal S1024 .f32) (w : FVec Ideal S1024x672 .f32)
  (cqg : FVec Ideal S256 .f32) (wuq : FVec Ideal S256x1152 .f32) (qg : FVec Ideal S96 .f32) (ckvg : FVec Ideal S128 .f32)
  (wukv : FVec Ideal S128x1536 .f32) (kg : FVec Ideal S96 .f32) (cs sn : FVec Ideal S16x4352 .f32)

/-- The reference's queries. -/
def REFQ : FVec Ideal S16x12x4352x128 .bf16 := layQ (scaled (rot (normHeads (upQ (proj (rows x m g) w) cqg wuq) qg) cs sn))

/-- The reference's keys. -/
def REFK : FVec Ideal S16x12x128x4352 .bf16 := layK (rot (normHeads (joined (proj (rows x m g) w) (upK (proj (rows x m g) w) ckvg wukv)) kg) cs sn)

/-- The reference's values. -/
def REFV : FVec Ideal S16x768x4352 .bf16 := layV (upK (proj (rows x m g) w) ckvg wukv)

/-- The reference's columns for the Fourier mixing. -/
def REFZ : FVec Ideal S16x4352x256 .bf16 := layZ (proj (rows x m g) w)
end

section
variable (m : (ℓ : Loc nD τ sig) → Buf (Elt Ideal) ℓ) (c : Dev nD)

theorem proj_eq : res_main_v33 (launchContents m c) = proj (rows (m ((c : Thread nD τ).loc main_arg0)) (m ((c : Thread nD τ).loc main_arg1)) (m ((c : Thread nD τ).loc main_arg2))) (m ((c : Thread nD τ).loc main_arg3)) := by
  unfold res_main_v33 proj rows mod0 mod1
  rfl

/-- The queries' heads rotated, as the run leaves them. -/
def runQ : FVec Ideal S16x4352x12x96 .f32 := concatenate S16x4352x12x96 3 [⟨S16x4352x12x64, (extractStridedSlice S16x4352x12x64 ![0, 0, 0, 0] (res_main_v62 (launchContents m c)) slices_S16x4352x12x96_S16x4352x12x64_0_0_0_0)⟩, ⟨S16x4352x12x16, (subf (mulf (res_main_v63 (launchContents m c)) (broadcastInDim S16x4352x12x16 ![0, 1, 2, 3] bcast_S1x4352x1x16_S16x4352x12x16_0_1_2_3 (res_main_v66 (launchContents m c)))) (mulf (res_main_v64 (launchContents m c)) (broadcastInDim S16x4352x12x16 ![0, 1, 2, 3] bcast_S1x4352x1x16_S16x4352x12x16_0_1_2_3 (res_main_v68 (launchContents m c)))))⟩, ⟨S16x4352x12x16, (addf (mulf (res_main_v63 (launchContents m c)) (broadcastInDim S16x4352x12x16 ![0, 1, 2, 3] bcast_S1x4352x1x16_S16x4352x12x16_0_1_2_3 (res_main_v68 (launchContents m c)))) (mulf (res_main_v64 (launchContents m c)) (broadcastInDim S16x4352x12x16 ![0, 1, 2, 3] bcast_S1x4352x1x16_S16x4352x12x16_0_1_2_3 (res_main_v66 (launchContents m c)))))⟩] concatenates_S16x4352x12x64_S16x4352x12x16_S16x4352x12x16_S16x4352x12x96_d3

/-- The run's queries are `REFQ` of the arguments. -/
theorem resQ_eq : layQ (scaled (runQ m c)) = REFQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) := by
  unfold REFQ runQ
  rw [← proj_eq]
  unfold res_main_v63 res_main_v64 res_main_v66 res_main_v68 res_main_v62 res_main_v49 res_main_v34 rot normHeads upQ norm256 lo hi tab
  rfl

/-- The run's keys and values before the keys' norm. -/
theorem upK_eq : res_main_v98 (launchContents m c) = upK (res_main_v33 (launchContents m c)) (m ((c : Thread nD τ).loc main_arg7)) (m ((c : Thread nD τ).loc main_arg8)) := by
  unfold res_main_v98 res_main_v83 upK norm128
  rfl

/-- The keys' heads rotated, as the run leaves them. -/
def runK : FVec Ideal S16x4352x12x96 .f32 := concatenate S16x4352x12x96 3 [⟨S16x4352x12x64, (extractStridedSlice S16x4352x12x64 ![0, 0, 0, 0] (res_main_v116 (launchContents m c)) slices_S16x4352x12x96_S16x4352x12x64_0_0_0_0)⟩, ⟨S16x4352x12x16, (subf (mulf (res_main_v117 (launchContents m c)) (broadcastInDim S16x4352x12x16 ![0, 1, 2, 3] bcast_S1x4352x1x16_S16x4352x12x16_0_1_2_3 (res_main_v120 (launchContents m c)))) (mulf (res_main_v118 (launchContents m c)) (broadcastInDim S16x4352x12x16 ![0, 1, 2, 3] bcast_S1x4352x1x16_S16x4352x12x16_0_1_2_3 (res_main_v122 (launchContents m c)))))⟩, ⟨S16x4352x12x16, (addf (mulf (res_main_v117 (launchContents m c)) (broadcastInDim S16x4352x12x16 ![0, 1, 2, 3] bcast_S1x4352x1x16_S16x4352x12x16_0_1_2_3 (res_main_v122 (launchContents m c)))) (mulf (res_main_v118 (launchContents m c)) (broadcastInDim S16x4352x12x16 ![0, 1, 2, 3] bcast_S1x4352x1x16_S16x4352x12x16_0_1_2_3 (res_main_v120 (launchContents m c)))))⟩] concatenates_S16x4352x12x64_S16x4352x12x16_S16x4352x12x16_S16x4352x12x96_d3

/-- The run's keys are `REFK` of the arguments. -/
theorem resK_eq : layK (runK m c) = REFK (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) := by
  unfold REFK runK
  rw [← proj_eq, ← upK_eq]
  unfold res_main_v117 res_main_v118 res_main_v120 res_main_v122 res_main_v116 res_main_v103 rot normHeads joined lo hi tab
  rfl

/-- The run's values are `REFV` of the arguments. -/
theorem resV_eq : layV (res_main_v98 (launchContents m c)) = REFV (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  unfold REFV
  rw [← proj_eq, ← upK_eq]

/-- The run's columns for the Fourier mixing are `REFZ` of the arguments. -/
theorem resZ_eq : layZ (res_main_v33 (launchContents m c)) = REFZ (m ((c : Thread nD τ).loc main_arg0)) (m ((c : Thread nD τ).loc main_arg1)) (m ((c : Thread nD τ).loc main_arg2)) (m ((c : Thread nD τ).loc main_arg3)) := by
  unfold REFZ
  rw [← proj_eq]
end

open Cert.Layer (modRow normed invRms oddRow rowNorm lanes headLanes latentAt upQueryAt upKeyAt queryHead keyColumns keyHead evenQueryLane evenKeyLane evenValueAt mixAt)

section
variable (x : FVec Ideal S16x4352x1024 .f32) (m : FVec Ideal S24x6x1024 .f32) (g : FVec Ideal S1024 .f32) (w : FVec Ideal S1024x672 .f32)
  (cqg : FVec Ideal S256 .f32) (wuq : FVec Ideal S256x1152 .f32) (qg : FVec Ideal S96 .f32) (ckvg : FVec Ideal S128 .f32)
  (wukv : FVec Ideal S128x1536 .f32) (kg γ : FVec Ideal S96 .f32) (cs sn : FVec Ideal S16x4352 .f32) (b : Fin 16) (i : Fin 4352)

/-- The shift of a token. -/
theorem mod0_at (d : Fin 1024) : mod0 m (ix3 b i d) = m (ix3 (modRow b i) 0 d) := by
  unfold modRow
  by_cases h : i.val < 4096
  · rw [if_pos h]
    pointwise [mod0]
    rw [dif_pos h]
  · rw [if_neg h]
    pointwise [mod0]
    rw [dif_neg h]

/-- The scale of a token. -/
theorem mod1_at (d : Fin 1024) : mod1 m (ix3 b i d) = m (ix3 (modRow b i) 1 d) := by
  unfold modRow
  by_cases h : i.val < 4096
  · rw [if_pos h]
    pointwise [mod1]
    rw [dif_pos h]
  · rw [if_neg h]
    pointwise [mod1]
    rw [dif_neg h]

/-- The modulated rows, entry by entry. -/
theorem rows_at (d : Fin 1024) : rows x m g (ix3 b i d) = oddRow x m g b i d := by
  unfold oddRow normed invRms
  pointwise [rows]
  rw [mod0_at, mod1_at]

/-- The projection, entry by entry. -/
theorem proj_at (f : Fin 672) : proj (rows x m g) w (ix3 b i f) = latentAt x m g w b i f := by
  unfold latentAt
  simp only [← rows_at]
  pointwise [proj]

/-- The 256 columns normed. -/
theorem norm256_at (P : FVec Ideal S16x4352x256 .f32) (e : Fin 256) :
    norm256 P cqg (ix3 b i e) = rowNorm (Ideal.ofBits .f32 0x43800000#32) (fun k => P (ix3 b i k)) (fun k => cqg (ix1 k)) e := by
  unfold rowNorm
  pointwise [norm256]

/-- The 128 columns normed. -/
theorem norm128_at (P : FVec Ideal S16x4352x128 .f32) (e : Fin 128) :
    norm128 P ckvg (ix3 b i e) = rowNorm (Ideal.ofBits .f32 0x43000000#32) (fun k => P (ix3 b i k)) (fun k => ckvg (ix1 k)) e := by
  unfold rowNorm
  pointwise [norm128]

/-- The queries before their norm. -/
theorem upQ_at (h : Fin 12) (e : Fin 96) :
    upQ (proj (rows x m g) w) cqg wuq (ix4 b i h e) = upQueryAt x m g w cqg wuq b i ⟨96 * h.val + e.val, by omega⟩ := by
  have hn : ∀ k : Fin 256, rowNorm (Ideal.ofBits .f32 0x43800000#32) (fun k : Fin 256 => latentAt x m g w b i ⟨k.val, by omega⟩) (fun k => cqg (ix1 k)) k
      = norm256 (extractStridedSlice S16x4352x256 ![0, 0, 0] (proj (rows x m g) w) slices_S16x4352x672_S16x4352x256_0_0_0) cqg (ix3 b i k) := by
    intro k
    rw [norm256_at]
    refine congrArg (fun p => rowNorm _ p _ k) (funext fun k => ?_)
    rw [← proj_at]
    pointwise
  unfold upQueryAt
  simp only [hn]
  pointwise [upQ]
  exact Finset.sum_congr rfl fun k _ => congrArg (fun r => _ * wuq (ix2 k r)) (Fin.ext (by show h.val * 96 + e.val = 96 * h.val + e.val; omega))

/-- The keys and values before the keys' norm. -/
theorem upK_at (h : Fin 12) (e : Fin 128) :
    upK (proj (rows x m g) w) ckvg wukv (ix4 b i h e) = upKeyAt x m g w ckvg wukv b i ⟨128 * h.val + e.val, by omega⟩ := by
  have hn : ∀ k : Fin 128, rowNorm (Ideal.ofBits .f32 0x43000000#32) (fun k : Fin 128 => latentAt x m g w b i ⟨256 + k.val, by omega⟩) (fun k => ckvg (ix1 k)) k
      = norm128 (extractStridedSlice S16x4352x128 ![0, 0, 256] (proj (rows x m g) w) slices_S16x4352x672_S16x4352x128_0_0_256) ckvg (ix3 b i k) := by
    intro k
    rw [norm128_at]
    refine congrArg (fun p => rowNorm _ p _ k) (funext fun k => ?_)
    rw [← proj_at]
    pointwise
  unfold upKeyAt
  simp only [hn]
  pointwise [upK]
  exact Finset.sum_congr rfl fun k _ => congrArg (fun r => _ * wukv (ix2 k r)) (Fin.ext (by show h.val * 128 + e.val = 128 * h.val + e.val; omega))

/-- The keys before their norm. -/
theorem joined_at (Y : FVec Ideal S16x4352x672 .f32) (K : FVec Ideal S16x4352x12x128 .f32) (h : Fin 12) (e : Fin 96) :
    joined Y K (ix4 b i h e) = if a : e.val < 64 then K (ix4 b i h ⟨e.val, by omega⟩) else Y (ix3 b i ⟨384 + (e.val - 64), by omega⟩) := by
  pointwise [joined]

/-- Heads normed. -/
theorem normHeads_at (P : FVec Ideal S16x4352x12x96 .f32) (h : Fin 12) (e : Fin 96) :
    normHeads P γ (ix4 b i h e) = rowNorm (Ideal.ofBits .f32 0x42C00000#32) (fun k => P (ix4 b i h k)) (fun k => γ (ix1 k)) e := by
  unfold rowNorm
  pointwise [normHeads]

/-- A head's 96 entries with its last 32 turned. -/
def turn (p : Fin 96 → EReal) (C S : Fin 16 → EReal) (e : Fin 96) : EReal :=
  if a : e.val < 64 then p ⟨e.val, by omega⟩
  else if a : e.val - 64 < 16 then p ⟨64 + (e.val - 64), by omega⟩ * C ⟨e.val - 64, a⟩ - p ⟨80 + (e.val - 64), by omega⟩ * S ⟨e.val - 64, a⟩
  else p ⟨64 + (e.val - 64 - 16), by omega⟩ * S ⟨e.val - 64 - 16, by omega⟩ + p ⟨80 + (e.val - 64 - 16), by omega⟩ * C ⟨e.val - 64 - 16, by omega⟩

/-- In 128 lanes, a turned head is `headLanes`. -/
theorem turn_lanes (p : Fin 96 → EReal) (C S : Fin 16 → EReal) (l : Fin 128) :
    (if a : l.val < 96 then turn p C S ⟨l.val, a⟩ else 0) = headLanes p C S l := by
  unfold turn headLanes lanes
  by_cases h1 : l.val < 64
  · rw [dif_pos (by omega), dif_pos h1, dif_pos h1]
  by_cases h2 : l.val - 64 < 16
  · rw [dif_pos (by omega), dif_neg h1, dif_pos h2, dif_neg h1, dif_pos h2]
  by_cases h3 : l.val - 64 - 16 < 16
  · rw [dif_pos (by omega), dif_neg h1, dif_neg h2, dif_neg h1, dif_neg h2, dif_pos h3]
  · rw [dif_neg (by omega), dif_neg h1, dif_neg h2, dif_neg h3]

/-- Heads rotated. -/
theorem rot_at (N : FVec Ideal S16x4352x12x96 .f32) (h : Fin 12) (e : Fin 96) :
    rot N cs sn (ix4 b i h e) = turn (fun k => N (ix4 b i h k)) (fun k => cs (ix2 k i)) (fun k => sn (ix2 k i)) e := by
  unfold turn
  pointwise [rot, lo, hi, tab]

/-- Heads scaled. -/
theorem scaled_at (N : FVec Ideal S16x4352x12x96 .f32) (h : Fin 12) (e : Fin 96) :
    scaled N (ix4 b i h e) = N (ix4 b i h e) * Ideal.ofBits .f32 0x3DD105EC#32 := by
  pointwise [scaled]

/-- The zero an integer zero converts to. -/
theorem zero_of_int : (FloatOps.sitofp (F := Ideal) FTy.f32 (0#32 : BitVec 32) : EReal) = 0 := by
  show ((((0#32 : BitVec 32).toInt : ℝ)) : EReal) = 0
  norm_num

/-- Heads in 128 lanes. -/
theorem padded_at (N : FVec Ideal S16x4352x12x96 .f32) (h : Fin 12) (l : Fin 128) :
    padded N (ix4 b i h l) = if a : l.val < 96 then N (ix4 b i h ⟨l.val, a⟩) else 0 := by
  rw [← zero_of_int]
  pointwise [padded]

/-- The queries as they lie. -/
theorem layQ_at (N : FVec Ideal S16x4352x12x96 .f32) (h : Fin 12) (l : Fin 128) : layQ N (ix4 b h i l) = padded N (ix4 b i h l) := by
  pointwise [layQ]

/-- The keys as they lie. -/
theorem layK_at (N : FVec Ideal S16x4352x12x96 .f32) (h : Fin 12) (l : Fin 128) : layK N (ix4 b h l i) = padded N (ix4 b i h l) := by
  pointwise [layK]

/-- The values as they lie. -/
theorem layV_at (K : FVec Ideal S16x4352x12x128 .f32) (f : Fin 768) :
    layV K (ix3 b f i) = K (ix4 b i (⟨f.val / 64, by omega⟩ : Fin 12) (⟨64 + f.val % 64, by omega⟩ : Fin 128)) := by
  pointwise [layV]

/-- The columns for the Fourier mixing. -/
theorem layZ_at (Y : FVec Ideal S16x4352x672 .f32) (f : Fin 256) : layZ Y (ix3 b i f) = Y (ix3 b i ⟨416 + f.val, by omega⟩) := by
  pointwise [layZ]

/-- The reference's queries, entry by entry. -/
theorem REFQ_at (h : Fin 12) (l : Fin 128) : REFQ x m g w cqg wuq qg cs sn (ix4 b h i l) = evenQueryLane x m g w cqg wuq qg cs sn b i h l := by
  unfold REFQ evenQueryLane queryHead
  rw [layQ_at, padded_at, ← turn_lanes]
  simp only [scaled_at, rot_at, normHeads_at, upQ_at]
  by_cases a : l.val < 96
  · rw [dif_pos a, dif_pos a]
  · rw [dif_neg a, dif_neg a, zero_mul]

/-- The reference's keys, entry by entry. -/
theorem REFK_at (h : Fin 12) (l : Fin 128) : REFK x m g w ckvg wukv kg cs sn (ix4 b h l i) = evenKeyLane x m g w ckvg wukv kg cs sn b i h l := by
  have hk : ∀ k, joined (proj (rows x m g) w) (upK (proj (rows x m g) w) ckvg wukv) (ix4 b i h k) = keyColumns x m g w ckvg wukv b i h k := by
    intro k
    unfold keyColumns
    rw [joined_at]
    simp only [upK_at, proj_at]
  unfold REFK evenKeyLane keyHead
  rw [layK_at, padded_at, ← turn_lanes]
  simp only [rot_at, normHeads_at, hk]

/-- The reference's values, entry by entry. -/
theorem REFV_at (f : Fin 768) : REFV x m g w ckvg wukv (ix3 b f i) = evenValueAt x m g w ckvg wukv b i f := by
  unfold REFV evenValueAt
  rw [layV_at, upK_at]

/-- The reference's columns for the Fourier mixing, entry by entry. -/
theorem REFZ_at (f : Fin 256) : REFZ x m g w (ix3 b i f) = mixAt x m g w b i f := by
  unfold REFZ mixAt
  rw [layZ_at, proj_at]
end

end Cert.EvenRefIdeal.Value

end
-- ==== Proof.EvenClaims.lean ====
module

public import proofs.«01_k».proof.Defs
public import proofs.«01_k».proof.Proof.Gen.Even.Frame
public import proofs.«01_k».proof.Proof.EvenArray
public import proofs.«01_k».proof.Proof.EvenRefRead
public import Idealize.ShloMosaic.Lib.Claim

@[expose] public section

/-! The claims about the even layers' input projection, each read off a run of its program. -/

set_option maxRecDepth 16384
noncomputable section
open Idealize.ShloMosaic Idealize.ShloMosaic.TcCoe Idealize.SL.Sem
namespace Cert.EvenInput

instance : Cert.Even.Facts := Cert.Even.Gen.facts
instance : Cert.EvenIdeal.Facts := Cert.EvenIdeal.Gen.facts
instance : Cert.EvenRefIdeal.Facts := Cert.EvenRefIdeal.Gen.facts

/-- The named constant is exactly 1/96 over the extended reals, and the printed number everywhere else. -/
theorem preserves : Cert.preserves_Even_EvenIdeal :=
  IdealRules.named_const.statement Cert.EvenIdeal.κ "one_96th" .f32 0x3C2AAAAB#32 ((1 / 96 : ℝ) : EReal) rfl

section
variable (x : FVec Ideal Cert.EvenIdeal.S16x4352x1024 .f32) (mo : FVec Ideal Cert.EvenIdeal.S24x6x1024 .f32)
    (g : FVec Ideal Cert.EvenIdeal.S1024 .f32) (w : FVec Ideal Cert.EvenIdeal.S1024x672 .f32) (cqg : FVec Ideal Cert.EvenIdeal.S256 .f32) (wuq : FVec Ideal Cert.EvenIdeal.S256x1152 .f32)
    (qg : FVec Ideal Cert.EvenIdeal.S96 .f32) (ckvg : FVec Ideal Cert.EvenIdeal.S128 .f32) (wukv : FVec Ideal Cert.EvenIdeal.S128x1536 .f32) (kg : FVec Ideal Cert.EvenIdeal.S96 .f32)
    (cs sn : FVec Ideal Cert.EvenIdeal.S16x4352 .f32)

/-- From the same arguments, the queries the kernel leaves are those the reference computes. -/
theorem queries_eq : Cert.EvenIdeal.Value.OUTQ x mo g w cqg wuq qg cs sn = Cert.EvenRefIdeal.Value.REFQ x mo g w cqg wuq qg cs sn := by
  funext j
  obtain ⟨b, h, i, l, rfl⟩ : ∃ b h i l, j = ix4 b h i l := ⟨_, _, _, _, eq_ix4 j⟩
  exact (Cert.EvenRefIdeal.Value.REFQ_at x mo g w cqg wuq qg cs sn b i h l).symm

/-- So are the keys. -/
theorem keys_eq : Cert.EvenIdeal.Value.OUTK x mo g w ckvg wukv kg cs sn = Cert.EvenRefIdeal.Value.REFK x mo g w ckvg wukv kg cs sn := by
  funext j
  obtain ⟨b, h, l, i, rfl⟩ : ∃ b h l i, j = ix4 b h l i := ⟨_, _, _, _, eq_ix4 j⟩
  exact (Cert.EvenRefIdeal.Value.REFK_at x mo g w ckvg wukv kg cs sn b i h l).symm

/-- So are the values. -/
theorem values_eq : Cert.EvenIdeal.Value.OUTV x mo g w ckvg wukv = Cert.EvenRefIdeal.Value.REFV x mo g w ckvg wukv := by
  funext j
  obtain ⟨b, f, i, rfl⟩ : ∃ b f i, j = ix3 b f i := ⟨_, _, _, eq_ix3 j⟩
  exact (Cert.EvenRefIdeal.Value.REFV_at x mo g w ckvg wukv b i f).symm

/-- So are the columns for the Fourier mixing. -/
theorem mixed_eq : Cert.EvenIdeal.Value.OUTZ x mo g w = Cert.EvenRefIdeal.Value.REFZ x mo g w := by
  funext j
  obtain ⟨b, i, f, rfl⟩ : ∃ b i f, j = ix3 b i f := ⟨_, _, _, eq_ix3 j⟩
  exact (Cert.EvenRefIdeal.Value.REFZ_at x mo g w b i f).symm

end

/-- Kernel and reference, from equal arguments, end with equal results. -/
theorem algebraic : Cert.algebraic_EvenIdeal_EvenRefIdeal := by
  pair_intro
  · run_from Cert.EvenIdeal.Value.run_blocks m g
  · run_from Cert.EvenRefIdeal.Value.run m' g'
    all_goals obtain ⟨h0, h1, h2, h3, h4, h5, h6, h7, h8, h9, h10, h11⟩ := hagree c
    · refine (Cert.EvenRefIdeal.Value.resQ_eq m' c).trans ?_
      refine Eq.trans ?_ (Cert.EvenIdeal.Value.final12 m c).symm
      refine Eq.trans ?_ (queries_eq _ _ _ _ _ _ _ _ _).symm
      rw [h0, h1, h2, h3, h4, h5, h6, h10, h11]
    · refine (Cert.EvenRefIdeal.Value.resK_eq m' c).trans ?_
      refine Eq.trans ?_ (Cert.EvenIdeal.Value.final13 m c).symm
      refine Eq.trans ?_ (keys_eq _ _ _ _ _ _ _ _ _).symm
      rw [h0, h1, h2, h3, h7, h8, h9, h10, h11]
    · refine (Cert.EvenRefIdeal.Value.resV_eq m' c).trans ?_
      refine Eq.trans ?_ (Cert.EvenIdeal.Value.final14 m c).symm
      refine Eq.trans ?_ (values_eq _ _ _ _ _ _).symm
      rw [h0, h1, h2, h3, h7, h8]
    · refine (Cert.EvenRefIdeal.Value.resZ_eq m' c).trans ?_
      refine Eq.trans ?_ (Cert.EvenIdeal.Value.final15 m c).symm
      refine Eq.trans ?_ (mixed_eq _ _ _ _).symm
      rw [h0, h1, h2, h3]

/-- The kernel terminates and leaves its arguments and its counters as they were. -/
theorem frame : Cert.quiescent_Even := fun m g _ => Cert.Even.Gen.frame m g

/-- So does the kernel over the extended reals. -/
theorem frameIdeal : Cert.quiescent_EvenIdeal := fun m g _ => Cert.EvenIdeal.Gen.frame m g

/-- So does the reference. -/
theorem frameRef : Cert.quiescent_EvenRefIdeal := fun m g _ =>
  (θ_run Cert.EvenRefIdeal.defs _ _).mono
    (fun r h => ⟨fun c => (h c).2.2.2.2, sem_eq_zero_of_no_sems (by decide) r.2⟩) (Cert.EvenRefIdeal.Value.run m g)

end Cert.EvenInput
end
-- ==== Proof.lean ====
/- The certificate: every claim about the printed programs, proved. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_q_k
public import proofs.«01_k».proof.Proof.Gen.FfnIdeal.Value
public import proofs.«01_k».proof.Proof.Gen.FfnRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.OutRefIdeal
public import proofs.«01_k».proof.Proof.Gen.FfnRefIdeal
public import proofs.«01_k».proof.Proof.Gen.OutIdeal.Value
public import proofs.«01_k».proof.Proof.Gen.OutRefIdeal.Run
public import proofs.«01_k».proof.Proof.Gen.AttnIdeal.Value
public import proofs.«01_k».proof.Proof.Gen.AttnRefIdeal.Run
public import proofs.«01_k».proof.Proof.Gen.Odd
public import proofs.«01_k».proof.Proof.Gen.Odd.Skeleton
public import proofs.«01_k».proof.Proof.Gen.Odd.Launch
public import proofs.«01_k».proof.Proof.Gen.Odd.Points
public import proofs.«01_k».proof.Proof.Gen.Odd.Frame
public import proofs.«01_k».proof.Proof.Gen.OddIdeal
public import proofs.«01_k».proof.Proof.Gen.OddIdeal.Skeleton
public import proofs.«01_k».proof.Proof.Gen.OddIdeal.Launch
public import proofs.«01_k».proof.Proof.Gen.OddIdeal.Points
public import proofs.«01_k».proof.Proof.Gen.OddIdeal.Frame
public import proofs.«01_k».proof.Proof.Gen.OddRefIdeal
public import proofs.«01_k».proof.Proof.Gen.OddIdeal.Value
public import proofs.«01_k».proof.Proof.Gen.OddRefIdeal.Run
public import proofs.«01_k».proof.Proof.Gen.Even
public import proofs.«01_k».proof.Proof.Gen.Even.Skeleton
public import proofs.«01_k».proof.Proof.Gen.Even.Launch
public import proofs.«01_k».proof.Proof.Gen.Even.Points
public import proofs.«01_k».proof.Proof.Gen.Even.Frame
public import proofs.«01_k».proof.Proof.Gen.EvenIdeal
public import proofs.«01_k».proof.Proof.Gen.EvenIdeal.Skeleton
public import proofs.«01_k».proof.Proof.Gen.EvenIdeal.Launch
public import proofs.«01_k».proof.Proof.Gen.EvenIdeal.Points
public import proofs.«01_k».proof.Proof.Gen.EvenIdeal.Frame
public import proofs.«01_k».proof.Proof.Gen.EvenRefIdeal
public import proofs.«01_k».proof.Proof.Gen.EvenIdeal.Value
public import proofs.«01_k».proof.Proof.Gen.EvenRefIdeal.Run
public import proofs.«01_k».proof.Proof.AttnClaims
public import proofs.«01_k».proof.Proof.OutClaims
public import proofs.«01_k».proof.Proof.FfnClaims
public import proofs.«01_k».proof.Proof.OddClaims
public import proofs.«01_k».proof.Proof.EvenClaims
public import Idealize.ShloMosaic.Adequacy
public import Idealize.ShloMosaic.Init

@[expose] public section

noncomputable section

namespace Cert.Proof

open Idealize.ShloMosaic Idealize.SL.Sem Cert.Attn

/-- Everything this certificate claims. -/
theorem claim : Cert.Claim := ⟨Cert.Attn.Gen.facts, Cert.AttnIdeal.Gen.facts, Cert.AttnRefIdeal.Gen.facts, Cert.Out.Gen.facts, Cert.OutIdeal.Gen.facts, Cert.OutRefIdeal.Gen.facts, Cert.Ffn.Gen.facts, Cert.FfnIdeal.Gen.facts, Cert.FfnRefIdeal.Gen.facts, Cert.Odd.Gen.facts, Cert.OddIdeal.Gen.facts, Cert.OddRefIdeal.Gen.facts, Cert.Even.Gen.facts, Cert.EvenIdeal.Gen.facts, Cert.EvenRefIdeal.Gen.facts, Cert.Pre_finite_q_k.Gen.facts,
  Cert.Attention.frame, Cert.Attention.frameIdeal, Cert.Attention.frameIdealFinite, Cert.Attention.frameRef, Cert.Attention.frameRefFinite,
  Cert.Projection.frame, Cert.Projection.frameIdeal, Cert.Projection.frameRef,
  Cert.FeedForward.frame, Cert.FeedForward.frameIdeal, Cert.FeedForward.frameRef,
  Cert.OddInput.frame, Cert.OddInput.frameIdeal, Cert.OddInput.frameRef,
  Cert.EvenInput.frame, Cert.EvenInput.frameIdeal, Cert.EvenInput.frameRef,
  trivial, Cert.Attention.algebraic, trivial, Cert.Projection.algebraic, trivial, Cert.FeedForward.algebraic, trivial, Cert.OddInput.algebraic,
  Cert.EvenInput.preserves, Cert.EvenInput.algebraic⟩

end Cert.Proof

end
